-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v14_4)) (v4 : (c : Dev Cert.KernelIdeal.nD) → Buf (Elt Ideal) ((c.tc : Thread Cert.KernelIdeal.nD Cert.KernelIdeal.τ).loc Cert.KernelIdeal.main_v14_5)) (v5 : (c : Dev Cert.KernelIdeal.nD) → Buf (Elt Ideal) ((c.tc : Thread Cert.KernelIdeal.nD Cert.KernelIdeal.τ).loc Cert.KernelIdeal.main_v14_3)) (v6 : (c : Dev Cert.KernelIdeal.nD) → Buf (Elt Ideal) ((c.tc : Thread Cert.KernelIdeal.nD Cert.KernelIdeal.τ).loc Cert.KernelIdeal.main_v17)) (v7 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v14_4) = v3 c
          ∧ r.2.mem ((c.tc : Thread Cert.KernelIdeal.nD Cert.KernelIdeal.τ).loc Cert.KernelIdeal.main_v14_5) = v4 c
          ∧ r.2.mem ((c.tc : Thread Cert.KernelIdeal.nD Cert.KernelIdeal.τ).loc Cert.KernelIdeal.main_v14_3) = v5 c
          ∧ r.2.mem ((c.tc : Thread Cert.KernelIdeal.nD Cert.KernelIdeal.τ).loc Cert.KernelIdeal.main_v17) = v6 c
          ∧ r.2.mem ((c.tc : Thread Cert.KernelIdeal.nD Cert.KernelIdeal.τ).loc Cert.KernelIdeal.main_v18) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v117) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_v108) = v4 c
          ∧ r.2.mem ((c.tc : Thread Cert.ReferenceIdeal.nD Cert.ReferenceIdeal.τ).loc Cert.ReferenceIdeal.main_v79) = v5 c
          ∧ r.2.mem ((c.tc : Thread Cert.ReferenceIdeal.nD Cert.ReferenceIdeal.τ).loc Cert.ReferenceIdeal.main_v34) = v6 c
          ∧ r.2.mem ((c.tc : Thread Cert.ReferenceIdeal.nD Cert.ReferenceIdeal.τ).loc Cert.ReferenceIdeal.main_v26) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S1024x128 : Shape := ⟨2, ![1024, 128]⟩
abbrev S1024x64 : Shape := ⟨2, ![1024, 64]⟩
abbrev S16384x64 : Shape := ⟨2, ![16384, 64]⟩
abbrev S16384x1024 : Shape := ⟨2, ![16384, 1024]⟩
abbrev S1 : Shape := ⟨1, ![1]⟩
abbrev S192x256 : Shape := ⟨2, ![192, 256]⟩
abbrev S64x256 : Shape := ⟨2, ![64, 256]⟩
abbrev S256 : Shape := ⟨1, ![256]⟩
abbrev S1x256 : Shape := ⟨2, ![1, 256]⟩
abbrev S8x256 : Shape := ⟨2, ![8, 256]⟩
abbrev S_ : Shape := ⟨0, ![]⟩
abbrev S1x1 : Shape := ⟨2, ![1, 1]⟩
abbrev S8x128 : Shape := ⟨2, ![8, 128]⟩
abbrev S64x16384 : Shape := ⟨2, ![64, 16384]⟩
abbrev S64x1024 : Shape := ⟨2, ![64, 1024]⟩
abbrev S64x512 : Shape := ⟨2, ![64, 512]⟩
abbrev S512x1024 : Shape := ⟨2, ![512, 1024]⟩
abbrev S32x64x512 : Shape := ⟨3, ![32, 64, 512]⟩
abbrev S32x1024 : Shape := ⟨2, ![32, 1024]⟩
abbrev S1x1024 : Shape := ⟨2, ![1, 1024]⟩
abbrev S128x256 : Shape := ⟨2, ![128, 256]⟩
abbrev S1024x256 : Shape := ⟨2, ![1024, 256]⟩
abbrev S64x64 : Shape := ⟨2, ![64, 64]⟩
abbrev S1024 : Shape := ⟨1, ![1024]⟩
abbrev S1024x1 : Shape := ⟨2, ![1024, 1]⟩
abbrev S512 : Shape := ⟨1, ![512]⟩
abbrev S1x512 : Shape := ⟨2, ![1, 512]⟩
abbrev S512x1 : Shape := ⟨2, ![512, 1]⟩
abbrev S1x64x512 : Shape := ⟨3, ![1, 64, 512]⟩
abbrev S1x1x1024 : Shape := ⟨3, ![1, 1, 1024]⟩
abbrev S1x1x1 : Shape := ⟨3, ![1, 1, 1]⟩
abbrev S1x32x1024 : Shape := ⟨3, ![1, 32, 1024]⟩
abbrev S1x512x1024 : Shape := ⟨3, ![1, 512, 1024]⟩

abbrev nBuf : Space → Nat
  | .hbm => 39
  | .vmem => 34
  | .smem => 1
  | _ => 0

abbrev bufTy : (tb : Table) → Fin (tcTables nBuf tb) → BufTy
  | .hbm, ⟨0, _⟩ => ⟨S1024x128, .f32⟩
  | .hbm, ⟨1, _⟩ => ⟨S1024x64, .f32⟩
  | .hbm, ⟨2, _⟩ => ⟨S16384x64, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1024x64, .f32⟩
  | .hbm, ⟨7, _⟩ => ⟨S1024x64, .f32⟩
  | .hbm, ⟨8, _⟩ => ⟨S1, .f32⟩
  | .hbm, ⟨9, _⟩ => ⟨S192x256, .f32⟩
  | .hbm, ⟨10, _⟩ => ⟨S64x256, .f32⟩
  | .hbm, ⟨11, _⟩ => ⟨S256, .f32⟩
  | .hbm, ⟨12, _⟩ => ⟨S1x256, .f32⟩
  | .hbm, ⟨13, _⟩ => ⟨S8x256, .f32⟩
  | .hbm, ⟨14, _⟩ => ⟨S1, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S1x1, .f32⟩
  | .hbm, ⟨23, _⟩ => ⟨S8x128, .f32⟩
  | .hbm, ⟨24, _⟩ => ⟨S64x16384, .f32⟩
  | .hbm, ⟨25, _⟩ => ⟨S64x1024, .f32⟩
  | .hbm, ⟨26, _⟩ => ⟨S64x1024, .f32⟩
  | .hbm, ⟨27, _⟩ => ⟨S64x1024, .f32⟩
  | .hbm, ⟨28, _⟩ => ⟨S64x1024, .f32⟩
  | .hbm, ⟨29, _⟩ => ⟨S64x1024, .f32⟩
  | .hbm, ⟨30, _⟩ => ⟨S64x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S64x16384, .f32⟩
  | .hbm, ⟨35, _⟩ => ⟨S1024x64, .f32⟩
  | .hbm, ⟨36, _⟩ => ⟨S16384x64, .f32⟩
  | .hbm, ⟨37, _⟩ => ⟨S1024x64, .f32⟩
  | .hbm, ⟨38, _⟩ => ⟨S1024x64, .f32⟩
  | .local _ .vmem, ⟨0, _⟩ => ⟨S1024x128, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S192x256, .f32⟩
  | .local _ .vmem, ⟨5, _⟩ => ⟨S64x256, .f32⟩
  | .local _ .vmem, ⟨6, _⟩ => ⟨S8x256, .f32⟩
  | .local _ .vmem, ⟨7, _⟩ => ⟨S8x128, .f32⟩
  | .local _ .vmem, ⟨8, _⟩ => ⟨S64x512, .f32⟩
  | .local _ .vmem, ⟨9, _⟩ => ⟨S64x512, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S64x512, .f32⟩
  | .local _ .vmem, ⟨26, _⟩ => ⟨S64x512, .f32⟩
  | .local _ .vmem, ⟨27, _⟩ => ⟨S1024x64, .f32⟩
  | .local _ .vmem, ⟨28, _⟩ => ⟨S1024x64, .f32⟩
  | .local _ .vmem, ⟨29, _⟩ => ⟨S32x64x512, .f32⟩
  | .local _ .vmem, ⟨30, _⟩ => ⟨S32x64x512, .f32⟩
  | .local _ .vmem, ⟨31, _⟩ => ⟨S16384x1024, .i8⟩
  | .local _ .vmem, ⟨32, _⟩ => ⟨S32x1024, .f32⟩
  | .local _ .vmem, ⟨33, _⟩ => ⟨S1x1024, .f32⟩
  | .local _ .smem, ⟨0, _⟩ => ⟨S1, .i32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v14_3 : Ref sig .tc := ⟨.hbm, 31, rfl⟩
abbrev main_v14_4 : Ref sig .tc := ⟨.hbm, 32, rfl⟩
abbrev main_v14_5 : Ref sig .tc := ⟨.hbm, 33, rfl⟩
abbrev main_v14_6 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v45 : Index := Scalar.indexCast arg0
  let c0_27 : Index := 0#32
  let c0_28 : Index := 0#32
  ![v45.toNat, 0, 0]
def k0_off2 (i : grid0.Coords) : Fin 2 → Nat :=
  let arg0 : BitVec 32 := BitVec.ofNat 32 (i 0).val
  let c512_i32 : BitVec 32 := 512#32
  let v59 : BitVec 32 := Scalar.muli arg0 c512_i32
  let v60 : Index := Scalar.indexCast v59
  let c0_33 : Index := 0#32
  ![v60.toNat, 0]
def k0_off3 (i : grid0.Coords) : Fin 2 → Nat :=
  let arg0 : BitVec 32 := BitVec.ofNat 32 (i 0).val
  let v64 : Index := Scalar.indexCast arg0
  let c0_34 : Index := 0#32
  ![v64.toNat, 0]
def k0_cond5 (i : grid0.Coords) : BitVec 1 :=
  let arg0 : BitVec 32 := BitVec.ofNat 32 (i 0).val
  let c32_i32_2 : BitVec 32 := 32#32
  let v6 : BitVec 1 := Scalar.cmpi .sge arg0 c32_i32_2
  let v7 : BitVec 32 := Scalar.extui v6
  let c0_i32_3 : BitVec 32 := 0#32
  let v8 : BitVec 1 := Scalar.cmpi .ne v7 c0_i32_3
  v8

def k0_cond6 (i : grid0.Coords) : BitVec 1 :=
  let arg0 : BitVec 32 := BitVec.ofNat 32 (i 0).val
  let c32_i32_5 : BitVec 32 := 32#32
  let v10 : BitVec 1 := Scalar.cmpi .eq arg0 c32_i32_5
  let v11 : BitVec 32 := Scalar.extui v10
  let c0_i32_6 : BitVec 32 := 0#32
  let v12 : BitVec 1 := Scalar.cmpi .ne v11 c0_i32_6
  v12

def k0_off4 (v84 : BitVec 32) : Fin 2 → Nat :=
  let c512_i32_29 : BitVec 32 := 512#32
  let v85 : BitVec 32 := Scalar.muli v84 c512_i32_29
  let v86 : Index := Scalar.indexCast v85
  let c0_30 : Index := 0#32
  ![v86.toNat, 0]

def k0_chk1 (i : grid0.Coords) (v84 : BitVec 32) : Prop :=
  (∀ (k0_h5 : k0_cond5 i = 1#1), ∀ (k0_h6 : k0_cond6 i = 1#1), ∀ a, (k0_off4 v84) a + S512x1024.size a ≤ S16384x1024.size a)
theorem k0_off4_inb : ∀ (i : grid0.Coords) (v84 : BitVec 32) (k0_hw1 : k0_chk1 i v84), ∀ (k0_h5 : k0_cond5 i = 1#1), ∀ (k0_h6 : k0_cond6 i = 1#1), ∀ a, (k0_off4 v84) a + S512x1024.size a ≤ S16384x1024.size a := fun i v84 k0_hw1 k0_h5 k0_h6 => k0_hw1 k0_h5 k0_h6

def k0_off5 (i : grid0.Coords) : Fin 2 → Nat :=
  let arg0 : BitVec 32 := BitVec.ofNat 32 (i 0).val
  let c32_i32_4 : BitVec 32 := 32#32
  let v9 : BitVec 32 := Scalar.subi arg0 c32_i32_4
  let c512_i32 : BitVec 32 := 512#32
  let v13 : BitVec 32 := Scalar.muli v9 c512_i32
  let v14 : Index := Scalar.indexCast v13
  let c0 : Index := 0#32
  ![v14.toNat, 0]
def k0_off6 (i : grid0.Coords) : Fin 2 → Nat :=
  let arg0 : BitVec 32 := BitVec.ofNat 32 (i 0).val
  let c32_i32_4 : BitVec 32 := 32#32
  let v9 : BitVec 32 := Scalar.subi arg0 c32_i32_4
  let v17 : Index := Scalar.indexCast v9
  let c0_7 : Index := 0#32
  ![v17.toNat, 0]
def k0_off7 (i : grid0.Coords) : Fin 3 → Nat :=
  let arg0 : BitVec 32 := BitVec.ofNat 32 (i 0).val
  let c32_i32_4 : BitVec 32 := 32#32
  let v9 : BitVec 32 := Scalar.subi arg0 c32_i32_4
  let v35 : Index := Scalar.indexCast v9
  let c0_14 : Index := 0#32
  let c0_15 : Index := 0#32
  ![v35.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c0_i32_35 : BitVec 32 := 0#32
  let v68 : BitVec 1 := Scalar.cmpi .eq arg0 c0_i32_35
  let v69 : BitVec 32 := Scalar.extui v68
  let c0_i32_36 : BitVec 32 := 0#32
  let v70 : BitVec 1 := Scalar.cmpi .ne v69 c0_i32_36
  v70

def k0_cond4 (i : grid0.Coords) : BitVec 1 :=
  let arg0 : BitVec 32 := BitVec.ofNat 32 (i 0).val
  let c0_i32_37 : BitVec 32 := 0#32
  let v71 : BitVec 1 := Scalar.cmpi .ne arg0 c0_i32_37
  let v72 : BitVec 32 := Scalar.extui v71
  let c0_i32_38 : BitVec 32 := 0#32
  let v73 : BitVec 1 := Scalar.cmpi .ne v72 c0_i32_38
  v73

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_18 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S64x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S1024x128 : Shape := ⟨2, ![1024, 128]⟩
abbrev S1024x64 : Shape := ⟨2, ![1024, 64]⟩
abbrev S16384x64 : Shape := ⟨2, ![16384, 64]⟩
abbrev S16384x1024 : Shape := ⟨2, ![16384, 1024]⟩
abbrev S1 : Shape := ⟨1, ![1]⟩
abbrev S192x256 : Shape := ⟨2, ![192, 256]⟩
abbrev S64x256 : Shape := ⟨2, ![64, 256]⟩
abbrev S256 : Shape := ⟨1, ![256]⟩
abbrev S1024x192 : Shape := ⟨2, ![1024, 192]⟩
abbrev S1024x256 : Shape := ⟨2, ![1024, 256]⟩
abbrev S1x256 : Shape := ⟨2, ![1, 256]⟩
abbrev S_ : Shape := ⟨0, ![]⟩
abbrev S1x1 : Shape := ⟨2, ![1, 1]⟩
abbrev S1024 : Shape := ⟨1, ![1024]⟩
abbrev S1024x1 : Shape := ⟨2, ![1024, 1]⟩
abbrev S16384 : Shape := ⟨1, ![16384]⟩
abbrev S16384x1 : Shape := ⟨2, ![16384, 1]⟩
abbrev S64x16384 : Shape := ⟨2, ![64, 16384]⟩
abbrev S1024x16384 : Shape := ⟨2, ![1024, 16384]⟩
abbrev S1x1024 : Shape := ⟨2, ![1, 1024]⟩
abbrev S1x1024x1x1 : Shape := ⟨4, ![1, 1024, 1, 1]⟩
abbrev S1x1024x16384x1 : Shape := ⟨4, ![1, 1024, 16384, 1]⟩
abbrev S1x16384 : Shape := ⟨2, ![1, 16384]⟩

abbrev nBuf : Space → Nat
  | .hbm => 163
  | .vmem => 0
  | .smem => 0
  | _ => 0

abbrev hbmTy0_0 (i : Nat) : BufTy := match i % 128 with
  | 0 => ⟨S1024x128, .f32⟩
  | 1 => ⟨S1024x64, .f32⟩
  | 2 => ⟨S16384x64, .f32⟩
  | 3 => ⟨S16384x1024, .f32⟩
  | 4 => ⟨S16384x1024, .f32⟩
  | 5 => ⟨S16384x1024, .f32⟩
  | 6 => ⟨S1024x64, .f32⟩
  | 7 => ⟨S1024x64, .f32⟩
  | 8 => ⟨S1, .f32⟩
  | 9 => ⟨S192x256, .f32⟩
  | 10 => ⟨S64x256, .f32⟩
  | 11 => ⟨S256, .f32⟩
  | 12 => ⟨S1024x192, .f32⟩
  | 13 => ⟨S1024x256, .f32⟩
  | 14 => ⟨S1024x256, .f32⟩
  | 15 => ⟨S1024x256, .f32⟩
  | 16 => ⟨S1x256, .f32⟩
  | 17 => ⟨S1024x256, .f32⟩
  | 18 => ⟨S1024x256, .f32⟩
  | 19 => ⟨S1024x64, .f32⟩
  | 20 => ⟨S1024x64, .f32⟩
  | 21 => ⟨S1024x64, .f32⟩
  | 22 => ⟨S1024x64, .f32⟩
  | 23 => ⟨S1024x64, .f32⟩
  | 24 => ⟨S1024x64, .f32⟩
  | 25 => ⟨S_, .f32⟩
  | 26 => ⟨S1024x64, .f32⟩
  | 27 => ⟨S1024x64, .f32⟩
  | 28 => ⟨S_, .f32⟩
  | 29 => ⟨S1024x64, .f32⟩
  | 30 => ⟨S1024x64, .f32⟩
  | 31 => ⟨S1024x64, .f32⟩
  | 32 => ⟨S1024x64, .f32⟩
  | 33 => ⟨S_, .f32⟩
  | 34 => ⟨S1024x64, .f32⟩
  | 35 => ⟨S1024x64, .f32⟩
  | 36 => ⟨S_, .f32⟩
  | 37 => ⟨S1024x64, .f32⟩
  | 38 => ⟨S1024x64, .f32⟩
  | 39 => ⟨S1024x64, .f32⟩
  | 40 => ⟨S1024x64, .f32⟩
  | 41 => ⟨S1024x64, .f32⟩
  | 42 => ⟨S1024x64, .f32⟩
  | 43 => ⟨S1024x64, .f32⟩
  | 44 => ⟨S1024x64, .f32⟩
  | 45 => ⟨S_, .f32⟩
  | 46 => ⟨S1024x64, .f32⟩
  | 47 => ⟨S1024x64, .f32⟩
  | 48 => ⟨S_, .f32⟩
  | 49 => ⟨S1024x64, .f32⟩
  | 50 => ⟨S1024x64, .f32⟩
  | 51 => ⟨S1024x64, .f32⟩
  | 52 => ⟨S1024x64, .f32⟩
  | 53 => ⟨S1, .f32⟩
  | 54 => ⟨S1, .f32⟩
  | 55 => ⟨S_, .f32⟩
  | 56 => ⟨S1, .f32⟩
  | 57 => ⟨S1, .f32⟩
  | 58 => ⟨S_, .f32⟩
  | 59 => ⟨S1, .f32⟩
  | 60 => ⟨S1, .f32⟩
  | 61 => ⟨S1x1, .f32⟩
  | 62 => ⟨S16384x1024, .f32⟩
  | 63 => ⟨S16384x1024, .f32⟩
  | 64 => ⟨S_, .f32⟩
  | 65 => ⟨S1, .f32⟩
  | 66 => ⟨S1, .f32⟩
  | 67 => ⟨S1x1, .f32⟩
  | 68 => ⟨S16384x1024, .f32⟩
  | 69 => ⟨S16384x1024, .f32⟩
  | 70 => ⟨S16384x1024, .f32⟩
  | 71 => ⟨S1024x64, .f32⟩
  | 72 => ⟨S_, .f32⟩
  | 73 => ⟨S1024, .f32⟩
  | 74 => ⟨S1024x1, .f32⟩
  | 75 => ⟨S_, .f32⟩
  | 76 => ⟨S1024x1, .f32⟩
  | 77 => ⟨S1024x1, .f32⟩
  | 78 => ⟨S1024x1, .f32⟩
  | 79 => ⟨S1024x64, .f32⟩
  | 80 => ⟨S1024x64, .f32⟩
  | 81 => ⟨S16384x64, .f32⟩
  | 82 => ⟨S_, .f32⟩
  | 83 => ⟨S16384, .f32⟩
  | 84 => ⟨S16384x1, .f32⟩
  | 85 => ⟨S_, .f32⟩
  | 86 => ⟨S16384x1, .f32⟩
  | 87 => ⟨S16384x1, .f32⟩
  | 88 => ⟨S16384x1, .f32⟩
  | 89 => ⟨S16384x64, .f32⟩
  | 90 => ⟨S16384x64, .f32⟩
  | 91 => ⟨S64x16384, .f32⟩
  | 92 => ⟨S1024x16384, .f32⟩
  | 93 => ⟨S16384x1024, .f32⟩
  | 94 => ⟨S_, .f32⟩
  | 95 => ⟨S16384, .f32⟩
  | 96 => ⟨S_, .f32⟩
  | 97 => ⟨S16384, .f32⟩
  | 98 => ⟨S16384, .f32⟩
  | 99 => ⟨S16384x1, .f32⟩
  | 100 => ⟨S16384x1024, .f32⟩
  | 101 => ⟨S16384x1024, .f32⟩
  | 102 => ⟨S16384x1024, .f32⟩
  | 103 => ⟨S_, .f32⟩
  | 104 => ⟨S16384, .f32⟩
  | 105 => ⟨S16384x1, .f32⟩
  | 106 => ⟨S16384x1024, .f32⟩
  | 107 => ⟨S16384x1024, .f32⟩
  | 108 => ⟨S1024x16384, .f32⟩
  | 109 => ⟨S1024x64, .f32⟩
  | 110 => ⟨S_, .f32⟩
  | 111 => ⟨S16384x1024, .f32⟩
  | 112 => ⟨S16384x1024, .f32⟩
  | 113 => ⟨S16384x1024, .f32⟩
  | 114 => ⟨S16384x1024, .f32⟩
  | 115 => ⟨S1024x16384, .f32⟩
  | 116 => ⟨S1024x16384, .f32⟩
  | 117 => ⟨S1024x16384, .i32⟩
  | 118 => ⟨S16384x1024, .f32⟩
  | 119 => ⟨S1x1024, .f32⟩
  | 120 => ⟨S1024, .f32⟩
  | 121 => ⟨S1024, .i32⟩
  | 122 => ⟨S_, .f32⟩
  | 123 => ⟨S_, .i32⟩
  | 124 => ⟨S_, .f32⟩
  | 125 => ⟨S_, .i32⟩
  | 126 => ⟨S1024x1, .f32⟩
  | 127 => ⟨S1x1024x1x1, .f32⟩
  | _ => ⟨S1024x128, .f32⟩

abbrev hbmTy0_1 (i : Nat) : BufTy := match i % 128 with
  | 0 => ⟨S1x1024x16384x1, .f32⟩
  | 1 => ⟨S1024x16384, .f32⟩
  | 2 => ⟨S16384x1024, .i32⟩
  | 3 => ⟨S1x1024, .i32⟩
  | 4 => ⟨S1024, .i32⟩
  | 5 => ⟨S_, .i32⟩
  | 6 => ⟨S_, .i1⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S1024, .i32⟩
  | 14 => ⟨S1024, .i32⟩
  | 15 => ⟨S1024, .i32⟩
  | 16 => ⟨S16384x1024, .f32⟩
  | 17 => ⟨S16384x1024, .i1⟩
  | 18 => ⟨S16384x1024, .f32⟩
  | 19 => ⟨S1024x1, .i32⟩
  | 20 => ⟨S1x16384, .i32⟩
  | 21 => ⟨S1024x16384, .i32⟩
  | 22 => ⟨S1024x16384, .i32⟩
  | 23 => ⟨S1024x16384, .i1⟩
  | 24 => ⟨S1024x16384, .f32⟩
  | 25 => ⟨S_, .f32⟩
  | 26 => ⟨S1024x16384, .f32⟩
  | 27 => ⟨S1024x16384, .f32⟩
  | 28 => ⟨S16384x1024, .f32⟩
  | 29 => ⟨S_, .f32⟩
  | 30 => ⟨S1024x64, .f32⟩
  | 31 => ⟨S16384x64, .f32⟩
  | 32 => ⟨S16384x64, .f32⟩
  | 33 => ⟨S16384x64, .f32⟩
  | 34 => ⟨S16384x64, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_values : Ref sig .tc := ⟨.hbm, 116, rfl⟩
abbrev main_indices : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_call0_v0 : Ref sig .tc := ⟨.hbm, 121, rfl⟩
abbrev main_call0_cst : Ref sig .tc := ⟨.hbm, 122, rfl⟩
abbrev main_call0_c : Ref sig .tc := ⟨.hbm, 123, rfl⟩
abbrev main_call0_v1_0 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_c : Ref sig .tc := ⟨.hbm, 133, rfl⟩
abbrev main_v98 : Ref sig .tc := ⟨.hbm, 134, rfl⟩
abbrev main_c_16 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_c_17 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_call1_v0 : Ref sig .tc := ⟨.hbm, 147, rfl⟩
abbrev main_call1_v1 : Ref sig .tc := ⟨.hbm, 148, rfl⟩
abbrev main_call1_v2 : Ref sig .tc := ⟨.hbm, 149, rfl⟩
abbrev main_call1_v3 : Ref sig .tc := ⟨.hbm, 150, rfl⟩
abbrev main_call1_v4 : Ref sig .tc := ⟨.hbm, 151, rfl⟩
abbrev main_v109 : Ref sig .tc := ⟨.hbm, 152, rfl⟩
abbrev main_cst_18 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_19 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩

abbrev nD : Nat := 1
abbrev τ : Topo := Topo.v7x

variable {F : FTy → Type} [FloatOps F]
-- ==== Proof.Base.lean ====
/-
What a buffer reads after one store into it, and what a load of a whole buffer reads.
-/
module

public import Idealize.ShloMosaic.Lib.Pipeline.Value
public import Idealize.ShloMosaic.Lib.Pipeline.FrameBody

@[expose] public section

noncomputable section

namespace Cert.KernelIdeal.Hand

open Idealize.ShloMosaic

variable {sig : RefSig} {κ : Kind} {sp : Space} {s : Shape} {e : EltTy} {Val : EltTy → Type}

/-- After one store through the rectangle `r`, the buffer reads the payload under `r` and its old contents elsewhere. -/
theorem read_put (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, r.overlay_emb]
  · rw [View.read_writes_cons_miss _ _ _ _ _ hy, View.writes_nil, r.overlay_of_not_mem _ _ hy]

/-- Laying a payload over the whole of a shape, from the origin, leaves the payload. -/
theorem overlay_whole {off : Fin s.rank → Nat} (h : off = fun _ => 0) (inb : ∀ a, off a + s.size a ≤ s.size a)
    (X : s.Idx → Val e) (w : s.Idx → Val e) :
    (Rect.unit off s.size inb).overlay X w = w := by
  subst h
  funext y
  have hy : (Rect.unit (s := s) (fun _ => 0) s.size inb).emb y = y := by
    funext a; apply Fin.ext
    show 0 + 1 * (y a).val = (y a).val
    omega
  conv_lhs => rw [← hy]
  exact Rect.overlay_emb (Rect.unit (s := s) (fun _ => 0) s.size inb) X w y

/-- Two zero offsets are the zero offset. -/
theorem zero2 : (![0, 0] : Fin 2 → Nat) = fun _ => 0 := by
  funext a; fin_cases a <;> rfl

/-- One zero offset is the zero offset. -/
theorem zero1 : (![0] : Fin 1 → Nat) = fun _ => 0 := by
  funext a; fin_cases a; rfl

/-- The index of a matrix at a row and a lane. -/
def ix2 {n0 n1 : ℕ} (a : Fin n0) (b : Fin n1) : (⟨2, ![n0, n1]⟩ : Shape).Idx
  | ⟨0, _⟩ => a
  | ⟨1, _⟩ => b

/-- The index of a stack of matrices. -/
def ix3 {n0 n1 n2 : ℕ} (a : Fin n0) (b : Fin n1) (c : Fin n2) : (⟨3, ![n0, n1, n2]⟩ : Shape).Idx
  | ⟨0, _⟩ => a
  | ⟨1, _⟩ => b
  | ⟨2, _⟩ => c

/-- A stored block: where the table `T` agrees with the payload under the rectangle, and the old contents agree with it on
    the rest of `Q`, the new contents agree with it on `Q`. -/
theorem overlay_agree (r : Rect s) (X T : s.Idx → Val e) (w : r.shape.Idx → Val e) (P Q : s.Idx → Prop)
    (hin : ∀ x, w x = T (r.emb x)) (hout : ∀ j, Q j → j ∉ r.set → P j) (hX : ∀ j, P j → X j = T j) :
    ∀ j, Q j → r.overlay X w j = T j := by
  intro j hj
  by_cases hy : j ∈ r.set
  · obtain ⟨x, rfl⟩ : ∃ x, r.emb x = j := r.exists_idx_of_mem hy
    rw [r.overlay_emb]; exact hin x
  · rw [r.overlay_of_not_mem _ _ hy]; exact hX j (hout j hj hy)

end Cert.KernelIdeal.Hand

end
-- ==== Proof.BodyDefs.lean ====
/-
What the kernel's body computes at each kind of grid point, over the blocks it reads.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic
public import proofs.«01_k».proof.Proof.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The new cell state of the whole batch, from the blocks of the first point. -/
def cnewOf (X1 : Vec F S1024x128 .f32) (X2 X3 X4 : Vec F S64x1024 .f32) (X5 : Vec F S192x256 .f32) (X6 : Vec F S64x256 .f32) (X7 : Vec F S8x256 .f32) : Vec F S1024x64 .f32 :=
  k0_pay13 X1 (View.ld X5 (Rect.unit (s := S192x256) ![0, 0] S128x256.size inb_S192x256_S128x256_0_0)) X2
    (View.ld X5 (Rect.unit (s := S192x256) ![128, 0] S64x256.size inb_S192x256_S64x256_128_0)) X3 X6
    (View.ld X7 (Rect.unit (s := S8x256) ![0, 0] S1x256.size inb_S8x256_S1x256_0_0)) X4

/-- The key of the whole batch. -/
def keyOf (X1 : Vec F S1024x128 .f32) (X2 X3 X4 : Vec F S64x1024 .f32) (X5 : Vec F S192x256 .f32) (X6 : Vec F S64x256 .f32) (X7 : Vec F S8x256 .f32) : Vec F S1024x64 .f32 :=
  k0_pay14 X1 (View.ld X5 (Rect.unit (s := S192x256) ![0, 0] S128x256.size inb_S192x256_S128x256_0_0)) X2
    (View.ld X5 (Rect.unit (s := S192x256) ![128, 0] S64x256.size inb_S192x256_S64x256_128_0)) X3 X6
    (View.ld X7 (Rect.unit (s := S8x256) ![0, 0] S1x256.size inb_S8x256_S1x256_0_0)) X4

/-- The key with the batch along the lanes, as the first point stores it. -/
def keyTOf (X1 : Vec F S1024x128 .f32) (X2 X3 X4 : Vec F S64x1024 .f32) (X5 : Vec F S192x256 .f32) (X6 : Vec F S64x256 .f32) (X7 : Vec F S8x256 .f32) : Vec F S64x1024 .f32 :=
  k0_pay15 X1 (View.ld X5 (Rect.unit (s := S192x256) ![0, 0] S128x256.size inb_S192x256_S128x256_0_0)) X2
    (View.ld X5 (Rect.unit (s := S192x256) ![128, 0] S64x256.size inb_S192x256_S64x256_128_0)) X3 X6
    (View.ld X7 (Rect.unit (s := S8x256) ![0, 0] S1x256.size inb_S8x256_S1x256_0_0)) X4

/-- The write weights of one block of memory rows. -/
def cwwOf (X8 : Vec F S8x128 .f32) (X12 X11 : Vec F S512x1024 .f32) : Vec F S512x1024 .f32 :=
  k0_pay18 (View.ld X8 (Rect.unit (s := S8x128) ![0, 0] S1x1.size inb_S8x128_S1x1_0_0)) X12 X11

/-- The usage weights of one block of memory rows; `nk` is the normalised key. -/
def cwuOf (X9 : Vec F S64x512 .f32) (nk : Vec F S1024x64 .f32) (X8 : Vec F S8x128 .f32) (X12 X11 X10 : Vec F S512x1024 .f32) : Vec F S512x1024 .f32 :=
  k0_pay19 X9 nk (View.ld X8 (Rect.unit (s := S8x128) ![0, 0] S1x1.size inb_S8x128_S1x1_0_0)) X12 X11 X10

/-- The block index that the first point of the second half reads off the table of block minima. -/
def bselOf (X25 : Vec F S32x1024 .f32) : BitVec 32 := extractAt ![0, 0, 0] (k0_pay23 X25) inpos_S1x1x1_p0_0_0

/-- The memory row that the first point of the second half picks. -/
def selOf (i : grid0.Coords) (h5 : k0_cond5 i = 1#1) (h6 : k0_cond6 i = 1#1) (X25 : Vec F S32x1024 .f32) (X24 : Vec F S16384x1024 .i8)
    (hc : k0_chk1 i (bselOf X25)) : BitVec 32 :=
  Scalar.addi (Scalar.muli (bselOf X25) 512#32)
    (extractAt ![0, 0, 0] (k0_pay25 (iota .tc S512x1024 32 [0] iota_S512x1024_d0_w32)
      (k0_pay24 X25 (View.ld X24 (Rect.unit (s := S16384x1024) (k0_off4 (bselOf X25)) S512x1024.size (k0_off4_inb i _ hc h5 h6))))) inpos_S1x1x1_p0_0_0)

/-- Two spellings of the same offset load the same block. -/
theorem ld_off4_congr (X : Vec F S16384x1024 .i8) {a b : BitVec 32} (h : a = b) (ha : ∀ k, k0_off4 a k + S512x1024.size k ≤ S16384x1024.size k)
    (hb : ∀ k, k0_off4 b k + S512x1024.size k ≤ S16384x1024.size k) :
    View.ld X (Rect.unit (s := S16384x1024) (k0_off4 a) S512x1024.size ha) = View.ld X (Rect.unit (s := S16384x1024) (k0_off4 b) S512x1024.size hb) := by
  subst h; rfl
/-- The one index of a one-element shape. -/
def ix1 : S1.Idx := fun a => ⟨0, by fin_cases a; decide⟩

/-- It is the only one. -/
theorem eq_ix1 (j : S1.Idx) : j = ix1 := by
  funext a; fin_cases a; apply Fin.ext
  have h : (j 0).val < 1 := (j 0).isLt
  show (j 0).val = 0
  omega

end Cert.KernelIdeal.Hand

end
-- ==== Proof.Values.lean ====
/-
The kernel's values at each grid point as functions of the arrays it is launched on, and the facts about the grid
that the launch needs.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic
public import proofs.«01_k».proof.Proof.BodyDefs
public import Idealize.ShloMosaic.Lib.Pipeline.TableIdle

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

/-! ## The grid -/

/-- The point with number `n`. -/
abbrev pt (n : ℕ) (h : n < 64) : Fin cfg0.N := ⟨n, h⟩

theorem coords_val : ∀ t : Fin grid0.N, (grid0.coords t 0).val = t.val := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val < 32 := by decide +kernel
theorem cond3_iff : ∀ t : Fin grid0.N, k0_cond3 (grid0.coords t) = 1#1 ↔ t.val = 0 := by decide +kernel
theorem cond4_iff : ∀ t : Fin grid0.N, k0_cond4 (grid0.coords t) = 1#1 ↔ t.val ≠ 0 := by decide +kernel
theorem cond5_iff : ∀ t : Fin grid0.N, k0_cond5 (grid0.coords t) = 1#1 ↔ 32 ≤ t.val := by decide +kernel
theorem cond6_iff : ∀ t : Fin grid0.N, k0_cond6 (grid0.coords t) = 1#1 ↔ t.val = 32 := by decide +kernel
theorem off1_eq : ∀ t : Fin grid0.N, k0_off1 (grid0.coords t) = ![t.val, 0, 0] := by decide +kernel
theorem off2_eq : ∀ t : Fin grid0.N, k0_off2 (grid0.coords t) = ![t.val * 512, 0] := by decide +kernel
theorem off3_eq : ∀ t : Fin grid0.N, k0_off3 (grid0.coords t) = ![t.val, 0] := by decide +kernel
theorem off5_eq : ∀ t : Fin grid0.N, 32 ≤ t.val → k0_off5 (grid0.coords t) = ![(t.val - 32) * 512, 0] := by decide +kernel
theorem off6_eq : ∀ t : Fin grid0.N, 32 ≤ t.val → k0_off6 (grid0.coords t) = ![t.val - 32, 0] := by decide +kernel
theorem off7_eq : ∀ t : Fin grid0.N, 32 ≤ t.val → k0_off7 (grid0.coords t) = ![t.val - 32, 0, 0] := by decide +kernel

theorem idle_12 (t : Fin cfg0.N) : cfg0.idle 12 (cfg0.grid.coords t) = decide (t.val ≠ 0) :=
  (by decide +kernel : ∀ t : Fin grid0.N, idle0 12 (grid0.coords t) = decide (t.val ≠ 0)) t
theorem idle_13 (t : Fin cfg0.N) : cfg0.idle 13 (cfg0.grid.coords t) = decide (t.val ≠ 0) :=
  (by decide +kernel : ∀ t : Fin grid0.N, idle0 13 (grid0.coords t) = decide (t.val ≠ 0)) t
theorem idle_14 (t : Fin cfg0.N) : cfg0.idle 14 (cfg0.grid.coords t) = decide (32 ≤ t.val) :=
  (by decide +kernel : ∀ t : Fin grid0.N, idle0 14 (grid0.coords t) = decide (32 ≤ t.val)) t
theorem idle_15 (t : Fin cfg0.N) : cfg0.idle 15 (cfg0.grid.coords t) = decide (32 ≤ t.val) :=
  (by decide +kernel : ∀ t : Fin grid0.N, idle0 15 (grid0.coords t) = decide (32 ≤ t.val)) t
theorem idle_16 (t : Fin cfg0.N) : cfg0.idle 16 (cfg0.grid.coords t) = decide (32 ≤ t.val) :=
  (by decide +kernel : ∀ t : Fin grid0.N, idle0 16 (grid0.coords t) = decide (32 ≤ t.val)) t
theorem idle_17 (t : Fin cfg0.N) : cfg0.idle 17 (cfg0.grid.coords t) = decide (t.val < 32) :=
  (by decide +kernel : ∀ t : Fin grid0.N, idle0 17 (grid0.coords t) = decide (t.val < 32)) t
theorem idle_18 (t : Fin cfg0.N) : cfg0.idle 18 (cfg0.grid.coords t) = decide (t.val < 32) :=
  (by decide +kernel : ∀ t : Fin grid0.N, idle0 18 (grid0.coords t) = decide (t.val < 32)) t
theorem flush_12 (t : Fin cfg0.N) : (cfg0.win 12).flush t = decide (t.val = 63) := by
  rw [Bool.eq_iff_iff, flush0_12 t, decide_eq_true_iff]
  have h : t.val < 64 := t.isLt
  omega
theorem flush_13 (t : Fin cfg0.N) : (cfg0.win 13).flush t = decide (t.val = 63) := by
  rw [Bool.eq_iff_iff, flush0_13 t, decide_eq_true_iff]
  have h : t.val < 64 := t.isLt
  omega
theorem flush_14 (t : Fin cfg0.N) : (cfg0.win 14).flush t = decide (t.val = 63) := by
  rw [Bool.eq_iff_iff, flush0_14 t, decide_eq_true_iff]
  have h : t.val < 64 := t.isLt
  omega
theorem flush_15 (t : Fin cfg0.N) : (cfg0.win 15).flush t = (decide (t.val < 31) || decide (t.val = 63)) := by
  rw [Pipeline.Window.flush_eq_flushF]
  exact (by decide +kernel : ∀ t : Fin grid0.N, (cfg0.win 15).flushF t = (decide (t.val < 31) || decide (t.val = 63))) t
theorem flush_16 (t : Fin cfg0.N) : (cfg0.win 16).flush t = (decide (t.val < 31) || decide (t.val = 63)) := by
  rw [Pipeline.Window.flush_eq_flushF]
  exact (by decide +kernel : ∀ t : Fin grid0.N, (cfg0.win 16).flushF t = (decide (t.val < 31) || decide (t.val = 63))) t
theorem flush_17 (t : Fin cfg0.N) : (cfg0.win 17).flush t = decide (32 ≤ t.val) := by
  rw [Pipeline.Window.flush_eq_flushF]
  exact (by decide +kernel : ∀ t : Fin grid0.N, (cfg0.win 17).flushF t = decide (32 ≤ t.val)) t
theorem flush_18 (t : Fin cfg0.N) : (cfg0.win 18).flush t = decide (32 ≤ t.val) := by
  rw [Pipeline.Window.flush_eq_flushF]
  exact (by decide +kernel : ∀ t : Fin grid0.N, (cfg0.win 18).flushF t = decide (32 ≤ t.val)) t
theorem fresh_12 : ∀ n, n ≤ cfg0.N → cfg0.fresh 12 n = decide (n = 0 ∨ 64 ≤ n) :=
  cfg0.fresh_tab 12 (fun n => decide (n = 0 ∨ 64 ≤ n)) rfl fun t => by
    rw [flush_12, idle_12]
    have h : t.val < 64 := t.isLt
    rw [Bool.eq_iff_iff]
    simp only [Bool.or_eq_true, Bool.and_eq_true, decide_eq_true_iff, and_true, true_iff, iff_true]
    omega
theorem fresh_13 : ∀ n, n ≤ cfg0.N → cfg0.fresh 13 n = decide (n = 0 ∨ 64 ≤ n) :=
  cfg0.fresh_tab 13 (fun n => decide (n = 0 ∨ 64 ≤ n)) rfl fun t => by
    rw [flush_13, idle_13]
    have h : t.val < 64 := t.isLt
    rw [Bool.eq_iff_iff]
    simp only [Bool.or_eq_true, Bool.and_eq_true, decide_eq_true_iff, and_true, true_iff, iff_true]
    omega
theorem fresh_14 : ∀ n, n ≤ cfg0.N → cfg0.fresh 14 n = decide (n = 0 ∨ 64 ≤ n) :=
  cfg0.fresh_tab 14 (fun n => decide (n = 0 ∨ 64 ≤ n)) rfl fun t => by
    rw [flush_14, idle_14]
    have h : t.val < 64 := t.isLt
    rw [Bool.eq_iff_iff]
    simp only [Bool.or_eq_true, Bool.and_eq_true, decide_eq_true_iff, and_true, true_iff, iff_true]
    omega
theorem fresh_15 : ∀ n, n ≤ cfg0.N → cfg0.fresh 15 n = decide (n < 32 ∨ 64 ≤ n) :=
  cfg0.fresh_tab 15 (fun n => decide (n < 32 ∨ 64 ≤ n)) rfl fun t => by
    rw [flush_15, idle_15]
    have h : t.val < 64 := t.isLt
    rw [Bool.eq_iff_iff]
    simp only [Bool.or_eq_true, Bool.and_eq_true, decide_eq_true_iff, and_true, true_iff, iff_true]
    omega
theorem fresh_16 : ∀ n, n ≤ cfg0.N → cfg0.fresh 16 n = decide (n < 32 ∨ 64 ≤ n) :=
  cfg0.fresh_tab 16 (fun n => decide (n < 32 ∨ 64 ≤ n)) rfl fun t => by
    rw [flush_16, idle_16]
    have h : t.val < 64 := t.isLt
    rw [Bool.eq_iff_iff]
    simp only [Bool.or_eq_true, Bool.and_eq_true, decide_eq_true_iff, and_true, true_iff, iff_true]
    omega
theorem fresh_17 : ∀ n, n ≤ cfg0.N → cfg0.fresh 17 n = true :=
  cfg0.fresh_tab 17 (fun n => true) rfl fun t => by
    rw [flush_17, idle_17]
    have h : t.val < 64 := t.isLt
    rw [Bool.eq_iff_iff]
    simp only [Bool.or_eq_true, Bool.and_eq_true, decide_eq_true_iff, and_true, true_iff, iff_true]
    omega
theorem fresh_18 : ∀ n, n ≤ cfg0.N → cfg0.fresh 18 n = true :=
  cfg0.fresh_tab 18 (fun n => true) rfl fun t => by
    rw [flush_18, idle_18]
    have h : t.val < 64 := t.isLt
    rw [Bool.eq_iff_iff]
    simp only [Bool.or_eq_true, Bool.and_eq_true, decide_eq_true_iff, and_true, true_iff, iff_true]
    omega

/-! ## The values -/

variable {F : FTy → Type} [FloatOps F]
variable (m : (ℓ : Loc nD τ sig) → Buf (Elt F) ℓ) (c : Dev nD)
/-- Window 0's block at a point. -/
abbrev xb0 (t : Fin cfg0.N) : Vec F S1024x128 .f32 := iblk m c 0 t
/-- Window 1's block at a point. -/
abbrev xb1 (t : Fin cfg0.N) : Vec F S64x1024 .f32 := iblk m c 1 t
/-- Window 2's block at a point. -/
abbrev xb2 (t : Fin cfg0.N) : Vec F S64x1024 .f32 := iblk m c 2 t
/-- Window 3's block at a point. -/
abbrev xb3 (t : Fin cfg0.N) : Vec F S64x1024 .f32 := iblk m c 3 t
/-- Window 4's block at a point. -/
abbrev xb4 (t : Fin cfg0.N) : Vec F S192x256 .f32 := iblk m c 4 t
/-- Window 5's block at a point. -/
abbrev xb5 (t : Fin cfg0.N) : Vec F S64x256 .f32 := iblk m c 5 t
/-- Window 6's block at a point. -/
abbrev xb6 (t : Fin cfg0.N) : Vec F S8x256 .f32 := iblk m c 6 t
/-- Window 7's block at a point. -/
abbrev xb7 (t : Fin cfg0.N) : Vec F S8x128 .f32 := iblk m c 7 t
/-- Window 8's block at a point. -/
abbrev xb8 (t : Fin cfg0.N) : Vec F S64x512 .f32 := iblk m c 8 t
/-- Window 9's block at a point. -/
abbrev xb9 (t : Fin cfg0.N) : Vec F S512x1024 .f32 := iblk m c 9 t
/-- Window 10's block at a point. -/
abbrev xb10 (t : Fin cfg0.N) : Vec F S512x1024 .f32 := iblk m c 10 t
/-- Window 11's block at a point. -/
abbrev xb11 (t : Fin cfg0.N) : Vec F S512x1024 .f32 := iblk m c 11 t

/-- The key, by batch row. -/
def keyV : Vec F S1024x64 .f32 := keyOf (xb0 m c (pt 0 (by decide))) (xb1 m c (pt 0 (by decide))) (xb2 m c (pt 0 (by decide))) (xb3 m c (pt 0 (by decide))) (xb4 m c (pt 0 (by decide))) (xb5 m c (pt 0 (by decide))) (xb6 m c (pt 0 (by decide)))
/-- The new cell state, by batch row. -/
def cnewV : Vec F S1024x64 .f32 := cnewOf (xb0 m c (pt 0 (by decide))) (xb1 m c (pt 0 (by decide))) (xb2 m c (pt 0 (by decide))) (xb3 m c (pt 0 (by decide))) (xb4 m c (pt 0 (by decide))) (xb5 m c (pt 0 (by decide))) (xb6 m c (pt 0 (by decide)))
/-- The key with the batch along the lanes. -/
def keyTV : Vec F S64x1024 .f32 := keyTOf (xb0 m c (pt 0 (by decide))) (xb1 m c (pt 0 (by decide))) (xb2 m c (pt 0 (by decide))) (xb3 m c (pt 0 (by decide))) (xb4 m c (pt 0 (by decide))) (xb5 m c (pt 0 (by decide))) (xb6 m c (pt 0 (by decide)))
/-- The new cell state with the batch along the lanes. -/
def cnewTV : Vec F S64x1024 .f32 := k0_pay1 k0_pay12 (cnewV m c)
/-- The key scaled to unit length. -/
def nkV : Vec F S1024x64 .f32 := k0_pay3 (keyV m c)
/-- The key as the blocks read it. -/
def kyV : Vec F S1024x64 .f32 := k0_pay2 (keyV m c)
/-- The read weights of the block of point `t`. -/
def cwrV (t : Fin cfg0.N) : Vec F S512x1024 .f32 := k0_pay17 (xb8 m c t) (nkV m c)
/-- The write weights of the block of point `t`. -/
def cwwV (t : Fin cfg0.N) : Vec F S512x1024 .f32 := cwwOf (xb7 m c t) (xb11 m c t) (xb10 m c t)
/-- The usage weights of the block of point `t`. -/
def cwuV (t : Fin cfg0.N) : Vec F S512x1024 .f32 := cwuOf (xb8 m c t) (nkV m c) (xb7 m c t) (xb11 m c t) (xb10 m c t) (xb9 m c t)
/-- The part of the read vector that the blocks up to point `n` give. -/
def readV : ℕ → Vec F S64x1024 .f32
  | 0 => k0_pay6 (k0_pay16 (xb8 m c (pt 0 (by decide)))) (cwrV m c (pt 0 (by decide)))
  | n + 1 => if h : n + 1 < 64 then k0_pay10 (k0_pay16 (xb8 m c (pt (n + 1) h))) (cwrV m c (pt (n + 1) h)) (readV n) else readV n

/-- The point of a block number. -/
def bpt (n : ℕ) : Fin cfg0.N := pt (n % 64) (Nat.mod_lt _ (by decide))
theorem bpt_of (t : Fin cfg0.N) : bpt t.val = t := Fin.ext (Nat.mod_eq_of_lt t.isLt)

/-- The table of the products of the key with the write weights, block by block. -/
def T22 : Vec F S32x64x512 .f32 := fun j => k0_pay4 (cwwV m c (bpt (j 0).val)) (kyV m c) (ix3 0 (j 1) (j 2))
/-- The table of the memory's blocks. -/
def T23 : Vec F S32x64x512 .f32 := fun j => k0_pay5 (k0_pay16 (xb8 m c (bpt (j 0).val))) (ix3 0 (j 1) (j 2))
/-- The table marking where a row attains the minimum of its block. -/
def T24 : Vec F S16384x1024 .i8 := fun j => k0_pay8 (cwuV m c (bpt ((j 0).val / 512))) (ix2 ⟨(j 0).val % 512, Nat.mod_lt _ (by decide)⟩ (j 1))
/-- The table of the blocks' minima. -/
def T25 : Vec F S32x1024 .f32 := fun j => k0_pay9 (cwuV m c (bpt (j 0).val)) (ix2 0 (j 1))
/-- The minimum over all the rows. -/
def cminV : Vec F S1x1024 .f32 := k0_pay21 (T25 m c)
/-- The kernel's side condition: the block index read off the table of minima names a block. -/
def ChkV : Prop := k0_chk1 (grid0.coords (pt 32 (by decide))) (bselOf (T25 m c))
/-- The memory row the kernel picks. -/
def selV (hc : ChkV m c) : BitVec 32 :=
  selOf (grid0.coords (pt 32 (by decide))) ((cond5_iff _).mpr (by decide)) ((cond6_iff _).mpr rfl) (T25 m c) (T24 m c) hc
/-- The block of the least-used weights that point `t` of the second half stores. -/
def lwuV (t : Fin cfg0.N) : Vec F S512x1024 .f32 :=
  if h : 32 ≤ t.val then
    k0_pay26 (View.ld (T24 m c) (Rect.unit (s := S16384x1024) (k0_off5 (grid0.coords t)) S512x1024.size (k0_off5_inb _ ((cond5_iff t).mpr h))))
      (View.ld (T25 m c) (Rect.unit (s := S32x1024) (k0_off6 (grid0.coords t)) S1x1024.size (k0_off6_inb _ ((cond5_iff t).mpr h)))) (cminV m c)
  else fun _ => Scalar.ofBits .f32 0#32
/-- The block of the new memory that point `t` of the second half stores. -/
def memV (hc : ChkV m c) (t : Fin cfg0.N) : Vec F S64x512 .f32 :=
  if h : 32 ≤ t.val then
    k0_pay27 (BitVec.ofNat 32 (grid0.coords t 0).val) (selV m c hc)
      (View.ld (T22 m c) (Rect.unit (s := S32x64x512) (k0_off7 (grid0.coords t)) S1x64x512.size (k0_off7_inb _ ((cond5_iff t).mpr h))))
      (View.ld (T23 m c) (Rect.unit (s := S32x64x512) (k0_off7 (grid0.coords t)) S1x64x512.size (k0_off7_inb _ ((cond5_iff t).mpr h))))
  else fun _ => Scalar.ofBits .f32 0#32

end Cert.KernelIdeal.Hand

end
-- ==== Proof.Spec.lean ====
/-
  The step's mathematics on plain functions over the extended reals.
-/
module

public import Idealize.ShloMosaic.PureOps.Ideal

@[expose] public section

noncomputable section

namespace Cert.Val

open Idealize.ShloMosaic

/-- The arguments as functions of their coordinates. -/
structure Args where
  x : Fin 1024 → Fin 128 → EReal
  r : Fin 1024 → Fin 64 → EReal
  M : Fin 16384 → Fin 64 → EReal
  u : Fin 16384 → Fin 1024 → EReal
  wl : Fin 16384 → Fin 1024 → EReal
  wr : Fin 16384 → Fin 1024 → EReal
  h : Fin 1024 → Fin 64 → EReal
  cc : Fin 1024 → Fin 64 → EReal
  g : EReal
  Wk : Fin 192 → Fin 256 → EReal
  Uk : Fin 64 → Fin 256 → EReal
  bi : Fin 256 → EReal

variable (a : Args)

/-- The logistic function. -/
def sg (z : EReal) : EReal := Ideal.div 1 (1 + Ideal.exp (-z))
/-- The gates before their nonlinearities. -/
def pre (b : Fin 1024) (j : Fin 256) : EReal :=
  ∑ k : Fin 128, a.x b k * a.Wk ⟨k.val, by omega⟩ j + ∑ k : Fin 64, a.r b k * a.Wk ⟨128 + k.val, by omega⟩ j + ∑ k : Fin 64, a.h b k * a.Uk k j + a.bi j
/-- The new cell state. -/
def cn (b : Fin 1024) (u : Fin 64) : EReal :=
  sg (pre a b ⟨64 + u.val, by omega⟩) * a.cc b u + sg (pre a b ⟨u.val, by omega⟩) * Ideal.tanh (pre a b ⟨128 + u.val, by omega⟩)
/-- The key. -/
def ky (b : Fin 1024) (u : Fin 64) : EReal := sg (pre a b ⟨192 + u.val, by omega⟩) * Ideal.tanh (cn a b u)
/-- A row scaled to unit length. -/
def unit (v : Fin 64 → EReal) (u : Fin 64) : EReal :=
  Ideal.div (v u) (Ideal.sqrt (max (∑ k, v k * v k) (Ideal.ofBits FTy.f32 730643660#32)))
/-- The cosine of a memory row and a key. -/
def cosv (m : Fin 16384) (l : Fin 1024) : EReal := ∑ k, unit (ky a l) k * unit (a.M m) k
/-- The read weights: the softmax of the cosines along the batch. -/
def cwr (m : Fin 16384) (l : Fin 1024) : EReal := Ideal.div (Ideal.exp (cosv a m l)) (∑ l', Ideal.exp (cosv a m l'))
/-- The write weights. -/
def ww (m : Fin 16384) (l : Fin 1024) : EReal := sg a.g * a.wr m l + (1 - sg a.g) + a.wl m l
/-- The usage weights. -/
def cwu (m : Fin 16384) (l : Fin 1024) : EReal := Ideal.ofBits FTy.f32 1064514355#32 * a.u m l + cwr a m l + ww a m l
/-- The read vector. -/
def rd (b : Fin 1024) (u : Fin 64) : EReal := ∑ m, cwr a m b * a.M m u
/-- The least usage of a lane. -/
def cm (l : Fin 1024) : EReal := Finset.univ.inf fun m => cwu a m l
/-- The least-used weights. -/
def lwu (m : Fin 16384) (l : Fin 1024) : EReal := if cwu a m l ≤ cm a l then 1 else 0
/-- The lane is the first of the least usage. -/
def IsLane (L : Fin 1024) : Prop := (∀ l, cm a L ≤ cm a l) ∧ ∀ l, cm a l = cm a L → L ≤ l
/-- The row is the last that attains the least usage in the lane. -/
def IsRow (L : Fin 1024) (s : Fin 16384) : Prop := cwu a s L = cm a L ∧ ∀ m, cwu a m L = cm a L → m ≤ s
/-- The row that is cleared. -/
def IsSel (s : Fin 16384) : Prop := ∃ L, IsLane a L ∧ IsRow a L s
/-- The new memory, the given row cleared. -/
def mem (s m : Fin 16384) (u : Fin 64) : EReal := ∑ l, ww a m l * ky a l u + (if m = s then 0 else 1024) * a.M m u

/-- There is one cleared row. -/
theorem isSel_unique {s s' : Fin 16384} (h : IsSel a s) (h' : IsSel a s') : s = s' := by
  obtain ⟨L, ⟨h1, h2⟩, h3, h4⟩ := h
  obtain ⟨L', ⟨h1', h2'⟩, h3', h4'⟩ := h'
  have e : L = L' := le_antisymm (h2 L' (le_antisymm (h1' L) (h1 L'))) (h2' L (le_antisymm (h1 L') (h1' L)))
  subst e
  exact le_antisymm (h4' s h3) (h4 s' h3')

end Cert.Val
-- ==== Proof.KIn.lean ====
/-
  The blocks that the launch reads, as entries of the arguments.
-/
module

public import proofs.«01_k».proof.Proof.Values
public import proofs.«01_k».proof.Proof.Spec
public import Idealize.ShloMosaic.Lib.Pointwise
public import Idealize.ShloMosaic.Lib.StableHlo.RunRead

@[expose] public section

noncomputable section

namespace Cert.KernelIdeal.Val

open Cert.KernelIdeal Cert.KernelIdeal.Gen Cert.KernelIdeal.Hand
open Idealize.ShloMosaic Idealize.ShloMosaic.TcCoe Idealize.ShloMosaic.Pointwise
open Cert.Val (Args)

variable (m : (ℓ : Loc nD τ sig) → Buf (Elt Ideal) ℓ) (c : Dev nD)

local notation "ix1" => Idealize.ShloMosaic.ix1
local notation "ix2" => Idealize.ShloMosaic.ix2

/-- The arguments at launch. -/
def args : Args where
  x i j := m ((c : Thread nD τ).loc main_arg0) (ix2 i j)
  r i j := m ((c : Thread nD τ).loc main_arg1) (ix2 i j)
  M i j := m ((c : Thread nD τ).loc main_arg2) (ix2 i j)
  u i j := m ((c : Thread nD τ).loc main_arg3) (ix2 i j)
  wl i j := m ((c : Thread nD τ).loc main_arg4) (ix2 i j)
  wr i j := m ((c : Thread nD τ).loc main_arg5) (ix2 i j)
  h i j := m ((c : Thread nD τ).loc main_arg6) (ix2 i j)
  cc i j := m ((c : Thread nD τ).loc main_arg7) (ix2 i j)
  g := m ((c : Thread nD τ).loc main_arg8) (ix1 0)
  Wk i j := m ((c : Thread nD τ).loc main_arg9) (ix2 i j)
  Uk i j := m ((c : Thread nD τ).loc main_arg10) (ix2 i j)
  bi j := m ((c : Thread nD τ).loc main_arg11) (ix1 j)

theorem tr8_eq : ∀ t : Fin grid0.N, t.val < 32 → cc0_transform_8 (grid0.coords t) = ![0, t.val] := by decide +kernel
theorem tr9_eq : ∀ t : Fin grid0.N, t.val < 32 → cc0_transform_9 (grid0.coords t) = ![t.val, 0] := by decide +kernel
theorem tr10_eq : ∀ t : Fin grid0.N, t.val < 32 → cc0_transform_10 (grid0.coords t) = ![t.val, 0] := by decide +kernel
theorem tr11_eq : ∀ t : Fin grid0.N, t.val < 32 → cc0_transform_11 (grid0.coords t) = ![t.val, 0] := by decide +kernel

/-- The transposed argument as the launch finds it. -/
theorem v10_at (i : Fin 64) (j : Fin 16384) : V m c main_v10 (ix2 i j) = (args m c).M j i := by
  show StableHlo.after hostOps0 (fun b => m (c, b)) _ _ = _
  after_reads_simp
  pointwise
  rfl
/-- The transposed argument as the launch finds it. -/
theorem v11_at (i : Fin 64) (j : Fin 1024) : V m c main_v11 (ix2 i j) = (args m c).r j i := by
  show StableHlo.after hostOps0 (fun b => m (c, b)) _ _ = _
  after_reads_simp
  pointwise
  rfl
/-- The transposed argument as the launch finds it. -/
theorem v12_at (i : Fin 64) (j : Fin 1024) : V m c main_v12 (ix2 i j) = (args m c).h j i := by
  show StableHlo.after hostOps0 (fun b => m (c, b)) _ _ = _
  after_reads_simp
  pointwise
  rfl
/-- The transposed argument as the launch finds it. -/
theorem v13_at (i : Fin 64) (j : Fin 1024) : V m c main_v13 (ix2 i j) = (args m c).cc j i := by
  show StableHlo.after hostOps0 (fun b => m (c, b)) _ _ = _
  after_reads_simp
  pointwise
  rfl
/-- The bias on eight rows, as the launch finds it. -/
theorem v1_at (i : Fin 8) (j : Fin 256) : V m c main_v1 (ix2 i j) = (args m c).bi j := by
  show StableHlo.after hostOps0 (fun b => m (c, b)) _ _ = _
  after_reads_simp
  pointwise
  rfl
/-- The write gate spread over a tile, as the launch finds it. -/
theorem v9_at (i : Fin 8) (j : Fin 128) : V m c main_v9 (ix2 i j) = Cert.Val.sg (args m c).g := by
  show StableHlo.after hostOps0 (fun b => m (c, b)) _ _ = _
  after_reads_simp
  pointwise
  rfl

/-- An entry of window 0's block. -/
theorem xb0_at (t : Fin cfg0.N) (i : Fin 1024) (j : Fin 128) : xb0 m c t (ix2 i j) = (args m c).x i j := by
  refine (congrFun (V_main_arg0 m c) _).trans (congrArg (m _) (funext fun k => Fin.ext ?_))
  match k with
  | 0 => show 0 * 1024 + 1 * i.val = i.val; omega
  | 1 => show 0 * 128 + 1 * j.val = j.val; omega
/-- An entry of window 1's block. -/
theorem xb1_at (t : Fin cfg0.N) (i : Fin 64) (j : Fin 1024) : xb1 m c t (ix2 i j) = (args m c).r j i := by
  refine Eq.trans (congrArg (V m c main_v11) (funext fun k => Fin.ext ?_)) (v11_at m c i j)
  match k with
  | 0 => show 0 * 64 + 1 * i.val = i.val; omega
  | 1 => show 0 * 1024 + 1 * j.val = j.val; omega
/-- An entry of window 2's block. -/
theorem xb2_at (t : Fin cfg0.N) (i : Fin 64) (j : Fin 1024) : xb2 m c t (ix2 i j) = (args m c).h j i := by
  refine Eq.trans (congrArg (V m c main_v12) (funext fun k => Fin.ext ?_)) (v12_at m c i j)
  match k with
  | 0 => show 0 * 64 + 1 * i.val = i.val; omega
  | 1 => show 0 * 1024 + 1 * j.val = j.val; omega
/-- An entry of window 3's block. -/
theorem xb3_at (t : Fin cfg0.N) (i : Fin 64) (j : Fin 1024) : xb3 m c t (ix2 i j) = (args m c).cc j i := by
  refine Eq.trans (congrArg (V m c main_v13) (funext fun k => Fin.ext ?_)) (v13_at m c i j)
  match k with
  | 0 => show 0 * 64 + 1 * i.val = i.val; omega
  | 1 => show 0 * 1024 + 1 * j.val = j.val; omega
/-- An entry of window 4's block. -/
theorem xb4_at (t : Fin cfg0.N) (i : Fin 192) (j : Fin 256) : xb4 m c t (ix2 i j) = (args m c).Wk i j := by
  refine (congrFun (V_main_arg9 m c) _).trans (congrArg (m _) (funext fun k => Fin.ext ?_))
  match k with
  | 0 => show 0 * 192 + 1 * i.val = i.val; omega
  | 1 => show 0 * 256 + 1 * j.val = j.val; omega
/-- An entry of window 5's block. -/
theorem xb5_at (t : Fin cfg0.N) (i : Fin 64) (j : Fin 256) : xb5 m c t (ix2 i j) = (args m c).Uk i j := by
  refine (congrFun (V_main_arg10 m c) _).trans (congrArg (m _) (funext fun k => Fin.ext ?_))
  match k with
  | 0 => show 0 * 64 + 1 * i.val = i.val; omega
  | 1 => show 0 * 256 + 1 * j.val = j.val; omega
/-- An entry of window 6's block. -/
theorem xb6_at (t : Fin cfg0.N) (i : Fin 8) (j : Fin 256) : xb6 m c t (ix2 i j) = (args m c).bi j := by
  refine Eq.trans (congrArg (V m c main_v1) (funext fun k => Fin.ext ?_)) (v1_at m c i j)
  match k with
  | 0 => show 0 * 8 + 1 * i.val = i.val; omega
  | 1 => show 0 * 256 + 1 * j.val = j.val; omega
/-- An entry of window 7's block. -/
theorem xb7_at (t : Fin cfg0.N) (i : Fin 8) (j : Fin 128) : xb7 m c t (ix2 i j) = Cert.Val.sg (args m c).g := by
  refine Eq.trans (congrArg (V m c main_v9) (funext fun k => Fin.ext ?_)) (v9_at m c i j)
  match k with
  | 0 => show 0 * 8 + 1 * i.val = i.val; omega
  | 1 => show 0 * 128 + 1 * j.val = j.val; omega
/-- An entry of window 8's block. -/
theorem xb8_at (t : Fin cfg0.N) (h : t.val < 32) (i : Fin 64) (j : Fin 512) : xb8 m c t (ix2 i j) = (args m c).M ⟨t.val * 512 + j.val, by omega⟩ i := by
  refine Eq.trans (congrArg (V m c main_v10) (funext fun k => Fin.ext ?_)) (v10_at m c i ⟨t.val * 512 + j.val, by omega⟩)
  match k with
  | 0 => show cc0_transform_8 (grid0.coords t) 0 * 64 + 1 * i.val = i.val; rw [tr8_eq t h]; show 0 * 64 + 1 * i.val = _; omega
  | 1 => show cc0_transform_8 (grid0.coords t) 1 * 512 + 1 * j.val = t.val * 512 + j.val; rw [tr8_eq t h]; show t.val * 512 + 1 * j.val = _; omega
/-- An entry of window 9's block. -/
theorem xb9_at (t : Fin cfg0.N) (h : t.val < 32) (i : Fin 512) (j : Fin 1024) : xb9 m c t (ix2 i j) = (args m c).u ⟨t.val * 512 + i.val, by omega⟩ j := by
  refine (congrFun (V_main_arg3 m c) _).trans (congrArg (m _) (funext fun k => Fin.ext ?_))
  match k with
  | 0 => show cc0_transform_9 (grid0.coords t) 0 * 512 + 1 * i.val = t.val * 512 + i.val; rw [tr9_eq t h]; show t.val * 512 + 1 * i.val = _; omega
  | 1 => show cc0_transform_9 (grid0.coords t) 1 * 1024 + 1 * j.val = j.val; rw [tr9_eq t h]; show 0 * 1024 + 1 * j.val = _; omega
/-- An entry of window 10's block. -/
theorem xb10_at (t : Fin cfg0.N) (h : t.val < 32) (i : Fin 512) (j : Fin 1024) : xb10 m c t (ix2 i j) = (args m c).wl ⟨t.val * 512 + i.val, by omega⟩ j := by
  refine (congrFun (V_main_arg4 m c) _).trans (congrArg (m _) (funext fun k => Fin.ext ?_))
  match k with
  | 0 => show cc0_transform_10 (grid0.coords t) 0 * 512 + 1 * i.val = t.val * 512 + i.val; rw [tr10_eq t h]; show t.val * 512 + 1 * i.val = _; omega
  | 1 => show cc0_transform_10 (grid0.coords t) 1 * 1024 + 1 * j.val = j.val; rw [tr10_eq t h]; show 0 * 1024 + 1 * j.val = _; omega
/-- An entry of window 11's block. -/
theorem xb11_at (t : Fin cfg0.N) (h : t.val < 32) (i : Fin 512) (j : Fin 1024) : xb11 m c t (ix2 i j) = (args m c).wr ⟨t.val * 512 + i.val, by omega⟩ j := by
  refine (congrFun (V_main_arg5 m c) _).trans (congrArg (m _) (funext fun k => Fin.ext ?_))
  match k with
  | 0 => show cc0_transform_11 (grid0.coords t) 0 * 512 + 1 * i.val = t.val * 512 + i.val; rw [tr11_eq t h]; show t.val * 512 + 1 * i.val = _; omega
  | 1 => show cc0_transform_11 (grid0.coords t) 1 * 1024 + 1 * j.val = j.val; rw [tr11_eq t h]; show 0 * 1024 + 1 * j.val = _; omega

end Cert.KernelIdeal.Val

end
-- ==== Proof.MA.lean ====
/-
  The minima: what the kernel's table of block minima and the picked lane and block are, at the extended reals.
-/
module

public import proofs.«01_k».proof.Proof.Values
public import Idealize.ShloMosaic.Lib.Pointwise

@[expose] public section

noncomputable section

namespace Cert.KernelIdeal.Val

open Cert.KernelIdeal Cert.KernelIdeal.Gen
open Idealize.ShloMosaic Idealize.ShloMosaic.Pointwise

/-! ## Folds -/

/-- A fold of minima that starts from the largest value is the infimum. -/
theorem fold_min_eq {ι : Type} [DecidableEq ι] (f : ι → EReal) (s : Finset ι) :
    Finset.fold min (Ideal.ofBits FTy.f32 2139095040#32) f s = s.inf f := by
  have h : Ideal.ofBits FTy.f32 2139095040#32 = ⊤ := by simp [Ideal.ofBits, Ideal.ieee]
  rw [h]; rfl

/-- A signed maximum over a set is the start or one of the elements, and bounds them all. -/
theorem fold_maxsi {ι : Type} [DecidableEq ι] (b : BitVec 32) (f : ι → BitVec 32) (s : Finset ι) :
    (Finset.fold IntOp.maxsi b f s = b ∨ ∃ i ∈ s, Finset.fold IntOp.maxsi b f s = f i) ∧
      ∀ i ∈ s, (f i).toInt ≤ (Finset.fold IntOp.maxsi b f s).toInt := by
  induction s using Finset.induction with
  | empty => exact ⟨.inl rfl, fun i h => absurd h (Finset.notMem_empty i)⟩
  | insert a s ha ih =>
    rw [Finset.fold_insert ha]
    generalize Finset.fold IntOp.maxsi b f s = r at ih
    obtain ⟨h1, h2⟩ := ih
    unfold IntOp.maxsi
    by_cases hc : r.slt (f a) = true
    · rw [if_pos hc]
      have hc' : r.toInt < (f a).toInt := by simpa [BitVec.slt] using hc
      refine ⟨.inr ⟨a, Finset.mem_insert_self a s, rfl⟩, fun i hi => ?_⟩
      rcases Finset.mem_insert.1 hi with rfl | hi
      · exact le_rfl
      · exact (h2 i hi).trans hc'.le
    · rw [if_neg hc]
      have hc' : (f a).toInt ≤ r.toInt := by simpa [BitVec.slt] using hc
      refine ⟨h1.imp_right fun ⟨i, hi, e⟩ => ⟨i, Finset.mem_insert_of_mem hi, e⟩, fun i hi => ?_⟩
      rcases Finset.mem_insert.1 hi with rfl | hi
      · exact hc'
      · exact h2 i hi

/-- A signed minimum over a set is the start or one of the elements, and is below them all. -/
theorem fold_minsi {ι : Type} [DecidableEq ι] (b : BitVec 32) (f : ι → BitVec 32) (s : Finset ι) :
    (Finset.fold IntOp.minsi b f s = b ∨ ∃ i ∈ s, Finset.fold IntOp.minsi b f s = f i) ∧
      ∀ i ∈ s, (Finset.fold IntOp.minsi b f s).toInt ≤ (f i).toInt := by
  induction s using Finset.induction with
  | empty => exact ⟨.inl rfl, fun i h => absurd h (Finset.notMem_empty i)⟩
  | insert a s ha ih =>
    rw [Finset.fold_insert ha]
    generalize Finset.fold IntOp.minsi b f s = r at ih
    obtain ⟨h1, h2⟩ := ih
    unfold IntOp.minsi
    by_cases hc : (f a).slt r = true
    · rw [if_pos hc]
      have hc' : (f a).toInt < r.toInt := by simpa [BitVec.slt] using hc
      refine ⟨.inr ⟨a, Finset.mem_insert_self a s, rfl⟩, fun i hi => ?_⟩
      rcases Finset.mem_insert.1 hi with rfl | hi
      · exact le_rfl
      · exact hc'.le.trans (h2 i hi)
    · rw [if_neg hc]
      have hc' : r.toInt ≤ (f a).toInt := by simpa [BitVec.slt] using hc
      refine ⟨h1.imp_right fun ⟨i, hi, e⟩ => ⟨i, Finset.mem_insert_of_mem hi, e⟩, fun i hi => ?_⟩
      rcases Finset.mem_insert.1 hi with rfl | hi
      · exact hc'
      · exact h2 i hi

/-- A small number as a signed word. -/
theorem toInt_small (n : ℕ) (h : n < 2 ^ 30) : (BitVec.ofNat 32 n).toInt = n := by
  rw [BitVec.toInt_ofNat']
  simp only [Int.bmod]; omega

/-- The signed maximum of the numbers of the marked elements, -1 standing for the others, is the number of a marked element that no other exceeds. -/
theorem last_marked {ι : Type} [Fintype ι] [DecidableEq ι] (p : ι → Prop) [DecidablePred p] (g : ι → ℕ)
    (hg : ∀ x, g x < 2 ^ 30) (hp : ∃ x, p x) :
    ∃ x, p x ∧ Finset.fold IntOp.maxsi (2147483648#32) (fun x => if p x then BitVec.ofNat 32 (g x) else 4294967295#32) Finset.univ = BitVec.ofNat 32 (g x) ∧
      ∀ y, p y → g y ≤ g x := by
  obtain ⟨h1, h2⟩ := fold_maxsi (2147483648#32) (fun x => if p x then BitVec.ofNat 32 (g x) else 4294967295#32) Finset.univ
  generalize Finset.fold IntOp.maxsi (2147483648#32) (fun x => if p x then BitVec.ofNat 32 (g x) else 4294967295#32) Finset.univ = r at h1 h2
  obtain ⟨x₀, hx₀⟩ := hp
  have h3 : (0 : ℤ) ≤ r.toInt := by
    have := h2 x₀ (Finset.mem_univ _)
    simp only [if_pos hx₀] at this
    rw [toInt_small _ (hg x₀)] at this
    omega
  rcases h1 with rfl | ⟨x, -, rfl⟩
  · exact absurd h3 (by decide)
  · by_cases hx : p x
    · refine ⟨x, hx, if_pos hx, fun y hy => ?_⟩
      have := h2 y (Finset.mem_univ _)
      simp only [if_pos hx, if_pos hy] at this
      rw [toInt_small _ (hg x), toInt_small _ (hg y)] at this
      omega
    · simp only [if_neg hx] at h3
      exact absurd h3 (by decide)

/-- The signed minimum of the numbers of the marked elements, a large number standing for the others, is the number of a marked element that no other undercuts. -/
theorem first_marked {ι : Type} [Fintype ι] [DecidableEq ι] (p : ι → Prop) [DecidablePred p] (g : ι → ℕ)
    (hg : ∀ x, g x < 2 ^ 29) (hp : ∃ x, p x) :
    ∃ x, p x ∧ Finset.fold IntOp.minsi (2147483647#32) (fun x => if p x then BitVec.ofNat 32 (g x) else 1073741824#32) Finset.univ = BitVec.ofNat 32 (g x) ∧
      ∀ y, p y → g x ≤ g y := by
  obtain ⟨h1, h2⟩ := fold_minsi (2147483647#32) (fun x => if p x then BitVec.ofNat 32 (g x) else 1073741824#32) Finset.univ
  generalize Finset.fold IntOp.minsi (2147483647#32) (fun x => if p x then BitVec.ofNat 32 (g x) else 1073741824#32) Finset.univ = r at h1 h2
  obtain ⟨x₀, hx₀⟩ := hp
  have hg' : ∀ x, g x < 2 ^ 30 := fun x => (hg x).trans (by norm_num)
  have h3 : r.toInt < 2 ^ 29 := by
    have := h2 x₀ (Finset.mem_univ _)
    simp only [if_pos hx₀] at this
    rw [toInt_small _ (hg' x₀)] at this
    have := hg x₀
    omega
  rcases h1 with rfl | ⟨x, -, rfl⟩
  · exact absurd h3 (by decide)
  · by_cases hx : p x
    · refine ⟨x, hx, if_pos hx, fun y hy => ?_⟩
      have := h2 y (Finset.mem_univ _)
      simp only [if_pos hx, if_pos hy] at this
      rw [toInt_small _ (hg' x), toInt_small _ (hg' y)] at this
      omega
    · simp only [if_neg hx] at h3
      exact absurd h3 (by decide)

/-- Turning a truth value into a number. -/
theorem sitofp_bool (b : Bool) : (FloatOps.sitofp (F := Ideal) FTy.f32 (BitVec.setWidth 32 (BitVec.ofBool b)) : EReal) = if b = true then 1 else 0 := by
  cases b <;> simp [FloatOps.sitofp]

/-! ## The lane and the block -/

/-- The least element of a row of lanes. -/
def gminOf (v : FVec Ideal S1x1024 .f32) : EReal :=
  extractAt ![0, 0, 0] (shapeCast S1x1x1 (multiReduction .minimumf [1, 2] S1 (shapeCast S1x1x1024 v shapeCasts_S1x1024_S1x1x1024) 0x7F800000#32 reduces_S1x1x1024_S1 (.inl rfl) rfl) shapeCasts_S1_S1x1x1) inpos_S1x1x1_p0_0_0
/-- The first lane that attains it, as a word. -/
def laneOf (v : FVec Ideal S1x1024 .f32) (g : EReal) : BitVec 32 :=
  extractAt ![0, 0, 0] (shapeCast S1x1x1 (multiReductionI .minsi [1, 2] S1 (shapeCast S1x1x1024 (select (cmpf (F := Ideal) (φ := .f32) .oeq v (broadcast S1x1024 g)) (iota .tc S1x1024 32 [1] iota_S1x1024_d1_w32) (broadcast S1x1024 1073741824#32)) shapeCasts_S1x1024_S1x1x1024) 2147483647#32 reduces_S1x1x1024_S1 rfl) shapeCasts_S1_S1x1x1) inpos_S1x1x1_p0_0_0
/-- A row with a one in the given lane. -/
def hot (w : BitVec 32) : FVec Ideal S1x1024 .f32 :=
  sitofp .f32 (extui 32 (cmpi .eq (iota .tc S1x1024 32 [1] iota_S1x1024_d1_w32) (broadcast S1x1024 w)) natLt_1_32)
/-- The row of the picked lane, by its parts. -/
theorem pay22_eq (T : Vec Ideal S32x1024 .f32) : k0_pay22 T = hot (laneOf (k0_pay20 T) (gminOf (k0_pay20 T))) := rfl

/-- The least element over blocks of a lane. -/
def colmin (T : FVec Ideal S32x1024 .f32) (l : Fin 1024) : EReal := Finset.univ.inf fun k : Fin 32 => T (ix2 k l)

/-- The kernel's least element over the blocks, lane by lane. -/
theorem pay20_at (T : FVec Ideal S32x1024 .f32) (l : Fin 1024) : k0_pay20 (F := Ideal) T (ix2 0 l) = colmin T l := by
  have : k0_pay20 (F := Ideal) T (ix2 0 l) = Finset.fold min (Ideal.ofBits FTy.f32 2139095040#32) (fun x => T (ix2 x l)) Finset.univ := by
    pointwise [k0_pay20]
  rw [this, fold_min_eq]; rfl

/-- The least element of a row of lanes bounds it and is attained. -/
theorem gminOf_spec (v : FVec Ideal S1x1024 .f32) : (∃ l, gminOf v = v (ix2 0 l)) ∧ ∀ l, gminOf v ≤ v (ix2 0 l) := by
  have : gminOf v = Finset.fold min (Ideal.ofBits FTy.f32 2139095040#32) (fun x : Fin 1 × Fin 1024 => v (ix2 0 x.2)) Finset.univ := by
    pointwise [gminOf]
  rw [this, fold_min_eq]
  obtain ⟨x, -, h⟩ := Finset.exists_mem_eq_inf (Finset.univ : Finset (Fin 1 × Fin 1024)) ⟨(0, 0), Finset.mem_univ _⟩ (fun x => v (ix2 0 x.2))
  exact ⟨⟨x.2, h⟩, fun l => Finset.inf_le (f := fun x : Fin 1 × Fin 1024 => v (ix2 0 x.2)) (Finset.mem_univ (0, l))⟩

/-- The picked lane is the first that attains the least element. -/
theorem laneOf_spec (v : FVec Ideal S1x1024 .f32) :
    ∃ L : Fin 1024, laneOf v (gminOf v) = BitVec.ofNat 32 L.val ∧ (∀ l, v (ix2 0 L) ≤ v (ix2 0 l)) ∧
      ∀ l, v (ix2 0 l) = v (ix2 0 L) → L ≤ l := by
  have : ∀ g, laneOf v g = Finset.fold IntOp.minsi (2147483647#32) (fun x : Fin 1 × Fin 1024 => if v (ix2 0 x.2) = g then BitVec.ofNat 32 ↑x.2 else 1073741824#32) Finset.univ := by
    intro g
    pointwise [laneOf]
  rw [this]
  obtain ⟨⟨l₀, h₀⟩, h⟩ := gminOf_spec v
  obtain ⟨x, h1, h2, h3⟩ := first_marked (fun x : Fin 1 × Fin 1024 => v (ix2 0 x.2) = gminOf v) (fun x => x.2.val) (fun x => x.2.isLt.trans (by norm_num)) ⟨(0, l₀), h₀.symm⟩
  refine ⟨x.2, h2, fun l => h1.trans_le (h l), fun l hl => h3 (0, l) (hl.trans h1)⟩

/-- The row of the picked lane. -/
theorem pay22_spec (T : FVec Ideal S32x1024 .f32) :
    ∃ L : Fin 1024, (∀ l, k0_pay22 (F := Ideal) T (ix2 0 l) = if l = L then (1 : EReal) else 0) ∧ (∀ l, colmin T L ≤ colmin T l) ∧
      ∀ l, colmin T l = colmin T L → L ≤ l := by
  obtain ⟨L, h1, h2, h3⟩ := laneOf_spec (k0_pay20 T)
  simp only [pay20_at] at h2 h3
  refine ⟨L, fun l => ?_, h2, h3⟩
  rw [pay22_eq, h1]
  have : hot (BitVec.ofNat 32 L.val) (ix2 0 l) = FloatOps.sitofp (F := Ideal) FTy.f32 (BitVec.setWidth 32 (BitVec.ofBool (decide (BitVec.ofNat 32 l.val = BitVec.ofNat 32 L.val)))) := by
    pointwise [hot]
    rfl
  rw [this, sitofp_bool]
  have hl := l.isLt
  have hL := L.isLt
  have e : BitVec.ofNat 32 l.val = BitVec.ofNat 32 L.val ↔ l = L := by
    constructor
    · intro e
      have := congrArg BitVec.toNat e
      simp only [BitVec.toNat_ofNat] at this
      exact Fin.ext (by omega)
    · rintro rfl; rfl
  simp only [decide_eq_true_eq, e]

/-- The picked block is the last whose minimum in the picked lane is the overall one. -/
theorem bsel_spec (T : FVec Ideal S32x1024 .f32) (L : Fin 1024) (hL : ∀ l, k0_pay22 (F := Ideal) T (ix2 0 l) = if l = L then (1 : EReal) else 0) :
    ∃ k : Fin 32, Hand.bselOf (F := Ideal) T = BitVec.ofNat 32 k.val ∧ T (ix2 k L) = colmin T L ∧
      ∀ k' : Fin 32, T (ix2 k' L) = colmin T L → k' ≤ k := by
  have : Hand.bselOf (F := Ideal) T = Finset.fold IntOp.maxsi (2147483648#32) (fun x : Fin 32 × Fin 1024 => if 0 < FloatOps.sitofp (F := Ideal) FTy.f32 (BitVec.setWidth 32 (BitVec.ofBool (decide (T (ix2 x.1 x.2) = k0_pay20 T (ix2 0 x.2))))) * k0_pay22 T (ix2 0 x.2) then BitVec.ofNat 32 ↑x.1 else 4294967295#32) Finset.univ := by
    pointwise [Hand.bselOf, k0_pay23]
  rw [this]
  have hp : ∀ x : Fin 32 × Fin 1024, 0 < FloatOps.sitofp (F := Ideal) FTy.f32 (BitVec.setWidth 32 (BitVec.ofBool (decide (T (ix2 x.1 x.2) = k0_pay20 T (ix2 0 x.2))))) * k0_pay22 T (ix2 0 x.2) ↔ (T (ix2 x.1 x.2) = colmin T x.2 ∧ x.2 = L) := by
    intro x
    rw [sitofp_bool, hL, pay20_at]
    obtain ⟨a, l⟩ := x
    simp only [decide_eq_true_eq]
    by_cases h1 : T (ix2 a l) = colmin T l
    · by_cases h2 : l = L
      · rw [if_pos h1, if_pos h2]; exact ⟨fun _ => ⟨h1, h2⟩, fun _ => by norm_num⟩
      · rw [if_neg h2]; simp [h2]
    · rw [if_neg h1]; simp [h1]
  simp only [hp]
  obtain ⟨k₀, -, hk₀⟩ := Finset.exists_mem_eq_inf (Finset.univ : Finset (Fin 32)) ⟨0, Finset.mem_univ _⟩ (fun k => T (ix2 k L))
  obtain ⟨x, ⟨h1, h1'⟩, h2, h3⟩ := last_marked (fun x : Fin 32 × Fin 1024 => T (ix2 x.1 x.2) = colmin T x.2 ∧ x.2 = L) (fun x => x.1.val) (fun x => x.1.isLt.trans (by norm_num)) ⟨(k₀, L), hk₀.symm, rfl⟩
  refine ⟨x.1, h2, ?_, fun k' hk' => h3 (k', L) ⟨hk', rfl⟩⟩
  rw [← h1']; exact h1

/-- The row offset of the picked block stays inside the table. -/
theorem chk_of (T : FVec Ideal S32x1024 .f32) (i : grid0.Coords) : k0_chk1 i (Hand.bselOf (F := Ideal) T) := by
  obtain ⟨L, hL, -, -⟩ := pay22_spec T
  obtain ⟨k, hk, -, -⟩ := bsel_spec T L hL
  rw [hk]
  intro _ _ a
  have hk := k.isLt
  have h : (Scalar.muli (BitVec.ofNat 32 k.val) 512#32).toNat = k.val * 512 := by
    simp only [Scalar.muli, IntOp.muli, BitVec.toNat_mul, BitVec.toNat_ofNat]; omega
  have h' : k0_off4 (BitVec.ofNat 32 k.val) = ![k.val * 512, 0] := by
    rw [← h]; rfl
  rw [h']
  match a with
  | 0 => show k.val * 512 + 512 ≤ 16384; omega
  | 1 => show 0 + 1024 ≤ 1024; omega

/-- The kernel's own check of the picked block holds on every argument. -/
theorem chk (m : (ℓ : Loc nD τ sig) → Buf (Elt Ideal) ℓ) (c : Dev nD) : Hand.ChkV (F := Ideal) m c := chk_of _ _

end Cert.KernelIdeal.Val
-- ==== Proof.KVal.lean ====
/-
  What the kernel's first half computes, as the step's mathematics: the cell, the weights, the read vector.
-/
module

public import proofs.«01_k».proof.Proof.KIn
public import proofs.«01_k».proof.Proof.MA
public import Idealize.ShloMosaic.Lib.Pointwise

@[expose] public section

noncomputable section

namespace Cert.KernelIdeal.Val

open Cert.KernelIdeal Cert.KernelIdeal.Gen Cert.KernelIdeal.Hand
open Idealize.ShloMosaic Idealize.ShloMosaic.TcCoe Idealize.ShloMosaic.Pointwise
open Cert.Val (Args)

variable (m : (ℓ : Loc nD τ sig) → Buf (Elt Ideal) ℓ) (c : Dev nD)

local notation "ix1" => Idealize.ShloMosaic.ix1
local notation "ix2" => Idealize.ShloMosaic.ix2
local notation "ix3" => Idealize.ShloMosaic.ix3

/-! ## Loads of parts -/

theorem ld_Wk0 (X : Vec Ideal S192x256 .f32) (k : Fin 128) (j : Fin 256) :
    View.ld X (Rect.unit (s := S192x256) ![0, 0] S128x256.size inb_S192x256_S128x256_0_0) (ix2 k j) = X (ix2 ⟨k.val, by omega⟩ j) :=
  congrArg X (funext fun a => Fin.ext (by
    match a with
    | 0 => show 0 + 1 * k.val = k.val; omega
    | 1 => show 0 + 1 * j.val = j.val; omega))
theorem ld_Wk1 (X : Vec Ideal S192x256 .f32) (k : Fin 64) (j : Fin 256) :
    View.ld X (Rect.unit (s := S192x256) ![128, 0] S64x256.size inb_S192x256_S64x256_128_0) (ix2 k j) = X (ix2 ⟨128 + k.val, by omega⟩ j) :=
  congrArg X (funext fun a => Fin.ext (by
    match a with
    | 0 => show 128 + 1 * k.val = 128 + k.val; omega
    | 1 => show 0 + 1 * j.val = j.val; omega))
theorem ld_bi (X : Vec Ideal S8x256 .f32) (j : Fin 256) :
    View.ld X (Rect.unit (s := S8x256) ![0, 0] S1x256.size inb_S8x256_S1x256_0_0) (ix2 0 j) = X (ix2 0 j) :=
  congrArg X (funext fun a => Fin.ext (by
    match a with
    | 0 => rfl
    | 1 => show 0 + 1 * j.val = j.val; omega))
theorem ld_g (X : Vec Ideal S8x128 .f32) :
    View.ld X (Rect.unit (s := S8x128) ![0, 0] S1x1.size inb_S8x128_S1x1_0_0) (ix2 0 0) = X (ix2 0 0) :=
  congrArg X (funext fun a => Fin.ext (by
    match a with
    | 0 => rfl
    | 1 => rfl))

/-! ## The cell -/

section Cell
variable (x0 : FVec Ideal S1024x128 .f32) (w : FVec Ideal S128x256 .f32) (r : FVec Ideal S64x1024 .f32) (w2 : FVec Ideal S64x256 .f32)
  (h : FVec Ideal S64x1024 .f32) (u : FVec Ideal S64x256 .f32) (bi : FVec Ideal S1x256 .f32) (cc : FVec Ideal S64x1024 .f32)

theorem pay11_at (b : Fin 1024) (j : Fin 256) : k0_pay11 (F := Ideal) x0 w r w2 h u bi (ix2 b j) =
    ∑ x : Fin 128, x0 (ix2 b x) * w (ix2 x j) + ∑ x : Fin 64, r (ix2 x b) * w2 (ix2 x j) + ∑ x : Fin 64, h (ix2 x b) * u (ix2 x j) + bi (ix2 0 j) := by
  pointwise [k0_pay11]

/-- The identity matrix. -/
theorem pay12_at (i j : Fin 64) : k0_pay12 (F := Ideal) (ix2 i j) = if i = j then (1 : EReal) else 0 := by
  have : k0_pay12 (F := Ideal) (ix2 i j) = FloatOps.sitofp (F := Ideal) FTy.f32 (BitVec.setWidth 32 (BitVec.ofBool (decide (BitVec.ofNat 32 i.val = BitVec.ofNat 32 j.val)))) := by
    pointwise [k0_pay12]
    rfl
  rw [this, sitofp_bool]
  have e : BitVec.ofNat 32 i.val = BitVec.ofNat 32 j.val ↔ i = j := by
    constructor
    · intro e
      have := congrArg BitVec.toNat e
      simp only [BitVec.toNat_ofNat] at this
      exact Fin.ext (by omega)
    · rintro rfl; rfl
  simp only [decide_eq_true_eq, e]

theorem pay13_at (b : Fin 1024) (j : Fin 64) : k0_pay13 (F := Ideal) x0 w r w2 h u bi cc (ix2 b j) =
    Cert.Val.sg (k0_pay11 (F := Ideal) x0 w r w2 h u bi (ix2 b ⟨64 + j.val, by omega⟩)) * cc (ix2 j b) +
      Cert.Val.sg (k0_pay11 (F := Ideal) x0 w r w2 h u bi (ix2 b ⟨j.val, by omega⟩)) * Ideal.tanh (k0_pay11 (F := Ideal) x0 w r w2 h u bi (ix2 b ⟨128 + j.val, by omega⟩)) := by
  have e : ∑ x : Fin 64, cc (ix2 x b) * k0_pay12 (F := Ideal) (ix2 x j) = cc (ix2 j b) := by
    simp only [pay12_at]
    rw [Finset.sum_eq_single j (fun x _ hx => by rw [if_neg hx]; exact mul_zero _) (fun hx => absurd (Finset.mem_univ j) hx), if_pos rfl]
    exact mul_one _
  rw [← e]
  pointwise [k0_pay13]
  rfl

theorem pay14_at (b : Fin 1024) (j : Fin 64) : k0_pay14 (F := Ideal) x0 w r w2 h u bi cc (ix2 b j) =
    Cert.Val.sg (k0_pay11 (F := Ideal) x0 w r w2 h u bi (ix2 b ⟨192 + j.val, by omega⟩)) * Ideal.tanh (k0_pay13 (F := Ideal) x0 w r w2 h u bi cc (ix2 b j)) := by
  pointwise [k0_pay14]
  rfl

/-- A product with the identity turns a matrix round. -/
theorem turn (x : FVec Ideal S1024x64 .f32) (b : Fin 1024) (j : Fin 64) : ∑ k : Fin 64, k0_pay12 (F := Ideal) (ix2 j k) * x (ix2 b k) = x (ix2 b j) := by
  simp only [pay12_at]
  rw [Finset.sum_eq_single j (fun k _ hk => by rw [if_neg (Ne.symm hk)]; exact zero_mul _) (fun hx => absurd (Finset.mem_univ j) hx), if_pos rfl]
  exact one_mul _

theorem pay15_at (b : Fin 1024) (j : Fin 64) : k0_pay15 (F := Ideal) x0 w r w2 h u bi cc (ix2 j b) = k0_pay14 (F := Ideal) x0 w r w2 h u bi cc (ix2 b j) := by
  rw [← turn (k0_pay14 (F := Ideal) x0 w r w2 h u bi cc) b j]
  pointwise [k0_pay15]

theorem pay1_at (x : FVec Ideal S1024x64 .f32) (b : Fin 1024) (j : Fin 64) : k0_pay1 (F := Ideal) k0_pay12 x (ix2 j b) = x (ix2 b j) := by
  rw [← turn x b j]
  pointwise [k0_pay1]
end Cell

/-- The gates before their nonlinearities. -/
theorem preV (b : Fin 1024) (j : Fin 256) :
    k0_pay11 (F := Ideal) (xb0 m c (pt 0 (by decide))) (View.ld (xb4 m c (pt 0 (by decide))) (Rect.unit (s := S192x256) ![0, 0] S128x256.size inb_S192x256_S128x256_0_0)) (xb1 m c (pt 0 (by decide)))
      (View.ld (xb4 m c (pt 0 (by decide))) (Rect.unit (s := S192x256) ![128, 0] S64x256.size inb_S192x256_S64x256_128_0)) (xb2 m c (pt 0 (by decide))) (xb5 m c (pt 0 (by decide)))
      (View.ld (xb6 m c (pt 0 (by decide))) (Rect.unit (s := S8x256) ![0, 0] S1x256.size inb_S8x256_S1x256_0_0)) (ix2 b j) = Cert.Val.pre (args m c) b j := by
  rw [pay11_at]
  refine congrArg₂ HAdd.hAdd (congrArg₂ HAdd.hAdd (congrArg₂ HAdd.hAdd (Finset.sum_congr rfl fun k _ => ?_) (Finset.sum_congr rfl fun k _ => ?_)) (Finset.sum_congr rfl fun k _ => ?_)) ?_
  · exact congrArg₂ HMul.hMul (xb0_at m c _ b k) ((ld_Wk0 _ k j).trans (xb4_at m c _ _ j))
  · exact congrArg₂ HMul.hMul (xb1_at m c _ k b) ((ld_Wk1 _ k j).trans (xb4_at m c _ _ j))
  · exact congrArg₂ HMul.hMul (xb2_at m c _ k b) (xb5_at m c _ k j)
  · exact (ld_bi _ j).trans (xb6_at m c _ 0 j)

/-- The new cell state. -/
theorem cnewV_at (b : Fin 1024) (j : Fin 64) : cnewV m c (ix2 b j) = Cert.Val.cn (args m c) b j := by
  unfold cnewV cnewOf
  rw [pay13_at]
  simp only [preV, xb3_at]
  rfl

/-- The key. -/
theorem keyV_at (b : Fin 1024) (j : Fin 64) : keyV m c (ix2 b j) = Cert.Val.ky (args m c) b j := by
  unfold keyV keyOf
  rw [pay14_at, preV]
  exact congrArg (fun z => _ * Ideal.tanh z) (cnewV_at m c b j)

/-- The key along the lanes. -/
theorem keyTV_at (b : Fin 1024) (j : Fin 64) : keyTV m c (ix2 j b) = Cert.Val.ky (args m c) b j := by
  unfold keyTV keyTOf
  rw [pay15_at]
  exact keyV_at m c b j

/-- The new cell state along the lanes. -/
theorem cnewTV_at (b : Fin 1024) (j : Fin 64) : cnewTV m c (ix2 j b) = Cert.Val.cn (args m c) b j := by
  unfold cnewTV
  rw [pay1_at]
  exact cnewV_at m c b j

/-! ## The weights -/

theorem pay3_at (x : FVec Ideal S1024x64 .f32) (b : Fin 1024) (j : Fin 64) : k0_pay3 (F := Ideal) x (ix2 b j) = Cert.Val.unit (fun k => x (ix2 b k)) j := by
  pointwise [k0_pay3]
  rfl
theorem pay2_at (x : FVec Ideal S1024x64 .f32) (b : Fin 1024) (j : Fin 64) : k0_pay2 (F := Ideal) x (ix2 b j) = x (ix2 b j) := by
  pointwise [k0_pay2]
theorem pay16_at (x : FVec Ideal S64x512 .f32) (j : Fin 64) (r : Fin 512) : k0_pay16 (F := Ideal) x (ix2 j r) = x (ix2 j r) := by
  pointwise [k0_pay16]
theorem pay17_at (x : FVec Ideal S64x512 .f32) (nk : FVec Ideal S1024x64 .f32) (r : Fin 512) (l : Fin 1024) : k0_pay17 (F := Ideal) x nk (ix2 r l) =
    Ideal.div (Ideal.exp (∑ k : Fin 64, Cert.Val.unit (fun i => k0_pay16 (F := Ideal) x (ix2 i r)) k * nk (ix2 l k)))
      (∑ l' : Fin 1024, Ideal.exp (∑ k : Fin 64, Cert.Val.unit (fun i => k0_pay16 (F := Ideal) x (ix2 i r)) k * nk (ix2 l' k))) := by
  pointwise [k0_pay17]
  rfl
theorem pay18_at (g : FVec Ideal S1x1 .f32) (x y : FVec Ideal S512x1024 .f32) (r : Fin 512) (l : Fin 1024) :
    k0_pay18 (F := Ideal) g x y (ix2 r l) = g (ix2 0 0) * x (ix2 r l) + (1 - g (ix2 0 0)) + y (ix2 r l) := by
  pointwise [k0_pay18]
theorem pay19_at (x : FVec Ideal S64x512 .f32) (nk : FVec Ideal S1024x64 .f32) (g : FVec Ideal S1x1 .f32) (w y z : FVec Ideal S512x1024 .f32) (r : Fin 512) (l : Fin 1024) :
    k0_pay19 (F := Ideal) x nk g w y z (ix2 r l) = Ideal.ofBits FTy.f32 1064514355#32 * z (ix2 r l) + k0_pay17 (F := Ideal) x nk (ix2 r l) + k0_pay18 (F := Ideal) g w y (ix2 r l) := by
  pointwise [k0_pay19]
theorem pay6_at (x : FVec Ideal S64x512 .f32) (y : FVec Ideal S512x1024 .f32) (j : Fin 64) (l : Fin 1024) :
    k0_pay6 (F := Ideal) x y (ix2 j l) = ∑ r : Fin 512, x (ix2 j r) * y (ix2 r l) := by
  pointwise [k0_pay6]
theorem pay10_at (x : FVec Ideal S64x512 .f32) (y : FVec Ideal S512x1024 .f32) (z : FVec Ideal S64x1024 .f32) (j : Fin 64) (l : Fin 1024) :
    k0_pay10 (F := Ideal) x y z (ix2 j l) = z (ix2 j l) + k0_pay6 (F := Ideal) x y (ix2 j l) := by
  pointwise [k0_pay10]

/-- The key scaled to unit length. -/
theorem nkV_at (b : Fin 1024) (j : Fin 64) : nkV m c (ix2 b j) = Cert.Val.unit (Cert.Val.ky (args m c) b) j := by
  unfold nkV
  rw [pay3_at]
  simp only [keyV_at]

/-- The key as the blocks read it. -/
theorem kyV_at (b : Fin 1024) (j : Fin 64) : kyV m c (ix2 b j) = Cert.Val.ky (args m c) b j := by
  unfold kyV
  rw [pay2_at]
  exact keyV_at m c b j

/-- The number of row `r` of the block of point `t`. -/
def row (n : ℕ) (h : n < 32) (r : Fin 512) : Fin 16384 := ⟨n * 512 + r.val, by omega⟩

/-- The read weights of a block. -/
theorem pay17V_at (t : Fin cfg0.N) (h : t.val < 32) (r : Fin 512) (l : Fin 1024) :
    k0_pay17 (F := Ideal) (xb8 m c t) (nkV m c) (ix2 r l) = Cert.Val.cwr (args m c) (row t.val h r) l := by
  rw [pay17_at]
  have e : ∀ l, ∑ k : Fin 64, Cert.Val.unit (fun i => k0_pay16 (F := Ideal) (xb8 m c t) (ix2 i r)) k * nkV m c (ix2 l k) = Cert.Val.cosv (args m c) (row t.val h r) l := by
    intro l
    refine Finset.sum_congr rfl fun k _ => ?_
    rw [nkV_at, mul_comm]
    refine congrArg (fun z => _ * z) (congrArg (fun v => Cert.Val.unit v k) (funext fun i => ?_))
    rw [pay16_at]
    exact xb8_at m c t h i r
  simp only [e]
  rfl

theorem cwrV_at (t : Fin cfg0.N) (h : t.val < 32) (r : Fin 512) (l : Fin 1024) : cwrV m c t (ix2 r l) = Cert.Val.cwr (args m c) (row t.val h r) l :=
  pay17V_at m c t h r l

/-- The write weights of a block. -/
theorem cwwV_at (t : Fin cfg0.N) (h : t.val < 32) (r : Fin 512) (l : Fin 1024) : cwwV m c t (ix2 r l) = Cert.Val.ww (args m c) (row t.val h r) l := by
  unfold cwwV cwwOf
  rw [pay18_at, ld_g, xb7_at, xb11_at m c t h, xb10_at m c t h]
  rfl

/-- The usage weights of a block. -/
theorem cwuV_at (t : Fin cfg0.N) (h : t.val < 32) (r : Fin 512) (l : Fin 1024) : cwuV m c t (ix2 r l) = Cert.Val.cwu (args m c) (row t.val h r) l := by
  unfold cwuV cwuOf
  rw [pay19_at, pay17V_at m c t h, xb9_at m c t h]
  exact congrArg (fun z => _ + z) (cwwV_at m c t h r l)

/-! ## The read vector -/

/-- A row's part of the read vector. -/
def part (a : Args) (b : Fin 1024) (u : Fin 64) (n : ℕ) : EReal := if h : n < 16384 then Cert.Val.cwr a ⟨n, h⟩ b * a.M ⟨n, h⟩ u else 0

theorem pay6V_at (t : Fin cfg0.N) (h : t.val < 32) (b : Fin 1024) (u : Fin 64) :
    k0_pay6 (F := Ideal) (k0_pay16 (F := Ideal) (xb8 m c t)) (cwrV m c t) (ix2 u b) = ∑ r ∈ Finset.range 512, part (args m c) b u (t.val * 512 + r) := by
  rw [pay6_at, Finset.sum_range]
  refine Finset.sum_congr rfl fun r _ => ?_
  rw [pay16_at, cwrV_at m c t h, xb8_at m c t h, part, dif_pos (by omega), mul_comm]
  rfl

theorem readV_at (n : ℕ) (h : n < 32) (b : Fin 1024) (u : Fin 64) : readV m c n (ix2 u b) = ∑ k ∈ Finset.range ((n + 1) * 512), part (args m c) b u k := by
  induction n with
  | zero =>
    refine (pay6V_at m c (pt 0 (by decide)) (by decide) b u).trans ?_
    refine Finset.sum_congr rfl fun r _ => ?_
    show part _ _ _ (0 * 512 + r) = _
    rw [Nat.zero_mul, Nat.zero_add]
  | succ n ih =>
    have h' : n + 1 < 64 := by omega
    unfold readV
    rw [dif_pos h', pay10_at, ih (by omega), pay6V_at m c (pt (n + 1) h') h b u, Nat.add_mul (n + 1) 1 512, Nat.one_mul, Finset.sum_range_add]

/-- The read vector. -/
theorem read_at (b : Fin 1024) (u : Fin 64) : readV m c 31 (ix2 u b) = Cert.Val.rd (args m c) b u := by
  rw [readV_at m c 31 (by decide)]
  show ∑ k ∈ Finset.range 16384, _ = _
  rw [Finset.sum_range]
  refine Finset.sum_congr rfl fun k _ => ?_
  rw [part, dif_pos k.isLt]

end Cert.KernelIdeal.Val

end
-- ==== Proof.KVal2.lean ====
/-
  The selection and the second half of the grid: the least-used weights, the picked row and the new memory, as the step's mathematics.
-/
module

public import proofs.«01_k».proof.Proof.KVal

@[expose] public section

noncomputable section

namespace Cert.KernelIdeal.Val

open Cert.KernelIdeal Cert.KernelIdeal.Gen Cert.KernelIdeal.Hand
open Idealize.ShloMosaic Idealize.ShloMosaic.TcCoe Idealize.ShloMosaic.Pointwise
open Cert.Val (Args)

variable (m : (ℓ : Loc nD τ sig) → Buf (Elt Ideal) ℓ) (c : Dev nD)

local notation "ix1" => Idealize.ShloMosaic.ix1
local notation "ix2" => Idealize.ShloMosaic.ix2
local notation "ix3" => Idealize.ShloMosaic.ix3

/-! ## Rows and blocks -/

theorem bpt_val (n : ℕ) (h : n < 32) : (bpt n).val = n := Nat.mod_eq_of_lt (by omega)

/-- Every row lies in a block. -/
theorem row_div (s : Fin 16384) : row (s.val / 512) (by omega) ⟨s.val % 512, Nat.mod_lt _ (by decide)⟩ = s :=
  Fin.ext (show s.val / 512 * 512 + s.val % 512 = s.val by omega)

/-- Equal block numbers name equal rows. -/
theorem row_congr {n n' : ℕ} (e : n = n') (h : n < 32) (h' : n' < 32) (r : Fin 512) : row n h r = row n' h' r := by subst e; rfl

/-! ## Reading a block of a table -/

theorem ld_T24 (X : Vec Ideal S16384x1024 .i8) (off : Fin 2 → ℕ) (n : ℕ) (h : n < 32) (e : off = ![n * 512, 0])
    (inb : ∀ k, off k + S512x1024.size k ≤ S16384x1024.size k) (r : Fin 512) (l : Fin 1024) :
    View.ld X (Rect.unit (s := S16384x1024) off S512x1024.size inb) (ix2 r l) = X (ix2 (row n h r) l) := by
  subst e
  exact congrArg X (funext fun a => Fin.ext (by
    match a with
    | 0 => show n * 512 + 1 * r.val = n * 512 + r.val; omega
    | 1 => show 0 + 1 * l.val = l.val; omega))
theorem ld_T25 (X : Vec Ideal S32x1024 .f32) (off : Fin 2 → ℕ) (n : ℕ) (h : n < 32) (e : off = ![n, 0])
    (inb : ∀ k, off k + S1x1024.size k ≤ S32x1024.size k) (l : Fin 1024) :
    View.ld X (Rect.unit (s := S32x1024) off S1x1024.size inb) (ix2 0 l) = X (ix2 ⟨n, h⟩ l) := by
  subst e
  exact congrArg X (funext fun a => Fin.ext (by
    match a with
    | 0 => show n + 1 * 0 = n; omega
    | 1 => show 0 + 1 * l.val = l.val; omega))
theorem ld_T22 (X : Vec Ideal S32x64x512 .f32) (off : Fin 3 → ℕ) (n : ℕ) (h : n < 32) (e : off = ![n, 0, 0])
    (inb : ∀ k, off k + S1x64x512.size k ≤ S32x64x512.size k) (u : Fin 64) (r : Fin 512) :
    View.ld X (Rect.unit (s := S32x64x512) off S1x64x512.size inb) (ix3 0 u r) = X (ix3 ⟨n, h⟩ u r) := by
  subst e
  exact congrArg X (funext fun a => Fin.ext (by
    match a with
    | 0 => show n + 1 * 0 = n; omega
    | 1 => show 0 + 1 * u.val = u.val; omega
    | 2 => show 0 + 1 * r.val = r.val; omega))

/-! ## The steps, entry by entry -/

theorem pay9_at (x : FVec Ideal S512x1024 .f32) (l : Fin 1024) : k0_pay9 (F := Ideal) x (ix2 0 l) = Finset.univ.inf fun r : Fin 512 => (x (ix2 r l) : EReal) := by
  have : k0_pay9 (F := Ideal) x (ix2 0 l) = Finset.fold min (Ideal.ofBits FTy.f32 2139095040#32) (fun r => x (ix2 r l)) Finset.univ := by
    pointwise [k0_pay9, k0_pay7]
  rw [this, fold_min_eq]
theorem pay8_at (x : FVec Ideal S512x1024 .f32) (r : Fin 512) (l : Fin 1024) :
    k0_pay8 (F := Ideal) x (ix2 r l) = BitVec.setWidth 8 (BitVec.ofBool (decide ((x (ix2 r l) : EReal) = k0_pay9 (F := Ideal) x (ix2 0 l)))) := by
  have : k0_pay8 (F := Ideal) x (ix2 r l) = BitVec.setWidth 8 (BitVec.ofBool (decide ((x (ix2 r l) : EReal) = Finset.fold min (Ideal.ofBits FTy.f32 2139095040#32) (fun r => x (ix2 r l)) Finset.univ))) := by
    pointwise [k0_pay8, k0_pay7]
  rw [this, pay9_at]
  simp only [fold_min_eq]
theorem pay24_at (T : FVec Ideal S32x1024 .f32) (v : Vec Ideal S512x1024 .i8) (r : Fin 512) (l : Fin 1024) :
    k0_pay24 (F := Ideal) T v (ix2 r l) = ((FloatOps.sitofp (F := Ideal) FTy.f32 (v (ix2 r l)) : EReal) * k0_pay22 (F := Ideal) T (ix2 0 l) : EReal) := by
  pointwise [k0_pay24]
theorem pay25_at (i : IVec S512x1024 32) (T : FVec Ideal S512x1024 .f32) :
    extractAt ![0, 0, 0] (k0_pay25 (F := Ideal) i T) inpos_S1x1x1_p0_0_0 =
      Finset.fold IntOp.maxsi (2147483648#32) (fun x : Fin 512 × Fin 1024 => if (0 : EReal) < T (ix2 x.1 x.2) then i (ix2 x.1 x.2) else 4294967295#32) Finset.univ := by
  pointwise [k0_pay25]
theorem pay21_at (T : FVec Ideal S32x1024 .f32) (l : Fin 1024) : k0_pay21 (F := Ideal) T (ix2 0 l) = k0_pay20 (F := Ideal) T (ix2 0 l) := by
  pointwise [k0_pay21]
theorem pay26_at (x : Vec Ideal S512x1024 .i8) (b d : FVec Ideal S1x1024 .f32) (r : Fin 512) (l : Fin 1024) :
    k0_pay26 (F := Ideal) x b d (ix2 r l) = ((FloatOps.sitofp (F := Ideal) FTy.f32 (x (ix2 r l)) : EReal) *
      FloatOps.sitofp (F := Ideal) FTy.f32 (BitVec.setWidth 32 (BitVec.ofBool (decide ((b (ix2 0 l) : EReal) = d (ix2 0 l))))) : EReal) := by
  pointwise [k0_pay26]
theorem pay27_at (a b : BitVec 32) (x y : FVec Ideal S1x64x512 .f32) (u : Fin 64) (r : Fin 512) :
    k0_pay27 (F := Ideal) a b x y (ix2 u r) = (x (ix3 0 u r) + FloatOps.sitofp (F := Ideal) FTy.f32 (BitVec.setWidth 32
      (IntOp.cmpi .ne (IntOp.addi (BitVec.ofNat 32 r.val) (Scalar.muli (Scalar.subi a 32#32) 512#32)) b)) * Ideal.ofBits FTy.f32 1149239296#32 * y (ix3 0 u r) : EReal) := by
  pointwise [k0_pay27]
theorem pay4_at (x : FVec Ideal S512x1024 .f32) (k : FVec Ideal S1024x64 .f32) (u : Fin 64) (r : Fin 512) :
    k0_pay4 (F := Ideal) x k (ix3 0 u r) = ∑ b : Fin 1024, (k (ix2 b u) * x (ix2 r b) : EReal) := by
  pointwise [k0_pay4]
theorem pay5_at (x : FVec Ideal S64x512 .f32) (u : Fin 64) (r : Fin 512) : k0_pay5 (F := Ideal) x (ix3 0 u r) = x (ix2 u r) := by
  pointwise [k0_pay5]

theorem sitofp_bool8 (b : Bool) : (FloatOps.sitofp (F := Ideal) FTy.f32 (BitVec.setWidth 8 (BitVec.ofBool b)) : EReal) = if b = true then 1 else 0 := by
  cases b <;> simp [FloatOps.sitofp]

/-! ## The tables -/

/-- The table of block minima holds the least usage of each block. -/
theorem T25_at (k : Fin 32) (l : Fin 1024) :
    T25 m c (ix2 k l) = Finset.univ.inf fun r : Fin 512 => Cert.Val.cwu (args m c) (row k.val k.isLt r) l := by
  have e := bpt_val k.val k.isLt
  show k0_pay9 (cwuV m c (bpt k.val)) (ix2 0 l) = _
  rw [pay9_at]
  refine Finset.inf_congr rfl fun r _ => ?_
  rw [cwuV_at m c (bpt k.val) (by omega), row_congr e]

/-- Over the blocks the table's least element is the lane's least usage. -/
theorem colmin_T25 (l : Fin 1024) : colmin (T25 m c) l = Cert.Val.cm (args m c) l := by
  refine le_antisymm (Finset.le_inf fun s _ => ?_) (Finset.le_inf fun k _ => ?_)
  · refine (Finset.inf_le (Finset.mem_univ (⟨s.val / 512, by omega⟩ : Fin 32))).trans ?_
    rw [T25_at]
    refine (Finset.inf_le (Finset.mem_univ (⟨s.val % 512, Nat.mod_lt _ (by decide)⟩ : Fin 512))).trans ?_
    exact le_of_eq (congrArg (fun z => Cert.Val.cwu (args m c) z l) (row_div s))
  · rw [T25_at]
    exact Finset.le_inf fun r _ => Finset.inf_le (Finset.mem_univ _)

/-- The table of marks holds a one where a row attains its block's least usage. -/
theorem T24_at (n : ℕ) (h : n < 32) (r : Fin 512) (l : Fin 1024) : T24 m c (ix2 (row n h r) l) =
    BitVec.setWidth 8 (BitVec.ofBool (decide (Cert.Val.cwu (args m c) (row n h r) l = T25 m c (ix2 ⟨n, h⟩ l)))) := by
  have key : ∀ (q : ℕ) (r' : Fin 512), q = n → r' = r → k0_pay8 (F := Ideal) (cwuV m c (bpt q)) (ix2 r' l) =
      BitVec.setWidth 8 (BitVec.ofBool (decide (Cert.Val.cwu (args m c) (row n h r) l = T25 m c (ix2 ⟨n, h⟩ l)))) := by
    intro q r' e1 e2
    subst e1 e2
    have e := bpt_val q h
    rw [pay8_at, cwuV_at m c (bpt q) (by omega), row_congr e _ h]
    rfl
  exact key _ _ (show (n * 512 + r.val) / 512 = n by omega) (Fin.ext (show (n * 512 + r.val) % 512 = r.val by omega))

/-! ## The least-used weights -/

theorem cminV_at (l : Fin 1024) : cminV m c (ix2 0 l) = Cert.Val.cm (args m c) l := by
  unfold cminV
  rw [pay21_at, pay20_at, colmin_T25]

/-- A block of the least-used weights. -/
theorem lwuV_at (t : Fin cfg0.N) (h : 32 ≤ t.val) (h' : t.val - 32 < 32) (r : Fin 512) (l : Fin 1024) :
    lwuV m c t (ix2 r l) = Cert.Val.lwu (args m c) (row (t.val - 32) h' r) l := by
  unfold lwuV
  rw [dif_pos h, pay26_at, ld_T24 _ _ _ h' (off5_eq t h), ld_T25 _ _ _ h' (off6_eq t h), cminV_at, T24_at, sitofp_bool8, sitofp_bool]
  have h1 : Cert.Val.cm (args m c) l ≤ T25 m c (ix2 ⟨t.val - 32, h'⟩ l) := by
    rw [← colmin_T25]; exact Finset.inf_le (Finset.mem_univ _)
  have h2 : (T25 m c (ix2 ⟨t.val - 32, h'⟩ l) : EReal) ≤ Cert.Val.cwu (args m c) (row (t.val - 32) h' r) l := by
    rw [T25_at]; exact Finset.inf_le (Finset.mem_univ r)
  simp only [decide_eq_true_eq]
  unfold Cert.Val.lwu
  generalize Cert.Val.cwu (args m c) (row (t.val - 32) h' r) l = x at *
  generalize (T25 m c (ix2 ⟨t.val - 32, h'⟩ l) : EReal) = y at *
  generalize Cert.Val.cm (args m c) l = z at *
  by_cases hx : x ≤ z
  · have e1 : x = y := le_antisymm (hx.trans h1) h2
    have e2 : y = z := le_antisymm (h2.trans hx) h1
    rw [if_pos e1, if_pos e2, if_pos hx, one_mul]
  · rw [if_neg hx]
    by_cases e1 : x = y
    · rw [if_neg (fun e2 : y = z => hx (le_of_eq (e1.trans e2))), mul_zero]
    · rw [if_neg e1, zero_mul]

/-! ## The picked row -/

theorem off4_eq (k : Fin 32) : k0_off4 (BitVec.ofNat 32 k.val) = ![k.val * 512, 0] := by
  have hk := k.isLt
  have h : (Scalar.muli (BitVec.ofNat 32 k.val) 512#32).toNat = k.val * 512 := by
    simp only [Scalar.muli, IntOp.muli, BitVec.toNat_mul, BitVec.toNat_ofNat]; omega
  rw [← h]; rfl

theorem iota_at (r : Fin 512) (l : Fin 1024) : iota .tc S512x1024 32 [0] iota_S512x1024_d0_w32 (ix2 r l) = BitVec.ofNat 32 r.val := by
  pointwise

/-- The mark that the kernel looks for: the row attains its block's least usage, in the picked lane. -/
theorem mark_pos (P Q : Prop) [Decidable P] [Decidable Q] : ((0 : EReal) < (if P then 1 else 0) * (if Q then 1 else 0)) ↔ P ∧ Q := by
  by_cases hP : P <;> by_cases hQ : Q <;> simp [hP, hQ]

/-- The row that the kernel picks is the step's cleared row. -/
theorem selV_spec (hc : ChkV m c) : ∃ s : Fin 16384, selV m c hc = BitVec.ofNat 32 s.val ∧ Cert.Val.IsSel (args m c) s := by
  obtain ⟨L, hL, hL1, hL2⟩ := pay22_spec (T25 m c)
  obtain ⟨k, hk, hk1, hk2⟩ := bsel_spec (T25 m c) L hL
  simp only [colmin_T25] at hL1 hL2 hk1 hk2
  have hoff : k0_off4 (bselOf (F := Ideal) (T25 m c)) = ![k.val * 512, 0] := by rw [hk]; exact off4_eq k
  have hatt : ∃ x : Fin 512 × Fin 1024, Cert.Val.cwu (args m c) (row k.val k.isLt x.1) x.2 = T25 m c (ix2 k x.2) ∧ x.2 = L := by
    obtain ⟨r, -, hr⟩ := Finset.exists_mem_eq_inf (Finset.univ : Finset (Fin 512)) ⟨0, Finset.mem_univ _⟩ fun r => Cert.Val.cwu (args m c) (row k.val k.isLt r) L
    exact ⟨(r, L), by rw [T25_at]; exact hr.symm, rfl⟩
  obtain ⟨x, ⟨hx1, hx2⟩, hx3, hx4⟩ := last_marked
    (fun x : Fin 512 × Fin 1024 => Cert.Val.cwu (args m c) (row k.val k.isLt x.1) x.2 = T25 m c (ix2 k x.2) ∧ x.2 = L) (fun x => x.1.val)
    (fun x => by have := x.1.isLt; omega) hatt
  refine ⟨row k.val k.isLt x.1, ?_, L, ⟨hL1, hL2⟩, ?_, fun s hs => ?_⟩
  · unfold selV selOf
    rw [pay25_at]
    have e : ∀ y : Fin 512 × Fin 1024, (if (0 : EReal) < k0_pay24 (F := Ideal) (T25 m c) (View.ld (T24 m c) (Rect.unit (s := S16384x1024) (k0_off4 (bselOf (T25 m c))) S512x1024.size
          (k0_off4_inb _ _ hc ((cond5_iff _).mpr (by decide)) ((cond6_iff _).mpr rfl)))) (ix2 y.1 y.2) then iota .tc S512x1024 32 [0] iota_S512x1024_d0_w32 (ix2 y.1 y.2) else 4294967295#32) =
        if Cert.Val.cwu (args m c) (row k.val k.isLt y.1) y.2 = T25 m c (ix2 k y.2) ∧ y.2 = L then BitVec.ofNat 32 y.1.val else 4294967295#32 := by
      intro y
      rw [pay24_at, ld_T24 _ _ k.val k.isLt hoff, T24_at, sitofp_bool8, hL, iota_at]
      refine if_congr ?_ rfl rfl
      rw [mark_pos, decide_eq_true_eq]
    rw [Finset.fold_congr fun y _ => e y, hx3, hk]
    refine BitVec.eq_of_toNat_eq ?_
    have := x.1.isLt
    have := k.isLt
    simp only [Scalar.addi, Scalar.muli, IntOp.addi, IntOp.muli, BitVec.toNat_add, BitVec.toNat_mul, BitVec.toNat_ofNat, row]
    omega
  · rw [hx2] at hx1
    rw [hx1, hk1]
  · have e0 := row_div s
    have h1 : (T25 m c (ix2 ⟨s.val / 512, by omega⟩ L) : EReal) = Cert.Val.cm (args m c) L := by
      refine le_antisymm ?_ ?_
      · rw [T25_at, ← hs]
        refine (Finset.inf_le (Finset.mem_univ (⟨s.val % 512, Nat.mod_lt _ (by decide)⟩ : Fin 512))).trans ?_
        exact le_of_eq (congrArg (fun z => Cert.Val.cwu (args m c) z L) (row_div s))
      · rw [← colmin_T25]; exact Finset.inf_le (Finset.mem_univ _)
    have h2 : s.val / 512 ≤ k.val := hk2 _ h1
    refine Fin.le_def.2 ?_
    show s.val ≤ k.val * 512 + x.1.val
    by_cases h3 : s.val / 512 = k.val
    · have h4 := hx4 (⟨s.val % 512, Nat.mod_lt _ (by decide)⟩, L) ⟨by
        show Cert.Val.cwu (args m c) (row k.val k.isLt _) L = T25 m c (ix2 k L)
        rw [hk1, ← hs, row_congr h3.symm k.isLt (by omega), row_div], rfl⟩
      have h5 : s.val % 512 ≤ x.1.val := h4
      omega
    · omega

/-! ## The new memory -/

theorem coords0 : ∀ t : Fin grid0.N, (grid0.coords t 0).val = t.val := by decide +kernel

theorem k1024 : Ideal.ofBits FTy.f32 1149239296#32 = 1024 := by
  have : ((8388608 : ℝ) : EReal) * ((1 / 8192 : ℝ) : EReal) = 1024 := by
    rw [← EReal.coe_mul]; norm_num; rfl
  rw [← this]
  simp [Ideal.ofBits, Ideal.ieee]
  norm_num

theorem T22_at (k : Fin 32) (u : Fin 64) (r : Fin 512) :
    T22 m c (ix3 k u r) = ∑ l : Fin 1024, Cert.Val.ww (args m c) (row k.val k.isLt r) l * Cert.Val.ky (args m c) l u := by
  have e := bpt_val k.val k.isLt
  show k0_pay4 (F := Ideal) (cwwV m c (bpt k.val)) (kyV m c) (ix3 0 u r) = _
  rw [pay4_at]
  refine Finset.sum_congr rfl fun l _ => ?_
  rw [kyV_at, cwwV_at m c (bpt k.val) (by omega), row_congr e _ k.isLt, mul_comm]

theorem T23_at (k : Fin 32) (u : Fin 64) (r : Fin 512) : T23 m c (ix3 k u r) = (args m c).M (row k.val k.isLt r) u := by
  have e := bpt_val k.val k.isLt
  show k0_pay5 (F := Ideal) (k0_pay16 (F := Ideal) (xb8 m c (bpt k.val))) (ix3 0 u r) = _
  rw [pay5_at, pay16_at, xb8_at m c (bpt k.val) (by omega)]
  exact congrArg (fun z => (args m c).M z u) (row_congr e (by omega) k.isLt r)

/-- A block of the new memory, with the picked row cleared. -/
theorem memV_at (hc : ChkV m c) (s : Fin 16384) (hs : selV m c hc = BitVec.ofNat 32 s.val) (t : Fin cfg0.N) (h : 32 ≤ t.val) (h' : t.val - 32 < 32)
    (u : Fin 64) (r : Fin 512) : memV m c hc t (ix2 u r) = Cert.Val.mem (args m c) s (row (t.val - 32) h' r) u := by
  unfold memV
  rw [dif_pos h, pay27_at, hs, ld_T22 _ _ _ h' (off7_eq t h), ld_T22 _ _ _ h' (off7_eq t h), T22_at, T23_at, k1024, coords0]
  have hb : IntOp.cmpi .ne (IntOp.addi (BitVec.ofNat 32 r.val) (Scalar.muli (Scalar.subi (BitVec.ofNat 32 t.val) 32#32) 512#32)) (BitVec.ofNat 32 s.val) =
      BitVec.ofBool (decide (row (t.val - 32) h' r ≠ s)) := by
    have e : IntOp.addi (BitVec.ofNat 32 r.val) (Scalar.muli (Scalar.subi (BitVec.ofNat 32 t.val) 32#32) 512#32) = BitVec.ofNat 32 (row (t.val - 32) h' r).val := by
      refine BitVec.eq_of_toNat_eq ?_
      have := r.isLt
      simp only [Scalar.subi, Scalar.muli, IntOp.addi, IntOp.muli, IntOp.subi, BitVec.toNat_add, BitVec.toNat_mul, BitVec.toNat_sub, BitVec.toNat_ofNat, row]
      omega
    rw [e]
    show BitVec.ofBool (BitVec.ofNat 32 (row (t.val - 32) h' r).val != BitVec.ofNat 32 s.val) = _
    rw [show ∀ p q : BitVec 32, (p != q) = decide (p ≠ q) from fun p q => by by_cases e : p = q <;> simp [e]]
    refine congrArg BitVec.ofBool (decide_eq_decide.2 (not_congr ⟨fun q => Fin.ext ?_, fun q => by rw [q]⟩))
    have q' := congrArg BitVec.toNat q
    have := (row (t.val - 32) h' r).isLt
    have := s.isLt
    simp only [BitVec.toNat_ofNat] at q'
    omega
  rw [hb, sitofp_bool]
  unfold Cert.Val.mem
  simp only [decide_eq_true_eq]
  by_cases q : row (t.val - 32) h' r = s
  · rw [if_pos q, if_neg (not_not.2 q), zero_mul]
  · rw [if_neg q, if_pos q, one_mul]

end Cert.KernelIdeal.Val

end
-- ==== Proof.Data.lean ====
/-
The proof data of the launch: what each point leaves in every window, and the invariant of the scratch between points.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic
public import proofs.«01_k».proof.Proof.Values

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (hc : ∀ c : Dev nD, ChkV m c) (c : Dev nD)

/-- The last point of the first half that has run at point `t`. -/
def clampP (t : Fin cfg0.N) : Fin cfg0.N := pt (min t.val 31) (by omega)
theorem clampP_of (t : Fin cfg0.N) (h : t.val < 32) : clampP t = t := Fin.ext (show min t.val 31 = t.val by omega)
theorem clampP_late (t : Fin cfg0.N) (h : 32 ≤ t.val) : clampP ⟨t.val - 1, by omega⟩ = clampP t :=
  Fin.ext (show min (t.val - 1) 31 = min t.val 31 by omega)

/-- The scratch between points: after `n` points, the first `n` blocks of each table hold their values. -/
def PhiS (n : ℕ) : sProp 𝕄 := iprop(
  (∃ X, ⌜1 ≤ n → X = nkV m c⌝ ∗ owns (c : Thread nD τ) (Memref.whole cc0_scratch0) fullShare X)
  ∗ (∃ X, ⌜1 ≤ n → X = kyV m c⌝ ∗ owns (c : Thread nD τ) (Memref.whole cc0_scratch1) fullShare X)
  ∗ (∃ X : Vec F S32x64x512 .f32, ⌜∀ j, (j 0).val < n → X j = T22 m c j⌝ ∗ owns (c : Thread nD τ) (Memref.whole cc0_scratch2) fullShare X)
  ∗ (∃ X : Vec F S32x64x512 .f32, ⌜∀ j, (j 0).val < n → X j = T23 m c j⌝ ∗ owns (c : Thread nD τ) (Memref.whole cc0_scratch3) fullShare X)
  ∗ (∃ X : Vec F S16384x1024 .i8, ⌜∀ j, (j 0).val < n * 512 → X j = T24 m c j⌝ ∗ owns (c : Thread nD τ) (Memref.whole cc0_scratch4) fullShare X)
  ∗ (∃ X : Vec F S32x1024 .f32, ⌜∀ j, (j 0).val < n → X j = T25 m c j⌝ ∗ owns (c : Thread nD τ) (Memref.whole cc0_scratch5) fullShare X)
  ∗ (∃ X, ⌜33 ≤ n → X = cminV m c⌝ ∗ owns (c : Thread nD τ) (Memref.whole cc0_scratch6) fullShare X)
  ∗ (∃ X, ⌜33 ≤ n → X = fun _ => selV m c (hc c)⌝ ∗ owns (c : Thread nD τ) (Memref.whole cc0_scratch7) fullShare X)
  ∗ ∃ r, prngReg c r)

/-- What the launch proof says of the kernel at each point. -/
def dats (_ : Fin 1) (c : Dev nD) : Dat τ (Elt F) Unit ℕ (UR sig nD τ) ℕ cfg0 c where
  A w := V m c (Pipeline.arrRef spec0 w)
  after := fun (w : Fin 19) t => match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => keyTV m c
    | ⟨13, _⟩ => cnewTV m c
    | ⟨14, _⟩ => readV m c (min t.val 31)
    | ⟨15, _⟩ => cwrV m c (clampP t)
    | ⟨16, _⟩ => cwuV m c (clampP t)
    | ⟨17, _⟩ => lwuV m c t
    | ⟨18, _⟩ => memV m c (hc c) t
    | ⟨n + 19, h⟩ => absurd h (by omega)
  Φ t := PhiS m hc c t.val
  q _ := fullShare
  owed _ := 0

theorem A_eq (w : Fin cfg0.W) : (dats m hc 0 c).A w = V m c (Pipeline.arrRef spec0 w) := by dsimp only [dats]
theorem before_0 (t : Fin cfg0.N) (d) : (dats m hc 0 c).before 0 t d = xb0 m c t :=
  before0_0_of m (dats m hc 0 c) (A_eq m hc c 0) (fun _ => rfl) t d
theorem before_1 (t : Fin cfg0.N) (d) : (dats m hc 0 c).before 1 t d = xb1 m c t :=
  before0_1_of m (dats m hc 0 c) (A_eq m hc c 1) (fun _ => rfl) t d
theorem before_2 (t : Fin cfg0.N) (d) : (dats m hc 0 c).before 2 t d = xb2 m c t :=
  before0_2_of m (dats m hc 0 c) (A_eq m hc c 2) (fun _ => rfl) t d
theorem before_3 (t : Fin cfg0.N) (d) : (dats m hc 0 c).before 3 t d = xb3 m c t :=
  before0_3_of m (dats m hc 0 c) (A_eq m hc c 3) (fun _ => rfl) t d
theorem before_4 (t : Fin cfg0.N) (d) : (dats m hc 0 c).before 4 t d = xb4 m c t :=
  before0_4_of m (dats m hc 0 c) (A_eq m hc c 4) (fun _ => rfl) t d
theorem before_5 (t : Fin cfg0.N) (d) : (dats m hc 0 c).before 5 t d = xb5 m c t :=
  before0_5_of m (dats m hc 0 c) (A_eq m hc c 5) (fun _ => rfl) t d
theorem before_6 (t : Fin cfg0.N) (d) : (dats m hc 0 c).before 6 t d = xb6 m c t :=
  before0_6_of m (dats m hc 0 c) (A_eq m hc c 6) (fun _ => rfl) t d
theorem before_7 (t : Fin cfg0.N) (d) : (dats m hc 0 c).before 7 t d = xb7 m c t :=
  before0_7_of m (dats m hc 0 c) (A_eq m hc c 7) (fun _ => rfl) t d
theorem before_8 (t : Fin cfg0.N) (d) : (dats m hc 0 c).before 8 t d = xb8 m c t :=
  before0_8_of m (dats m hc 0 c) (A_eq m hc c 8) (fun _ => rfl) t d
theorem before_9 (t : Fin cfg0.N) (d) : (dats m hc 0 c).before 9 t d = xb9 m c t :=
  before0_9_of m (dats m hc 0 c) (A_eq m hc c 9) (fun _ => rfl) t d
theorem before_10 (t : Fin cfg0.N) (d) : (dats m hc 0 c).before 10 t d = xb10 m c t :=
  before0_10_of m (dats m hc 0 c) (A_eq m hc c 10) (fun _ => rfl) t d
theorem before_11 (t : Fin cfg0.N) (d) : (dats m hc 0 c).before 11 t d = xb11 m c t :=
  before0_11_of m (dats m hc 0 c) (A_eq m hc c 11) (fun _ => rfl) t d
theorem before_12 (t : Fin cfg0.N) (h : t.val ≠ 0) (d) : (dats m hc 0 c).before 12 t d = keyTV m c := by
  rw [(dats m hc 0 c).before_out_traj 12 rfl (fun _ _ => rfl) (fun _ _ _ _ => rfl) t.val t rfl d, fresh_12 t.val (Nat.le_of_lt t.isLt),
    if_neg (by have h' : t.val < 64 := t.isLt; rw [decide_eq_true_iff]; omega)]
  rfl
theorem before_13 (t : Fin cfg0.N) (h : t.val ≠ 0) (d) : (dats m hc 0 c).before 13 t d = cnewTV m c := by
  rw [(dats m hc 0 c).before_out_traj 13 rfl (fun _ _ => rfl) (fun _ _ _ _ => rfl) t.val t rfl d, fresh_13 t.val (Nat.le_of_lt t.isLt),
    if_neg (by have h' : t.val < 64 := t.isLt; rw [decide_eq_true_iff]; omega)]
  rfl
theorem before_14 (t : Fin cfg0.N) (h : t.val ≠ 0) (d) : (dats m hc 0 c).before 14 t d = readV m c (min (t.val - 1) 31) := by
  rw [(dats m hc 0 c).before_out_traj 14 rfl (fun _ _ => rfl) ?_ t.val t rfl d, fresh_14 t.val (Nat.le_of_lt t.isLt),
    if_neg (by have h' : t.val < 64 := t.isLt; rw [decide_eq_true_iff]; omega)]
  · rfl
  · intro t h0 hi _
    rw [idle_14, decide_eq_true_iff] at hi
    show readV m c (min t.val 31) = readV m c (min (t.val - 1) 31)
    rw [show min t.val 31 = min (t.val - 1) 31 by omega]
theorem before_15 (t : Fin cfg0.N) (h : 32 ≤ t.val) (d) : (dats m hc 0 c).before 15 t d = cwrV m c (clampP t) := by
  rw [(dats m hc 0 c).before_out_traj 15 rfl (fun _ _ => rfl) ?_ t.val t rfl d, fresh_15 t.val (Nat.le_of_lt t.isLt),
    if_neg (by have h' : t.val < 64 := t.isLt; rw [decide_eq_true_iff]; omega)]
  · show cwrV m c (clampP ⟨t.val - 1, _⟩) = _
    rw [clampP_late t h]
  · intro t h0 hi _
    rw [idle_15, decide_eq_true_iff] at hi
    show cwrV m c (clampP t) = cwrV m c (clampP ⟨t.val - 1, _⟩)
    rw [clampP_late t hi]
theorem before_16 (t : Fin cfg0.N) (h : 32 ≤ t.val) (d) : (dats m hc 0 c).before 16 t d = cwuV m c (clampP t) := by
  rw [(dats m hc 0 c).before_out_traj 16 rfl (fun _ _ => rfl) ?_ t.val t rfl d, fresh_16 t.val (Nat.le_of_lt t.isLt),
    if_neg (by have h' : t.val < 64 := t.isLt; rw [decide_eq_true_iff]; omega)]
  · show cwuV m c (clampP ⟨t.val - 1, _⟩) = _
    rw [clampP_late t h]
  · intro t h0 hi _
    rw [idle_16, decide_eq_true_iff] at hi
    show cwuV m c (clampP t) = cwuV m c (clampP ⟨t.val - 1, _⟩)
    rw [clampP_late t hi]

/-! ## Storing a block of a table -/

theorem T22_step_at (t : Fin cfg0.N) (X : Vec F S32x64x512 .f32) (off : Fin S32x64x512.rank → ℕ) (e : off = ![t.val, 0, 0]) (inb) (hX : ∀ j, (j 0).val < t.val → X j = T22 m c j) :
    ∀ j, (j 0).val < t.val + 1 →
      (Rect.unit (s := S32x64x512) off S1x64x512.size inb).overlay X
        (k0_pay4 (cwwV m c t) (kyV m c)) j = T22 m c j := by
  subst e
  refine overlay_agree _ _ _ _ (fun j => (j 0).val < t.val) _ ?_ ?_ hX
  · intro x
    have h0 : ((Rect.unit (s := S32x64x512) (![t.val, 0, 0]) S1x64x512.size inb).emb x 0).val = t.val := by
      have hx : (x 0).val < 1 := (x 0).isLt
      show t.val + 1 * (x 0).val = _; omega
    unfold T22
    rw [h0, bpt_of]
    congr 1
    funext a
    match a with
    | ⟨0, _⟩ => exact Fin.ext (by have hx : (x 0).val < 1 := (x 0).isLt; show (x 0).val = 0; omega)
    | ⟨1, _⟩ => exact Fin.ext (by show (x 1).val = 0 + 1 * (x 1).val; omega)
    | ⟨2, _⟩ => exact Fin.ext (by show (x 2).val = 0 + 1 * (x 2).val; omega)
  · intro j hj hn
    by_contra hlt
    refine hn (Rect.mem_set_unit.mpr fun a => ?_)
    match a with
    | ⟨0, _⟩ => exact ⟨by show t.val ≤ (j 0).val; omega, by show (j 0).val < t.val + 1; omega⟩
    | ⟨1, _⟩ => exact ⟨Nat.zero_le _, by have := (j 1).isLt; show (j 1).val < 0 + 64; rw [Nat.zero_add]; exact this⟩
    | ⟨2, _⟩ => exact ⟨Nat.zero_le _, by have := (j 2).isLt; show (j 2).val < 0 + 512; rw [Nat.zero_add]; exact this⟩
theorem T22_step (t : Fin cfg0.N) (h2) (X : Vec F S32x64x512 .f32) (hX : ∀ j, (j 0).val < t.val → X j = T22 m c j) :
    ∀ j, (j 0).val < t.val + 1 →
      (Rect.unit (s := S32x64x512) (k0_off1 (grid0.coords t)) S1x64x512.size (k0_off1_inb (grid0.coords t) h2)).overlay X
        (k0_pay4 (cwwV m c t) (kyV m c)) j = T22 m c j :=
  T22_step_at m c t X _ (off1_eq t) _ hX

theorem T23_step_at (t : Fin cfg0.N) (X : Vec F S32x64x512 .f32) (off : Fin S32x64x512.rank → ℕ) (e : off = ![t.val, 0, 0]) (inb) (hX : ∀ j, (j 0).val < t.val → X j = T23 m c j) :
    ∀ j, (j 0).val < t.val + 1 →
      (Rect.unit (s := S32x64x512) off S1x64x512.size inb).overlay X
        (k0_pay5 (k0_pay16 (xb8 m c t))) j = T23 m c j := by
  subst e
  refine overlay_agree _ _ _ _ (fun j => (j 0).val < t.val) _ ?_ ?_ hX
  · intro x
    have h0 : ((Rect.unit (s := S32x64x512) (![t.val, 0, 0]) S1x64x512.size inb).emb x 0).val = t.val := by
      have hx : (x 0).val < 1 := (x 0).isLt
      show t.val + 1 * (x 0).val = _; omega
    unfold T23
    rw [h0, bpt_of]
    congr 1
    funext a
    match a with
    | ⟨0, _⟩ => exact Fin.ext (by have hx : (x 0).val < 1 := (x 0).isLt; show (x 0).val = 0; omega)
    | ⟨1, _⟩ => exact Fin.ext (by show (x 1).val = 0 + 1 * (x 1).val; omega)
    | ⟨2, _⟩ => exact Fin.ext (by show (x 2).val = 0 + 1 * (x 2).val; omega)
  · intro j hj hn
    by_contra hlt
    refine hn (Rect.mem_set_unit.mpr fun a => ?_)
    match a with
    | ⟨0, _⟩ => exact ⟨by show t.val ≤ (j 0).val; omega, by show (j 0).val < t.val + 1; omega⟩
    | ⟨1, _⟩ => exact ⟨Nat.zero_le _, by have := (j 1).isLt; show (j 1).val < 0 + 64; rw [Nat.zero_add]; exact this⟩
    | ⟨2, _⟩ => exact ⟨Nat.zero_le _, by have := (j 2).isLt; show (j 2).val < 0 + 512; rw [Nat.zero_add]; exact this⟩
theorem T23_step (t : Fin cfg0.N) (h2) (X : Vec F S32x64x512 .f32) (hX : ∀ j, (j 0).val < t.val → X j = T23 m c j) :
    ∀ j, (j 0).val < t.val + 1 →
      (Rect.unit (s := S32x64x512) (k0_off1 (grid0.coords t)) S1x64x512.size (k0_off1_inb (grid0.coords t) h2)).overlay X
        (k0_pay5 (k0_pay16 (xb8 m c t))) j = T23 m c j :=
  T23_step_at m c t X _ (off1_eq t) _ hX

theorem T25_step_at (t : Fin cfg0.N) (X : Vec F S32x1024 .f32) (off : Fin S32x1024.rank → ℕ) (e : off = ![t.val, 0]) (inb) (hX : ∀ j, (j 0).val < t.val → X j = T25 m c j) :
    ∀ j, (j 0).val < t.val + 1 →
      (Rect.unit (s := S32x1024) off S1x1024.size inb).overlay X
        (k0_pay9 (cwuV m c t)) j = T25 m c j := by
  subst e
  refine overlay_agree _ _ _ _ (fun j => (j 0).val < t.val) _ ?_ ?_ hX
  · intro x
    have h0 : ((Rect.unit (s := S32x1024) (![t.val, 0]) S1x1024.size inb).emb x 0).val = t.val := by
      have hx : (x 0).val < 1 := (x 0).isLt
      show t.val + 1 * (x 0).val = _; omega
    unfold T25
    rw [h0, bpt_of]
    congr 1
    funext a
    match a with
    | ⟨0, _⟩ => exact Fin.ext (by have hx : (x 0).val < 1 := (x 0).isLt; show (x 0).val = 0; omega)
    | ⟨1, _⟩ => exact Fin.ext (by show (x 1).val = 0 + 1 * (x 1).val; omega)
  · intro j hj hn
    by_contra hlt
    refine hn (Rect.mem_set_unit.mpr fun a => ?_)
    match a with
    | ⟨0, _⟩ => exact ⟨by show t.val ≤ (j 0).val; omega, by show (j 0).val < t.val + 1; omega⟩
    | ⟨1, _⟩ => exact ⟨Nat.zero_le _, by have := (j 1).isLt; show (j 1).val < 0 + 1024; rw [Nat.zero_add]; exact this⟩

theorem T25_step (t : Fin cfg0.N) (h2) (X : Vec F S32x1024 .f32) (hX : ∀ j, (j 0).val < t.val → X j = T25 m c j) :
    ∀ j, (j 0).val < t.val + 1 →
      (Rect.unit (s := S32x1024) (k0_off3 (grid0.coords t)) S1x1024.size (k0_off3_inb (grid0.coords t) h2)).overlay X
        (k0_pay9 (cwuV m c t)) j = T25 m c j :=
  T25_step_at m c t X _ (off3_eq t) _ hX

theorem T24_step_at (t : Fin cfg0.N) (X : Vec F S16384x1024 .i8) (off : Fin S16384x1024.rank → ℕ) (e : off = ![t.val * 512, 0]) (inb) (hX : ∀ j, (j 0).val < t.val * 512 → X j = T24 m c j) :
    ∀ j, (j 0).val < (t.val + 1) * 512 →
      (Rect.unit (s := S16384x1024) off S512x1024.size inb).overlay X
        (k0_pay8 (cwuV m c t)) j = T24 m c j := by
  subst e
  refine overlay_agree _ _ _ _ (fun j => (j 0).val < t.val * 512) _ ?_ ?_ hX
  · intro x
    have hx : (x 0).val < 512 := (x 0).isLt
    have h0 : ((Rect.unit (s := S16384x1024) (![t.val * 512, 0]) S512x1024.size inb).emb x 0).val
        = t.val * 512 + (x 0).val := by
      show t.val * 512 + 1 * (x 0).val = _; omega
    unfold T24
    rw [show ((Rect.unit (s := S16384x1024) (![t.val * 512, 0]) S512x1024.size inb).emb x 0).val / 512 = t.val by
      rw [h0]; omega, bpt_of]
    congr 1
    funext a
    match a with
    | ⟨0, _⟩ => exact Fin.ext (by show (x 0).val = ((Rect.unit (s := S16384x1024) (![t.val * 512, 0]) S512x1024.size inb).emb x 0).val % 512; rw [h0]; omega)
    | ⟨1, _⟩ => exact Fin.ext (by show (x 1).val = 0 + 1 * (x 1).val; omega)
  · intro j hj hn
    by_contra hlt
    refine hn (Rect.mem_set_unit.mpr fun a => ?_)
    match a with
    | ⟨0, _⟩ => exact ⟨by show t.val * 512 ≤ (j 0).val; omega, by show (j 0).val < t.val * 512 + 512; omega⟩
    | ⟨1, _⟩ => exact ⟨Nat.zero_le _, by have := (j 1).isLt; show (j 1).val < 0 + 1024; rw [Nat.zero_add]; exact this⟩

theorem T24_step (t : Fin cfg0.N) (h2) (X : Vec F S16384x1024 .i8) (hX : ∀ j, (j 0).val < t.val * 512 → X j = T24 m c j) :
    ∀ j, (j 0).val < (t.val + 1) * 512 →
      (Rect.unit (s := S16384x1024) (k0_off2 (grid0.coords t)) S512x1024.size (k0_off2_inb (grid0.coords t) h2)).overlay X
        (k0_pay8 (cwuV m c t)) j = T24 m c j :=
  T24_step_at m c t X _ (off2_eq t) _ hX

theorem readV_step (t : Fin cfg0.N) (h0 : t.val ≠ 0) (h : t.val < 32) :
    k0_pay10 (k0_pay16 (xb8 m c t)) (cwrV m c t) (readV m c (min (t.val - 1) 31)) = readV m c (min t.val 31) := by
  obtain ⟨_ | n, ht⟩ := t
  · exact absurd rfl h0
  · replace h : n + 1 < 32 := h
    show _ = readV m c (min (n + 1) 31)
    rw [show min (n + 1) 31 = n + 1 by omega, show min ((⟨n + 1, ht⟩ : Fin cfg0.N).val - 1) 31 = n from by show min (n + 1 - 1) 31 = n; omega]
    rw [readV, dif_pos (show n + 1 < 64 by omega)]

end Cert.KernelIdeal.Hand

end
-- ==== Proof.KOut.lean ====
/-
  What the kernel's output arrays hold after the run, as the step's mathematics.
-/
module

public import proofs.«01_k».proof.Proof.KVal2
public import proofs.«01_k».proof.Proof.Data
public import Idealize.ShloMosaic.Lib.Pipeline.Value

@[expose] public section

noncomputable section

namespace Cert.KernelIdeal.Val

open Cert.KernelIdeal Cert.KernelIdeal.Gen Cert.KernelIdeal.Hand
open Idealize.ShloMosaic Idealize.ShloMosaic.TcCoe Idealize.ShloMosaic.Pointwise
open Cert.Val (Args)

variable (m : (ℓ : Loc nD τ sig) → Buf (Elt Ideal) ℓ) (c : Dev nD)

local notation "ix1" => Idealize.ShloMosaic.ix1
local notation "ix2" => Idealize.ShloMosaic.ix2
local notation "ix3" => Idealize.ShloMosaic.ix3

open Idealize.ShloMosaic.Pipeline

variable (hc : ∀ c, ChkV m c)

/-! ## The blocks' places -/

theorem tr15_eq : ∀ t : Fin grid0.N, cc0_transform_15 (grid0.coords t) = ![min t.val 31, 0] := by decide +kernel
theorem tr16_eq : ∀ t : Fin grid0.N, cc0_transform_16 (grid0.coords t) = ![min t.val 31, 0] := by decide +kernel
theorem tr17_eq : ∀ t : Fin grid0.N, 32 ≤ t.val → cc0_transform_17 (grid0.coords t) = ![t.val - 32, 0] := by decide +kernel
theorem tr18_eq : ∀ t : Fin grid0.N, 32 ≤ t.val → cc0_transform_18 (grid0.coords t) = ![0, t.val - 32] := by decide +kernel

theorem mem_blk_12 (t : Fin cfg0.N) (i : S64x1024.Idx) : i ∈ ((cfg0.win 12).blk t).view.set ↔
    ∀ a, cc0_transform_12 (grid0.coords t) a * S64x1024.size a ≤ (i a).val ∧ (i a).val < cc0_transform_12 (grid0.coords t) a * S64x1024.size a + S64x1024.size a := by
  show i ∈ ((View.whole main_v14_0).slice (win0_12.rect t)).set ↔ _
  rw [View.set_slice_whole, Rect.mem_set_unit]
  exact Iff.rfl
theorem mem_blk_13 (t : Fin cfg0.N) (i : S64x1024.Idx) : i ∈ ((cfg0.win 13).blk t).view.set ↔
    ∀ a, cc0_transform_13 (grid0.coords t) a * S64x1024.size a ≤ (i a).val ∧ (i a).val < cc0_transform_13 (grid0.coords t) a * S64x1024.size a + S64x1024.size a := by
  show i ∈ ((View.whole main_v14_1).slice (win0_13.rect t)).set ↔ _
  rw [View.set_slice_whole, Rect.mem_set_unit]
  exact Iff.rfl
theorem mem_blk_14 (t : Fin cfg0.N) (i : S64x1024.Idx) : i ∈ ((cfg0.win 14).blk t).view.set ↔
    ∀ a, cc0_transform_14 (grid0.coords t) a * S64x1024.size a ≤ (i a).val ∧ (i a).val < cc0_transform_14 (grid0.coords t) a * S64x1024.size a + S64x1024.size a := by
  show i ∈ ((View.whole main_v14_2).slice (win0_14.rect t)).set ↔ _
  rw [View.set_slice_whole, Rect.mem_set_unit]
  exact Iff.rfl
theorem mem_blk_15 (t : Fin cfg0.N) (i : S16384x1024.Idx) : i ∈ ((cfg0.win 15).blk t).view.set ↔
    ∀ a, cc0_transform_15 (grid0.coords t) a * S512x1024.size a ≤ (i a).val ∧ (i a).val < cc0_transform_15 (grid0.coords t) a * S512x1024.size a + S512x1024.size a := by
  show i ∈ ((View.whole main_v14_3).slice (win0_15.rect t)).set ↔ _
  rw [View.set_slice_whole, Rect.mem_set_unit]
  exact Iff.rfl
theorem mem_blk_16 (t : Fin cfg0.N) (i : S16384x1024.Idx) : i ∈ ((cfg0.win 16).blk t).view.set ↔
    ∀ a, cc0_transform_16 (grid0.coords t) a * S512x1024.size a ≤ (i a).val ∧ (i a).val < cc0_transform_16 (grid0.coords t) a * S512x1024.size a + S512x1024.size a := by
  show i ∈ ((View.whole main_v14_4).slice (win0_16.rect t)).set ↔ _
  rw [View.set_slice_whole, Rect.mem_set_unit]
  exact Iff.rfl
theorem mem_blk_17 (t : Fin cfg0.N) (i : S16384x1024.Idx) : i ∈ ((cfg0.win 17).blk t).view.set ↔
    ∀ a, cc0_transform_17 (grid0.coords t) a * S512x1024.size a ≤ (i a).val ∧ (i a).val < cc0_transform_17 (grid0.coords t) a * S512x1024.size a + S512x1024.size a := by
  show i ∈ ((View.whole main_v14_5).slice (win0_17.rect t)).set ↔ _
  rw [View.set_slice_whole, Rect.mem_set_unit]
  exact Iff.rfl
theorem mem_blk_18 (t : Fin cfg0.N) (i : S64x16384.Idx) : i ∈ ((cfg0.win 18).blk t).view.set ↔
    ∀ a, cc0_transform_18 (grid0.coords t) a * S64x512.size a ≤ (i a).val ∧ (i a).val < cc0_transform_18 (grid0.coords t) a * S64x512.size a + S64x512.size a := by
  show i ∈ ((View.whole main_v14_6).slice (win0_18.rect t)).set ↔ _
  rw [View.set_slice_whole, Rect.mem_set_unit]
  exact Iff.rfl

/-! ## The arrays -/

/-- The array of the transposed key. -/
def G12 : Vec Ideal S64x1024 .f32 := fun j => Cert.Val.ky (args m c) (j 1) (j 0)
theorem arr_12 : (dats m hc 0 c).arrAt 12 cfg0.N = G12 m c := by
  refine Dat.arrAt_eq_of_cover (dats m hc 0 c) 12 (G12 m c) (fun t ht => funext fun y => ?_) (fun i => ⟨pt 63 (by decide), ?_, ?_⟩)
  · rw [flush_12, decide_eq_true_eq] at ht
    have e : (ix2 (y 0) (y 1) : S64x1024.Idx) = y := funext fun a => by
      match a with
      | 0 => rfl
      | 1 => rfl
    have a1 : (dats m hc 0 c).flushed 12 t y = keyTV m c (ix2 (y 0) (y 1)) := congrArg (keyTV m c) e.symm
    rw [a1]
    refine (keyTV_at m c (y 1) (y 0)).trans ?_
    refine congrArg (G12 m c) (a₁ := (ix2 (y 0) (y 1))) (funext fun a => Fin.ext ?_)
    match a with
    | 0 => show (y 0).val = 0 * 64 + 1 * (y 0).val; omega
    | 1 => show (y 1).val = 0 * 1024 + 1 * (y 1).val; omega
  · rw [flush_12]; rfl
  · refine (mem_blk_12 _ i).2 fun a => ?_
    match a with
    | 0 => exact ⟨(show 0 * 64 ≤ (i 0).val by omega), (show (i 0).val < 0 * 64 + 64 from by have h : (i 0).val < 64 := (i 0).isLt; omega)⟩
    | 1 => exact ⟨(show 0 * 1024 ≤ (i 1).val by omega), (show (i 1).val < 0 * 1024 + 1024 from by have h : (i 1).val < 1024 := (i 1).isLt; omega)⟩

/-- The array of the transposed new cell state. -/
def G13 : Vec Ideal S64x1024 .f32 := fun j => Cert.Val.cn (args m c) (j 1) (j 0)
theorem arr_13 : (dats m hc 0 c).arrAt 13 cfg0.N = G13 m c := by
  refine Dat.arrAt_eq_of_cover (dats m hc 0 c) 13 (G13 m c) (fun t ht => funext fun y => ?_) (fun i => ⟨pt 63 (by decide), ?_, ?_⟩)
  · rw [flush_13, decide_eq_true_eq] at ht
    have e : (ix2 (y 0) (y 1) : S64x1024.Idx) = y := funext fun a => by
      match a with
      | 0 => rfl
      | 1 => rfl
    have a1 : (dats m hc 0 c).flushed 13 t y = cnewTV m c (ix2 (y 0) (y 1)) := congrArg (cnewTV m c) e.symm
    rw [a1]
    refine (cnewTV_at m c (y 1) (y 0)).trans ?_
    refine congrArg (G13 m c) (a₁ := (ix2 (y 0) (y 1))) (funext fun a => Fin.ext ?_)
    match a with
    | 0 => show (y 0).val = 0 * 64 + 1 * (y 0).val; omega
    | 1 => show (y 1).val = 0 * 1024 + 1 * (y 1).val; omega
  · rw [flush_13]; rfl
  · refine (mem_blk_13 _ i).2 fun a => ?_
    match a with
    | 0 => exact ⟨(show 0 * 64 ≤ (i 0).val by omega), (show (i 0).val < 0 * 64 + 64 from by have h : (i 0).val < 64 := (i 0).isLt; omega)⟩
    | 1 => exact ⟨(show 0 * 1024 ≤ (i 1).val by omega), (show (i 1).val < 0 * 1024 + 1024 from by have h : (i 1).val < 1024 := (i 1).isLt; omega)⟩

/-- The array of the transposed read vector. -/
def G14 : Vec Ideal S64x1024 .f32 := fun j => Cert.Val.rd (args m c) (j 1) (j 0)
theorem read_G14 (n : ℕ) (h : n = 31) (i : S64x1024.Idx) : readV m c n i = G14 m c i := by
  subst h
  have h2 : ∀ (u : Fin 64) (b : Fin 1024), readV m c 31 (ix2 u b) = G14 m c (ix2 u b) := fun u b => read_at m c b u
  have e : (ix2 (i 0 : Fin 64) (i 1 : Fin 1024) : S64x1024.Idx) = i := funext fun a => by
    match a with
    | 0 => rfl
    | 1 => rfl
  rw [← e]
  exact h2 _ _
theorem arr_14 : (dats m hc 0 c).arrAt 14 cfg0.N = G14 m c := by
  refine Dat.arrAt_eq_of_cover (dats m hc 0 c) 14 (G14 m c) (fun t ht => funext fun y => ?_) (fun i => ⟨pt 63 (by decide), ?_, ?_⟩)
  · rw [flush_14, decide_eq_true_eq] at ht
    have a1 : (dats m hc 0 c).flushed 14 t y = readV m c (min t.val 31) y := rfl
    have a2 := a1.trans (read_G14 m c (min t.val 31) (by omega) y)
    have a3 : ∀ G : Vec Ideal S64x1024 .f32, G y = ((cfg0.win 14).blk t).view.read (Elt Ideal) G y := fun G => congrArg G (funext fun a => Fin.ext (by
      match a with
      | 0 => show (y 0).val = 0 * 64 + 1 * (y 0).val; omega
      | 1 => show (y 1).val = 0 * 1024 + 1 * (y 1).val; omega))
    exact a2.trans (a3 (G14 m c))
  · rw [flush_14]; rfl
  · refine (mem_blk_14 _ i).2 fun a => ?_
    match a with
    | 0 => exact ⟨(show 0 * 64 ≤ (i 0).val by omega), (show (i 0).val < 0 * 64 + 64 from by have h : (i 0).val < 64 := (i 0).isLt; omega)⟩
    | 1 => exact ⟨(show 0 * 1024 ≤ (i 1).val by omega), (show (i 1).val < 0 * 1024 + 1024 from by have h : (i 1).val < 1024 := (i 1).isLt; omega)⟩

/-- The array of the read weights. -/
def G15 : Vec Ideal S16384x1024 .f32 := fun j => Cert.Val.cwr (args m c) (j 0) (j 1)
theorem arr_15 : (dats m hc 0 c).arrAt 15 cfg0.N = G15 m c := by
  refine Dat.arrAt_eq_of_cover (dats m hc 0 c) 15 (G15 m c) (fun t _ => funext fun y => ?_) (fun i => ?_)
  · have e : (ix2 (y 0) (y 1) : S512x1024.Idx) = y := funext fun a => by
      match a with
      | 0 => rfl
      | 1 => rfl
    have a1 : (dats m hc 0 c).flushed 15 t y = cwrV m c (clampP t) (ix2 (y 0) (y 1)) := congrArg (cwrV m c (clampP t)) e.symm
    have hcl : (clampP t).val < 32 := show min t.val 31 < 32 by omega
    rw [a1]
    refine (cwrV_at m c (clampP t) hcl (y 0) (y 1)).trans ?_
    refine congrArg (G15 m c) (a₁ := (ix2 (row (clampP t).val hcl (y 0)) (y 1))) (funext fun a => Fin.ext ?_)
    match a with
    | 0 =>
      show min t.val 31 * 512 + (y 0).val = cc0_transform_15 (grid0.coords t) 0 * 512 + 1 * (y 0).val
      rw [tr15_eq t]
      show _ = min t.val 31 * 512 + 1 * (y 0).val
      omega
    | 1 => show (y 1).val = 0 * 1024 + 1 * (y 1).val; omega
  · have h0 : (i 0).val < 16384 := (i 0).isLt
    have h1 : (i 1).val < 1024 := (i 1).isLt
    have ex : ∃ t : Fin cfg0.N, (t.val < 31 ∨ t.val = 63) ∧ min t.val 31 = (i 0).val / 512 := by
      by_cases hn : (i 0).val / 512 < 31
      · exact ⟨pt ((i 0).val / 512) (by omega), .inl hn, show min ((i 0).val / 512) 31 = _ by omega⟩
      · exact ⟨pt 63 (by decide), .inr rfl, show min 63 31 = _ by omega⟩
    obtain ⟨t, ht, he⟩ := ex
    refine ⟨t, ?_, (mem_blk_15 t i).2 fun a => ?_⟩
    · rw [flush_15, Bool.or_eq_true, decide_eq_true_eq, decide_eq_true_eq]; exact ht
    · rw [tr15_eq t, he]
      match a with
      | 0 => exact ⟨(show (i 0).val / 512 * 512 ≤ (i 0).val by omega), (show (i 0).val < (i 0).val / 512 * 512 + 512 by omega)⟩
      | 1 => exact ⟨(show 0 * 1024 ≤ (i 1).val by omega), (show (i 1).val < 0 * 1024 + 1024 by omega)⟩

/-- The array of the usage weights. -/
def G16 : Vec Ideal S16384x1024 .f32 := fun j => Cert.Val.cwu (args m c) (j 0) (j 1)
theorem arr_16 : (dats m hc 0 c).arrAt 16 cfg0.N = G16 m c := by
  refine Dat.arrAt_eq_of_cover (dats m hc 0 c) 16 (G16 m c) (fun t _ => funext fun y => ?_) (fun i => ?_)
  · have e : (ix2 (y 0) (y 1) : S512x1024.Idx) = y := funext fun a => by
      match a with
      | 0 => rfl
      | 1 => rfl
    have a1 : (dats m hc 0 c).flushed 16 t y = cwuV m c (clampP t) (ix2 (y 0) (y 1)) := congrArg (cwuV m c (clampP t)) e.symm
    have hcl : (clampP t).val < 32 := show min t.val 31 < 32 by omega
    rw [a1]
    refine (cwuV_at m c (clampP t) hcl (y 0) (y 1)).trans ?_
    refine congrArg (G16 m c) (a₁ := (ix2 (row (clampP t).val hcl (y 0)) (y 1))) (funext fun a => Fin.ext ?_)
    match a with
    | 0 =>
      show min t.val 31 * 512 + (y 0).val = cc0_transform_16 (grid0.coords t) 0 * 512 + 1 * (y 0).val
      rw [tr16_eq t]
      show _ = min t.val 31 * 512 + 1 * (y 0).val
      omega
    | 1 => show (y 1).val = 0 * 1024 + 1 * (y 1).val; omega
  · have h0 : (i 0).val < 16384 := (i 0).isLt
    have h1 : (i 1).val < 1024 := (i 1).isLt
    have ex : ∃ t : Fin cfg0.N, (t.val < 31 ∨ t.val = 63) ∧ min t.val 31 = (i 0).val / 512 := by
      by_cases hn : (i 0).val / 512 < 31
      · exact ⟨pt ((i 0).val / 512) (by omega), .inl hn, show min ((i 0).val / 512) 31 = _ by omega⟩
      · exact ⟨pt 63 (by decide), .inr rfl, show min 63 31 = _ by omega⟩
    obtain ⟨t, ht, he⟩ := ex
    refine ⟨t, ?_, (mem_blk_16 t i).2 fun a => ?_⟩
    · rw [flush_16, Bool.or_eq_true, decide_eq_true_eq, decide_eq_true_eq]; exact ht
    · rw [tr16_eq t, he]
      match a with
      | 0 => exact ⟨(show (i 0).val / 512 * 512 ≤ (i 0).val by omega), (show (i 0).val < (i 0).val / 512 * 512 + 512 by omega)⟩
      | 1 => exact ⟨(show 0 * 1024 ≤ (i 1).val by omega), (show (i 1).val < 0 * 1024 + 1024 by omega)⟩

/-- The array of the least-used weights. -/
def G17 : Vec Ideal S16384x1024 .f32 := fun j => Cert.Val.lwu (args m c) (j 0) (j 1)
theorem arr_17 : (dats m hc 0 c).arrAt 17 cfg0.N = G17 m c := by
  refine Dat.arrAt_eq_of_cover (dats m hc 0 c) 17 (G17 m c) (fun t ht => funext fun y => ?_) (fun i => ?_)
  · rw [flush_17, decide_eq_true_eq] at ht
    have e : (ix2 (y 0) (y 1) : S512x1024.Idx) = y := funext fun a => by
      match a with
      | 0 => rfl
      | 1 => rfl
    have a1 : (dats m hc 0 c).flushed 17 t y = lwuV m c t (ix2 (y 0) (y 1)) := congrArg (lwuV m c t) e.symm
    have hn : t.val - 32 < 32 := by have h : t.val < 64 := t.isLt; omega
    rw [a1]
    refine (lwuV_at m c t ht hn (y 0) (y 1)).trans ?_
    refine congrArg (G17 m c) (a₁ := (ix2 (row (t.val - 32) hn (y 0)) (y 1))) (funext fun a => Fin.ext ?_)
    match a with
    | 0 =>
      show (t.val - 32) * 512 + (y 0).val = cc0_transform_17 (grid0.coords t) 0 * 512 + 1 * (y 0).val
      rw [tr17_eq t ht]
      show _ = (t.val - 32) * 512 + 1 * (y 0).val
      omega
    | 1 => show (y 1).val = 0 * 1024 + 1 * (y 1).val; omega
  · have h0 : (i 0).val < 16384 := (i 0).isLt
    have h1 : (i 1).val < 1024 := (i 1).isLt
    have ex : ∃ t : Fin cfg0.N, 32 ≤ t.val ∧ t.val - 32 = (i 0).val / 512 :=
      ⟨pt (32 + (i 0).val / 512) (by omega), show 32 ≤ 32 + (i 0).val / 512 by omega, show 32 + (i 0).val / 512 - 32 = _ by omega⟩
    obtain ⟨t, ht, he⟩ := ex
    refine ⟨t, ?_, (mem_blk_17 t i).2 fun a => ?_⟩
    · rw [flush_17, decide_eq_true_eq]; exact ht
    · rw [tr17_eq t ht, he]
      match a with
      | 0 => exact ⟨(show (i 0).val / 512 * 512 ≤ (i 0).val by omega), (show (i 0).val < (i 0).val / 512 * 512 + 512 by omega)⟩
      | 1 => exact ⟨(show 0 * 1024 ≤ (i 1).val by omega), (show (i 1).val < 0 * 1024 + 1024 by omega)⟩

/-- The array of the transposed new memory, row `s` cleared. -/
def G18 (s : Fin 16384) : Vec Ideal S64x16384 .f32 := fun j => Cert.Val.mem (args m c) s (j 1) (j 0)
theorem arr_18 (s : Fin 16384) (hs : selV m c (hc c) = BitVec.ofNat 32 s.val) : (dats m hc 0 c).arrAt 18 cfg0.N = G18 m c s := by
  refine Dat.arrAt_eq_of_cover (dats m hc 0 c) 18 (G18 m c s) (fun t ht => funext fun y => ?_) (fun i => ?_)
  · rw [flush_18, decide_eq_true_eq] at ht
    have e : (ix2 (y 0) (y 1) : S64x512.Idx) = y := funext fun a => by
      match a with
      | 0 => rfl
      | 1 => rfl
    have a1 : (dats m hc 0 c).flushed 18 t y = memV m c (hc c) t (ix2 (y 0) (y 1)) := congrArg (memV m c (hc c) t) e.symm
    have hn : t.val - 32 < 32 := by have h : t.val < 64 := t.isLt; omega
    rw [a1]
    refine (memV_at m c (hc c) s hs t ht hn (y 0) (y 1)).trans ?_
    refine congrArg (G18 m c s) (a₁ := (ix2 (y 0) (row (t.val - 32) hn (y 1)))) (funext fun a => Fin.ext ?_)
    match a with
    | 0 =>
      show (y 0).val = cc0_transform_18 (grid0.coords t) 0 * 64 + 1 * (y 0).val
      rw [tr18_eq t ht]
      show _ = 0 * 64 + 1 * (y 0).val
      omega
    | 1 =>
      show (t.val - 32) * 512 + (y 1).val = cc0_transform_18 (grid0.coords t) 1 * 512 + 1 * (y 1).val
      rw [tr18_eq t ht]
      show _ = (t.val - 32) * 512 + 1 * (y 1).val
      omega
  · have h0 : (i 0).val < 64 := (i 0).isLt
    have h1 : (i 1).val < 16384 := (i 1).isLt
    have ex : ∃ t : Fin cfg0.N, 32 ≤ t.val ∧ t.val - 32 = (i 1).val / 512 :=
      ⟨pt (32 + (i 1).val / 512) (by omega), show 32 ≤ 32 + (i 1).val / 512 by omega, show 32 + (i 1).val / 512 - 32 = _ by omega⟩
    obtain ⟨t, ht, he⟩ := ex
    refine ⟨t, ?_, (mem_blk_18 t i).2 fun a => ?_⟩
    · rw [flush_18, decide_eq_true_eq]; exact ht
    · rw [tr18_eq t ht, he]
      match a with
      | 0 => exact ⟨(show 0 * 64 ≤ (i 0).val by omega), (show (i 0).val < 0 * 64 + 64 by omega)⟩
      | 1 => exact ⟨(show (i 1).val / 512 * 512 ≤ (i 1).val by omega), (show (i 1).val < (i 1).val / 512 * 512 + 512 by omega)⟩

end Cert.KernelIdeal.Val

end
-- ==== Proof.Leave.lean ====
/-
What the launch hands the kernel at a point and what it expects back, window by window.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic
public import proofs.«01_k».proof.Proof.Data

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (hc : ∀ c : Dev nD, ChkV m c) (c : Dev nD)

/-- What the launch expects back of window `w`'s staging buffer at point `t`. -/
def leave (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m hc 0 c).before w t d))
    | true => owns (c : Thread nD τ) ((cfg0.win w).stage (cfg0.slots t w)) fullShare ((dats m hc 0 c).after w t)
  | false => owns (c : Thread nD τ) ((cfg0.win w).stage (cfg0.slots t w)) fullShare ((dats m hc 0 c).after w t)

/-- A window the kernel writes at the point: its value there. -/
theorem leave_live (w : Fin cfg0.W) (t : Fin cfg0.N) (hi : cfg0.idle w (cfg0.grid.coords t) = false) (v)
    (hv : v = (dats m hc 0 c).after w t) :
    owns (c : Thread nD τ) ((cfg0.win w).stage (cfg0.slots t w)) fullShare v ⊢ leave m hc c w t := by
  subst hv; unfold leave; rw [hi]

/-- A window the kernel leaves alone at the point: what it held, which is its value there where it is written back. -/
theorem leave_idle (w : Fin cfg0.W) (t : Fin cfg0.N) (hi : cfg0.idle w (cfg0.grid.coords t) = true)
    (hb : (cfg0.win w).flush t = true → ∀ d, (dats m hc 0 c).before w t d = (dats m hc 0 c).after w t) :
    iprop(∃ d, owns (c : Thread nD τ) ((cfg0.win w).stage (cfg0.slots t w)) fullShare ((dats m hc 0 c).before w t d)) ⊢ leave m hc c w t := by
  unfold leave; rw [hi]
  cases hf : (cfg0.win w).flush t with
  | false => exact .rfl
  | true =>
    refine show iprop(∃ d, owns (c : Thread nD τ) ((cfg0.win w).stage (cfg0.slots t w)) fullShare ((dats m hc 0 c).before w t d))
      ⊢ owns (c : Thread nD τ) ((cfg0.win w).stage (cfg0.slots t w)) fullShare ((dats m hc 0 c).after w t) from ?_
    iintro ⟨%d, H⟩
    rw [hb hf d]
    iexact H

/-- What the kernel is handed at point `t`. -/
def bodyPre (t : Fin cfg0.N) : sProp 𝕄 :=
  iprop((dats m hc 0 c).Φ t.castSucc ∗ (dats m hc 0 c).owesAt () t.castSucc
    ∗ (∃ d, owns (c : Thread nD τ) (win0_0.stage (cfg0.slots t 0)) fullShare ((dats m hc 0 c).before 0 t d))
    ∗ (∃ d, owns (c : Thread nD τ) (win0_1.stage (cfg0.slots t 1)) fullShare ((dats m hc 0 c).before 1 t d))
    ∗ (∃ d, owns (c : Thread nD τ) (win0_2.stage (cfg0.slots t 2)) fullShare ((dats m hc 0 c).before 2 t d))
    ∗ (∃ d, owns (c : Thread nD τ) (win0_3.stage (cfg0.slots t 3)) fullShare ((dats m hc 0 c).before 3 t d))
    ∗ (∃ d, owns (c : Thread nD τ) (win0_4.stage (cfg0.slots t 4)) fullShare ((dats m hc 0 c).before 4 t d))
    ∗ (∃ d, owns (c : Thread nD τ) (win0_5.stage (cfg0.slots t 5)) fullShare ((dats m hc 0 c).before 5 t d))
    ∗ (∃ d, owns (c : Thread nD τ) (win0_6.stage (cfg0.slots t 6)) fullShare ((dats m hc 0 c).before 6 t d))
    ∗ (∃ d, owns (c : Thread nD τ) (win0_7.stage (cfg0.slots t 7)) fullShare ((dats m hc 0 c).before 7 t d))
    ∗ (∃ d, owns (c : Thread nD τ) (win0_8.stage (cfg0.slots t 8)) fullShare ((dats m hc 0 c).before 8 t d))
    ∗ (∃ d, owns (c : Thread nD τ) (win0_9.stage (cfg0.slots t 9)) fullShare ((dats m hc 0 c).before 9 t d))
    ∗ (∃ d, owns (c : Thread nD τ) (win0_10.stage (cfg0.slots t 10)) fullShare ((dats m hc 0 c).before 10 t d))
    ∗ (∃ d, owns (c : Thread nD τ) (win0_11.stage (cfg0.slots t 11)) fullShare ((dats m hc 0 c).before 11 t d))
    ∗ (∃ d, owns (c : Thread nD τ) (win0_12.stage (cfg0.slots t 12)) fullShare ((dats m hc 0 c).before 12 t d))
    ∗ (∃ d, owns (c : Thread nD τ) (win0_13.stage (cfg0.slots t 13)) fullShare ((dats m hc 0 c).before 13 t d))
    ∗ (∃ d, owns (c : Thread nD τ) (win0_14.stage (cfg0.slots t 14)) fullShare ((dats m hc 0 c).before 14 t d))
    ∗ (∃ d, owns (c : Thread nD τ) (win0_15.stage (cfg0.slots t 15)) fullShare ((dats m hc 0 c).before 15 t d))
    ∗ (∃ d, owns (c : Thread nD τ) (win0_16.stage (cfg0.slots t 16)) fullShare ((dats m hc 0 c).before 16 t d))
    ∗ (∃ d, owns (c : Thread nD τ) (win0_17.stage (cfg0.slots t 17)) fullShare ((dats m hc 0 c).before 17 t d))
    ∗ (∃ d, owns (c : Thread nD τ) (win0_18.stage (cfg0.slots t 18)) fullShare ((dats m hc 0 c).before 18 t d)))

/-- What the kernel gives back at point `t`. -/
def bodyPost (t : Fin cfg0.N) : sProp 𝕄 :=
  iprop((dats m hc 0 c).Φ t.succ ∗ (dats m hc 0 c).owesAt () t.succ
    ∗ owns (c : Thread nD τ) (win0_0.stage (cfg0.slots t 0)) fullShare (xb0 m c t)
    ∗ owns (c : Thread nD τ) (win0_1.stage (cfg0.slots t 1)) fullShare (xb1 m c t)
    ∗ owns (c : Thread nD τ) (win0_2.stage (cfg0.slots t 2)) fullShare (xb2 m c t)
    ∗ owns (c : Thread nD τ) (win0_3.stage (cfg0.slots t 3)) fullShare (xb3 m c t)
    ∗ owns (c : Thread nD τ) (win0_4.stage (cfg0.slots t 4)) fullShare (xb4 m c t)
    ∗ owns (c : Thread nD τ) (win0_5.stage (cfg0.slots t 5)) fullShare (xb5 m c t)
    ∗ owns (c : Thread nD τ) (win0_6.stage (cfg0.slots t 6)) fullShare (xb6 m c t)
    ∗ owns (c : Thread nD τ) (win0_7.stage (cfg0.slots t 7)) fullShare (xb7 m c t)
    ∗ owns (c : Thread nD τ) (win0_8.stage (cfg0.slots t 8)) fullShare (xb8 m c t)
    ∗ owns (c : Thread nD τ) (win0_9.stage (cfg0.slots t 9)) fullShare (xb9 m c t)
    ∗ owns (c : Thread nD τ) (win0_10.stage (cfg0.slots t 10)) fullShare (xb10 m c t)
    ∗ owns (c : Thread nD τ) (win0_11.stage (cfg0.slots t 11)) fullShare (xb11 m c t)
    ∗ leave m hc c 12 t
    ∗ leave m hc c 13 t
    ∗ leave m hc c 14 t
    ∗ leave m hc c 15 t
    ∗ leave m hc c 16 t
    ∗ leave m hc c 17 t
    ∗ leave m hc c 18 t)

/-- The kernel's behaviour at point `t`. -/
def Sound (t : Fin cfg0.N) : Prop :=
  bodyPre m hc c t ⊢ wp frame (wpE (defs₀ (F := F)) Variants.none c none) Set.univ (bodyAt0 t) (fun _ => bodyPost m hc c t)

/-- The first point. -/
abbrev p0 : Fin cfg0.N := pt 0 (by decide)
/-- The first point of the second half. -/
abbrev p32 : Fin cfg0.N := pt 32 (by decide)

theorem exists_all {M : Type _} [URA M] {α : Sort _} {Q : α → Prop} (T : α) (h : ∀ a, Q a ↔ a = T) (P : α → sProp M) :
    iprop(∃ a, ⌜Q a⌝ ∗ P a) = P T := by
  rw [← exists_held trivial T P]
  congr 1; funext a; congr 2
  exact propext ⟨fun q _ => (h a).mp q, fun q => (h a).mpr (q trivial)⟩

/-- The scratch while the first half runs, after its first point. -/
theorem PhiS_pos (n : ℕ) (h : 1 ≤ n) : PhiS m hc c n = iprop(
  owns (c : Thread nD τ) (Memref.whole cc0_scratch0) fullShare (nkV m c)
  ∗ owns (c : Thread nD τ) (Memref.whole cc0_scratch1) fullShare (kyV m c)
  ∗ (∃ X : Vec F S32x64x512 .f32, ⌜∀ j, (j 0).val < n → X j = T22 m c j⌝ ∗ owns (c : Thread nD τ) (Memref.whole cc0_scratch2) fullShare X)
  ∗ (∃ X : Vec F S32x64x512 .f32, ⌜∀ j, (j 0).val < n → X j = T23 m c j⌝ ∗ owns (c : Thread nD τ) (Memref.whole cc0_scratch3) fullShare X)
  ∗ (∃ X : Vec F S16384x1024 .i8, ⌜∀ j, (j 0).val < n * 512 → X j = T24 m c j⌝ ∗ owns (c : Thread nD τ) (Memref.whole cc0_scratch4) fullShare X)
  ∗ (∃ X : Vec F S32x1024 .f32, ⌜∀ j, (j 0).val < n → X j = T25 m c j⌝ ∗ owns (c : Thread nD τ) (Memref.whole cc0_scratch5) fullShare X)
  ∗ (∃ X, ⌜33 ≤ n → X = cminV m c⌝ ∗ owns (c : Thread nD τ) (Memref.whole cc0_scratch6) fullShare X)
  ∗ (∃ X, ⌜33 ≤ n → X = fun _ => selV m c (hc c)⌝ ∗ owns (c : Thread nD τ) (Memref.whole cc0_scratch7) fullShare X)
  ∗ ∃ r, prngReg c r) := by
  unfold PhiS
  rw [exists_held h (nkV m c), exists_held h (kyV m c)]

/-- The scratch once the first half has run: every table is complete. -/
theorem PhiS_half (n : ℕ) (h : 32 ≤ n) : PhiS m hc c n = iprop(
  owns (c : Thread nD τ) (Memref.whole cc0_scratch0) fullShare (nkV m c)
  ∗ owns (c : Thread nD τ) (Memref.whole cc0_scratch1) fullShare (kyV m c)
  ∗ owns (c : Thread nD τ) (Memref.whole cc0_scratch2) fullShare (T22 m c)
  ∗ owns (c : Thread nD τ) (Memref.whole cc0_scratch3) fullShare (T23 m c)
  ∗ owns (c : Thread nD τ) (Memref.whole cc0_scratch4) fullShare (T24 m c)
  ∗ owns (c : Thread nD τ) (Memref.whole cc0_scratch5) fullShare (T25 m c)
  ∗ (∃ X, ⌜33 ≤ n → X = cminV m c⌝ ∗ owns (c : Thread nD τ) (Memref.whole cc0_scratch6) fullShare X)
  ∗ (∃ X, ⌜33 ≤ n → X = fun _ => selV m c (hc c)⌝ ∗ owns (c : Thread nD τ) (Memref.whole cc0_scratch7) fullShare X)
  ∗ ∃ r, prngReg c r) := by
  rw [PhiS_pos m hc c n (by omega)]
  rw [exists_all (T22 m c) (fun X => ⟨fun h' => funext fun j => h' j (by have : (j 0).val < 32 := (j 0).isLt; omega), fun h' j _ => congrFun h' j⟩),
    exists_all (T23 m c) (fun X => ⟨fun h' => funext fun j => h' j (by have : (j 0).val < 32 := (j 0).isLt; omega), fun h' j _ => congrFun h' j⟩),
    exists_all (T24 m c) (fun X => ⟨fun h' => funext fun j => h' j (by have : (j 0).val < 16384 := (j 0).isLt; omega), fun h' j _ => congrFun h' j⟩),
    exists_all (T25 m c) (fun X => ⟨fun h' => funext fun j => h' j (by have : (j 0).val < 32 := (j 0).isLt; omega), fun h' j _ => congrFun h' j⟩)]

/-- The scratch once the row is picked. -/
theorem PhiS_late (n : ℕ) (h : 33 ≤ n) : PhiS m hc c n = iprop(
  owns (c : Thread nD τ) (Memref.whole cc0_scratch0) fullShare (nkV m c)
  ∗ owns (c : Thread nD τ) (Memref.whole cc0_scratch1) fullShare (kyV m c)
  ∗ owns (c : Thread nD τ) (Memref.whole cc0_scratch2) fullShare (T22 m c)
  ∗ owns (c : Thread nD τ) (Memref.whole cc0_scratch3) fullShare (T23 m c)
  ∗ owns (c : Thread nD τ) (Memref.whole cc0_scratch4) fullShare (T24 m c)
  ∗ owns (c : Thread nD τ) (Memref.whole cc0_scratch5) fullShare (T25 m c)
  ∗ owns (c : Thread nD τ) (Memref.whole cc0_scratch6) fullShare (cminV m c)
  ∗ owns (c : Thread nD τ) (Memref.whole cc0_scratch7) fullShare (fun _ => selV m c (hc c))
  ∗ ∃ r, prngReg c r) := by
  rw [PhiS_half m hc c n (by omega), exists_held h (cminV m c), exists_held h (fun _ => selV m c (hc c))]

end Cert.KernelIdeal.Hand

end
-- ==== Proof.BodyA.lean ====
/-
The kernel's body at the first point: the controller and the first block.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic
public import proofs.«01_k».proof.Proof.BodyDefs

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

set_option maxHeartbeats 1000000 in
/-- What the body leaves at the first point: the controller and the first block. -/
theorem bodyA (c : Dev nD) (i : grid0.Coords) (h1 : k0_cond1 i = 1#1) (h2 : k0_cond2 i = 1#1) (h3 : k0_cond3 i = 1#1) (h4 : ¬ k0_cond4 i = 1#1) (h5 : ¬ k0_cond5 i = 1#1)
    (arg1 : Memref sig .tc .vmem S1024x128 .f32) (harg1 : arg1.IsWhole)
    (arg2 : Memref sig .tc .vmem S64x1024 .f32) (harg2 : arg2.IsWhole)
    (arg3 : Memref sig .tc .vmem S64x1024 .f32) (harg3 : arg3.IsWhole)
    (arg4 : Memref sig .tc .vmem S64x1024 .f32) (harg4 : arg4.IsWhole)
    (arg5 : Memref sig .tc .vmem S192x256 .f32) (harg5 : arg5.IsWhole)
    (arg6 : Memref sig .tc .vmem S64x256 .f32) (harg6 : arg6.IsWhole)
    (arg7 : Memref sig .tc .vmem S8x256 .f32) (harg7 : arg7.IsWhole)
    (arg8 : Memref sig .tc .vmem S8x128 .f32) (harg8 : arg8.IsWhole)
    (arg9 : Memref sig .tc .vmem S64x512 .f32) (harg9 : arg9.IsWhole)
    (arg10 : Memref sig .tc .vmem S512x1024 .f32) (harg10 : arg10.IsWhole)
    (arg11 : Memref sig .tc .vmem S512x1024 .f32) (harg11 : arg11.IsWhole)
    (arg12 : Memref sig .tc .vmem S512x1024 .f32) (harg12 : arg12.IsWhole)
    (arg13 : Memref sig .tc .vmem S64x1024 .f32) (harg13 : arg13.IsWhole)
    (arg14 : Memref sig .tc .vmem S64x1024 .f32) (harg14 : arg14.IsWhole)
    (arg15 : Memref sig .tc .vmem S64x1024 .f32) (harg15 : arg15.IsWhole)
    (arg16 : Memref sig .tc .vmem S512x1024 .f32) (harg16 : arg16.IsWhole)
    (arg17 : Memref sig .tc .vmem S512x1024 .f32) (harg17 : arg17.IsWhole)
    (arg18 : Memref sig .tc .vmem S512x1024 .f32) (harg18 : arg18.IsWhole)
    (arg19 : Memref sig .tc .vmem S64x512 .f32) (harg19 : arg19.IsWhole)
    (arg20 : Memref sig .tc .vmem S1024x64 .f32) (harg20 : arg20.IsWhole)
    (arg21 : Memref sig .tc .vmem S1024x64 .f32) (harg21 : arg21.IsWhole)
    (arg22 : Memref sig .tc .vmem S32x64x512 .f32) (harg22 : arg22.IsWhole)
    (arg23 : Memref sig .tc .vmem S32x64x512 .f32) (harg23 : arg23.IsWhole)
    (arg24 : Memref sig .tc .vmem S16384x1024 .i8) (harg24 : arg24.IsWhole)
    (arg25 : Memref sig .tc .vmem S32x1024 .f32) (harg25 : arg25.IsWhole)
    (arg26 : Memref sig .tc .vmem S1x1024 .f32) (harg26 : arg26.IsWhole)
    (arg27 : Memref sig .tc .smem S1 .i32) (harg27 : arg27.IsWhole)
    (X1 : Vec F S1024x128 .f32) (X2 : Vec F S64x1024 .f32) (X3 : Vec F S64x1024 .f32) (X4 : Vec F S64x1024 .f32) (X5 : Vec F S192x256 .f32) (X6 : Vec F S64x256 .f32) (X7 : Vec F S8x256 .f32) (X8 : Vec F S8x128 .f32) (X9 : Vec F S64x512 .f32) (X10 : Vec F S512x1024 .f32) (X11 : Vec F S512x1024 .f32) (X12 : Vec F S512x1024 .f32) (X13 : Vec F S64x1024 .f32) (X14 : Vec F S64x1024 .f32) (X15 : Vec F S64x1024 .f32) (X16 : Vec F S512x1024 .f32) (X17 : Vec F S512x1024 .f32) (X20 : Vec F S1024x64 .f32) (X21 : Vec F S1024x64 .f32) (X22 : Vec F S32x64x512 .f32) (X23 : Vec F S32x64x512 .f32) (X24 : Vec F S16384x1024 .i8) (X25 : Vec F S32x1024 .f32)  (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg20 fullShare X20 ∗ owns (c : Thread nD τ) arg21 fullShare X21 ∗ owns (c : Thread nD τ) arg22 fullShare X22 ∗ owns (c : Thread nD τ) arg23 fullShare X23 ∗ owns (c : Thread nD τ) arg24 fullShare X24 ∗ owns (c : Thread nD τ) arg25 fullShare X25
      ∗ (owns (c : Thread nD τ) arg1 fullShare X1
        ∗ owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg8 fullShare X8
        ∗ owns (c : Thread nD τ) arg9 fullShare X9
        ∗ owns (c : Thread nD τ) arg10 fullShare X10
        ∗ owns (c : Thread nD τ) arg11 fullShare X11
        ∗ owns (c : Thread nD τ) arg12 fullShare X12
        ∗ owns (c : Thread nD τ) arg13 fullShare (keyTOf X1 X2 X3 X4 X5 X6 X7)
        ∗ owns (c : Thread nD τ) arg14 fullShare (k0_pay1 k0_pay12 (cnewOf X1 X2 X3 X4 X5 X6 X7))
        ∗ owns (c : Thread nD τ) arg15 fullShare (k0_pay6 (k0_pay16 X9) (k0_pay17 X9 (k0_pay3 (keyOf X1 X2 X3 X4 X5 X6 X7))))
        ∗ owns (c : Thread nD τ) arg16 fullShare (k0_pay17 X9 (k0_pay3 (keyOf X1 X2 X3 X4 X5 X6 X7)))
        ∗ owns (c : Thread nD τ) arg17 fullShare (cwuOf X9 (k0_pay3 (keyOf X1 X2 X3 X4 X5 X6 X7)) X8 X12 X11 X10)
        ∗ owns (c : Thread nD τ) arg20 fullShare (k0_pay3 (keyOf X1 X2 X3 X4 X5 X6 X7))
        ∗ owns (c : Thread nD τ) arg21 fullShare (k0_pay2 (keyOf X1 X2 X3 X4 X5 X6 X7))
        ∗ owns (c : Thread nD τ) arg22 fullShare ((Rect.unit (s := S32x64x512) (k0_off1 i) S1x64x512.size (k0_off1_inb i h2)).overlay X22 (k0_pay4 (cwwOf X8 X12 X11) (k0_pay2 (keyOf X1 X2 X3 X4 X5 X6 X7))))
        ∗ owns (c : Thread nD τ) arg23 fullShare ((Rect.unit (s := S32x64x512) (k0_off1 i) S1x64x512.size (k0_off1_inb i h2)).overlay X23 (k0_pay5 (k0_pay16 X9)))
        ∗ owns (c : Thread nD τ) arg24 fullShare ((Rect.unit (s := S16384x1024) (k0_off2 i) S512x1024.size (k0_off2_inb i h2)).overlay X24 (k0_pay8 (cwuOf X9 (k0_pay3 (keyOf X1 X2 X3 X4 X5 X6 X7)) X8 X12 X11 X10)))
        ∗ owns (c : Thread nD τ) arg25 fullShare ((Rect.unit (s := S32x1024) (k0_off3 i) S1x1024.size (k0_off3_inb i h2)).overlay X25 (k0_pay9 (cwuOf X9 (k0_pay3 (keyOf X1 X2 X3 X4 X5 X6 X7)) X8 X12 X11 X10)))
        -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__body_eq_skeleton]; unfold cc0__body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f20, %e20, H20⟩, ⟨%f21, %e21, H21⟩, ⟨%f22, %e22, H22⟩, ⟨%f23, %e23, H23⟩, ⟨%f24, %e24, H24⟩, ⟨%f25, %e25, H25⟩, Hk⟩
  have p1 : ∀ r : Rect S1024x128, View.readAt (Elt F) arg1.view r.toLoadRect f1 = View.ld X1 r := fun r => by rw [View.readAt_eq_ld, e1]
  have w1 : View.ld X1 (Rect.unit (s := S1024x128) ![0, 0] S1024x128.size inb_S1024x128_S1024x128_0_0) = X1 := View.ld_unit_zero zero2 _ _
  have p2 : ∀ r : Rect S64x1024, View.readAt (Elt F) arg2.view r.toLoadRect f2 = View.ld X2 r := fun r => by rw [View.readAt_eq_ld, e2]
  have w2 : View.ld X2 (Rect.unit (s := S64x1024) ![0, 0] S64x1024.size inb_S64x1024_S64x1024_0_0) = X2 := View.ld_unit_zero zero2 _ _
  have p3 : ∀ r : Rect S64x1024, View.readAt (Elt F) arg3.view r.toLoadRect f3 = View.ld X3 r := fun r => by rw [View.readAt_eq_ld, e3]
  have w3 : View.ld X3 (Rect.unit (s := S64x1024) ![0, 0] S64x1024.size inb_S64x1024_S64x1024_0_0) = X3 := View.ld_unit_zero zero2 _ _
  have p4 : ∀ r : Rect S64x1024, View.readAt (Elt F) arg4.view r.toLoadRect f4 = View.ld X4 r := fun r => by rw [View.readAt_eq_ld, e4]
  have w4 : View.ld X4 (Rect.unit (s := S64x1024) ![0, 0] S64x1024.size inb_S64x1024_S64x1024_0_0) = X4 := View.ld_unit_zero zero2 _ _
  have p5 : ∀ r : Rect S192x256, View.readAt (Elt F) arg5.view r.toLoadRect f5 = View.ld X5 r := fun r => by rw [View.readAt_eq_ld, e5]
  have p6 : ∀ r : Rect S64x256, View.readAt (Elt F) arg6.view r.toLoadRect f6 = View.ld X6 r := fun r => by rw [View.readAt_eq_ld, e6]
  have w6 : View.ld X6 (Rect.unit (s := S64x256) ![0, 0] S64x256.size inb_S64x256_S64x256_0_0) = X6 := View.ld_unit_zero zero2 _ _
  have p7 : ∀ r : Rect S8x256, View.readAt (Elt F) arg7.view r.toLoadRect f7 = View.ld X7 r := fun r => by rw [View.readAt_eq_ld, e7]
  have p8 : ∀ r : Rect S8x128, View.readAt (Elt F) arg8.view r.toLoadRect f8 = View.ld X8 r := fun r => by rw [View.readAt_eq_ld, e8]
  have p9 : ∀ r : Rect S64x512, View.readAt (Elt F) arg9.view r.toLoadRect f9 = View.ld X9 r := fun r => by rw [View.readAt_eq_ld, e9]
  have w9 : View.ld X9 (Rect.unit (s := S64x512) ![0, 0] S64x512.size inb_S64x512_S64x512_0_0) = X9 := View.ld_unit_zero zero2 _ _
  have p10 : ∀ r : Rect S512x1024, View.readAt (Elt F) arg10.view r.toLoadRect f10 = View.ld X10 r := fun r => by rw [View.readAt_eq_ld, e10]
  have w10 : View.ld X10 (Rect.unit (s := S512x1024) ![0, 0] S512x1024.size inb_S512x1024_S512x1024_0_0) = X10 := View.ld_unit_zero zero2 _ _
  have p11 : ∀ r : Rect S512x1024, View.readAt (Elt F) arg11.view r.toLoadRect f11 = View.ld X11 r := fun r => by rw [View.readAt_eq_ld, e11]
  have w11 : View.ld X11 (Rect.unit (s := S512x1024) ![0, 0] S512x1024.size inb_S512x1024_S512x1024_0_0) = X11 := View.ld_unit_zero zero2 _ _
  have p12 : ∀ r : Rect S512x1024, View.readAt (Elt F) arg12.view r.toLoadRect f12 = View.ld X12 r := fun r => by rw [View.readAt_eq_ld, e12]
  have w12 : View.ld X12 (Rect.unit (s := S512x1024) ![0, 0] S512x1024.size inb_S512x1024_S512x1024_0_0) = X12 := View.ld_unit_zero zero2 _ _
  have p13 : ∀ r : Rect S64x1024, View.readAt (Elt F) arg13.view r.toLoadRect f13 = View.ld X13 r := fun r => by rw [View.readAt_eq_ld, e13]
  have w13 : View.ld X13 (Rect.unit (s := S64x1024) ![0, 0] S64x1024.size inb_S64x1024_S64x1024_0_0) = X13 := View.ld_unit_zero zero2 _ _
  have p14 : ∀ r : Rect S64x1024, View.readAt (Elt F) arg14.view r.toLoadRect f14 = View.ld X14 r := fun r => by rw [View.readAt_eq_ld, e14]
  have w14 : View.ld X14 (Rect.unit (s := S64x1024) ![0, 0] S64x1024.size inb_S64x1024_S64x1024_0_0) = X14 := View.ld_unit_zero zero2 _ _
  have p15 : ∀ r : Rect S64x1024, View.readAt (Elt F) arg15.view r.toLoadRect f15 = View.ld X15 r := fun r => by rw [View.readAt_eq_ld, e15]
  have w15 : View.ld X15 (Rect.unit (s := S64x1024) ![0, 0] S64x1024.size inb_S64x1024_S64x1024_0_0) = X15 := View.ld_unit_zero zero2 _ _
  have p16 : ∀ r : Rect S512x1024, View.readAt (Elt F) arg16.view r.toLoadRect f16 = View.ld X16 r := fun r => by rw [View.readAt_eq_ld, e16]
  have w16 : View.ld X16 (Rect.unit (s := S512x1024) ![0, 0] S512x1024.size inb_S512x1024_S512x1024_0_0) = X16 := View.ld_unit_zero zero2 _ _
  have p17 : ∀ r : Rect S512x1024, View.readAt (Elt F) arg17.view r.toLoadRect f17 = View.ld X17 r := fun r => by rw [View.readAt_eq_ld, e17]
  have w17 : View.ld X17 (Rect.unit (s := S512x1024) ![0, 0] S512x1024.size inb_S512x1024_S512x1024_0_0) = X17 := View.ld_unit_zero zero2 _ _
  have p20 : ∀ r : Rect S1024x64, View.readAt (Elt F) arg20.view r.toLoadRect f20 = View.ld X20 r := fun r => by rw [View.readAt_eq_ld, e20]
  have w20 : View.ld X20 (Rect.unit (s := S1024x64) ![0, 0] S1024x64.size inb_S1024x64_S1024x64_0_0) = X20 := View.ld_unit_zero zero2 _ _
  have p21 : ∀ r : Rect S1024x64, View.readAt (Elt F) arg21.view r.toLoadRect f21 = View.ld X21 r := fun r => by rw [View.readAt_eq_ld, e21]
  have w21 : View.ld X21 (Rect.unit (s := S1024x64) ![0, 0] S1024x64.size inb_S1024x64_S1024x64_0_0) = X21 := View.ld_unit_zero zero2 _ _
  have p22 : ∀ r : Rect S32x64x512, View.readAt (Elt F) arg22.view r.toLoadRect f22 = View.ld X22 r := fun r => by rw [View.readAt_eq_ld, e22]
  have p23 : ∀ r : Rect S32x64x512, View.readAt (Elt F) arg23.view r.toLoadRect f23 = View.ld X23 r := fun r => by rw [View.readAt_eq_ld, e23]
  have p24 : ∀ r : Rect S16384x1024, View.readAt (Elt F) arg24.view r.toLoadRect f24 = View.ld X24 r := fun r => by rw [View.readAt_eq_ld, e24]
  have p25 : ∀ r : Rect S32x1024, View.readAt (Elt F) arg25.view r.toLoadRect f25 = View.ld X25 r := fun r => by rw [View.readAt_eq_ld, e25]
  have c20 : ∀ w : Vec F S1024x64 .f32, arg20.view.readCov [⟨(Rect.unit (s := S1024x64) ![0, 0] S1024x64.size inb_S1024x64_S1024x64_0_0), w⟩] (Rect.unit (s := S1024x64) ![0, 0] S1024x64.size inb_S1024x64_S1024x64_0_0).toLoadRect = w := fun w => View.readCov_unit_zero _ zero2 _ w
  have c21 : ∀ w : Vec F S1024x64 .f32, arg21.view.readCov [⟨(Rect.unit (s := S1024x64) ![0, 0] S1024x64.size inb_S1024x64_S1024x64_0_0), w⟩] (Rect.unit (s := S1024x64) ![0, 0] S1024x64.size inb_S1024x64_S1024x64_0_0).toLoadRect = w := fun w => View.readCov_unit_zero _ zero2 _ w
  sl_exec (disch := first | sl_exact h1 | sl_exact h2 | sl_exact h3 | sl_exact h4 | sl_exact h5)
  sl_step
  iapply Hk
  isplitl [H1]
  · iexists _
    isplitr; swap
    · iexact H1
    · ipureintro
      exact e1
  isplitl [H2]
  · iexists _
    isplitr; swap
    · iexact H2
    · ipureintro
      exact e2
  isplitl [H3]
  · iexists _
    isplitr; swap
    · iexact H3
    · ipureintro
      exact e3
  isplitl [H4]
  · iexists _
    isplitr; swap
    · iexact H4
    · ipureintro
      exact e4
  isplitl [H5]
  · iexists _
    isplitr; swap
    · iexact H5
    · ipureintro
      exact e5
  isplitl [H6]
  · iexists _
    isplitr; swap
    · iexact H6
    · ipureintro
      exact e6
  isplitl [H7]
  · iexists _
    isplitr; swap
    · iexact H7
    · ipureintro
      exact e7
  isplitl [H8]
  · iexists _
    isplitr; swap
    · iexact H8
    · ipureintro
      exact e8
  isplitl [H9]
  · iexists _
    isplitr; swap
    · iexact H9
    · ipureintro
      exact e9
  isplitl [H10]
  · iexists _
    isplitr; swap
    · iexact H10
    · ipureintro
      exact e10
  isplitl [H11]
  · iexists _
    isplitr; swap
    · iexact H11
    · ipureintro
      exact e11
  isplitl [H12]
  · iexists _
    isplitr; swap
    · iexact H12
    · ipureintro
      exact e12
  isplitl [H13]
  · iexists _
    isplitr; swap
    · iexact H13
    · ipureintro
      sl_unfold_run_names
      rw [read_put, overlay_whole zero2]
      try simp only [p1, p2, p3, p4, p5, p6, p7, p8, p9, p10, p11, p12, p13, p14, p15, p16, p17, p20, p21, p22, p23, p24, p25, w1, w2, w3, w4, w6, w9, w10, w11, w12, w13, w14, w15, w16, w17, w20, w21, c20, c21, cwuOf, cwwOf, keyOf, cnewOf, keyTOf]
      try rfl
  isplitl [H14]
  · iexists _
    isplitr; swap
    · iexact H14
    · ipureintro
      sl_unfold_run_names
      rw [read_put, overlay_whole zero2]
      try simp only [p1, p2, p3, p4, p5, p6, p7, p8, p9, p10, p11, p12, p13, p14, p15, p16, p17, p20, p21, p22, p23, p24, p25, w1, w2, w3, w4, w6, w9, w10, w11, w12, w13, w14, w15, w16, w17, w20, w21, c20, c21, cwuOf, cwwOf, keyOf, cnewOf, keyTOf]
      try rfl
  isplitl [H15]
  · iexists _
    isplitr; swap
    · iexact H15
    · ipureintro
      sl_unfold_run_names
      rw [read_put, overlay_whole zero2]
      try simp only [p1, p2, p3, p4, p5, p6, p7, p8, p9, p10, p11, p12, p13, p14, p15, p16, p17, p20, p21, p22, p23, p24, p25, w1, w2, w3, w4, w6, w9, w10, w11, w12, w13, w14, w15, w16, w17, w20, w21, c20, c21, cwuOf, cwwOf, keyOf, cnewOf, keyTOf]
      try rfl
  isplitl [H16]
  · iexists _
    isplitr; swap
    · iexact H16
    · ipureintro
      sl_unfold_run_names
      rw [read_put, overlay_whole zero2]
      try simp only [p1, p2, p3, p4, p5, p6, p7, p8, p9, p10, p11, p12, p13, p14, p15, p16, p17, p20, p21, p22, p23, p24, p25, w1, w2, w3, w4, w6, w9, w10, w11, w12, w13, w14, w15, w16, w17, w20, w21, c20, c21, cwuOf, cwwOf, keyOf, cnewOf, keyTOf]
      try rfl
  isplitl [H17]
  · iexists _
    isplitr; swap
    · iexact H17
    · ipureintro
      sl_unfold_run_names
      rw [read_put, overlay_whole zero2]
      try simp only [p1, p2, p3, p4, p5, p6, p7, p8, p9, p10, p11, p12, p13, p14, p15, p16, p17, p20, p21, p22, p23, p24, p25, w1, w2, w3, w4, w6, w9, w10, w11, w12, w13, w14, w15, w16, w17, w20, w21, c20, c21, cwuOf, cwwOf, keyOf, cnewOf, keyTOf]
      try rfl
  isplitl [H20]
  · iexists _
    isplitr; swap
    · iexact H20
    · ipureintro
      sl_unfold_run_names
      rw [read_put, overlay_whole zero2]
      try simp only [p1, p2, p3, p4, p5, p6, p7, p8, p9, p10, p11, p12, p13, p14, p15, p16, p17, p20, p21, p22, p23, p24, p25, w1, w2, w3, w4, w6, w9, w10, w11, w12, w13, w14, w15, w16, w17, w20, w21, c20, c21, cwuOf, cwwOf, keyOf, cnewOf, keyTOf]
      try rfl
  isplitl [H21]
  · iexists _
    isplitr; swap
    · iexact H21
    · ipureintro
      sl_unfold_run_names
      rw [read_put, overlay_whole zero2]
      try simp only [p1, p2, p3, p4, p5, p6, p7, p8, p9, p10, p11, p12, p13, p14, p15, p16, p17, p20, p21, p22, p23, p24, p25, w1, w2, w3, w4, w6, w9, w10, w11, w12, w13, w14, w15, w16, w17, w20, w21, c20, c21, cwuOf, cwwOf, keyOf, cnewOf, keyTOf]
      try rfl
  isplitl [H22]
  · iexists _
    isplitr; swap
    · iexact H22
    · ipureintro
      sl_unfold_run_names
      rw [read_put, e22]
      try simp only [p1, p2, p3, p4, p5, p6, p7, p8, p9, p10, p11, p12, p13, p14, p15, p16, p17, p20, p21, p22, p23, p24, p25, w1, w2, w3, w4, w6, w9, w10, w11, w12, w13, w14, w15, w16, w17, w20, w21, c20, c21, cwuOf, cwwOf, keyOf, cnewOf, keyTOf]
      try rfl
  isplitl [H23]
  · iexists _
    isplitr; swap
    · iexact H23
    · ipureintro
      sl_unfold_run_names
      rw [read_put, e23]
      try simp only [p1, p2, p3, p4, p5, p6, p7, p8, p9, p10, p11, p12, p13, p14, p15, p16, p17, p20, p21, p22, p23, p24, p25, w1, w2, w3, w4, w6, w9, w10, w11, w12, w13, w14, w15, w16, w17, w20, w21, c20, c21, cwuOf, cwwOf, keyOf, cnewOf, keyTOf]
      try rfl
  isplitl [H24]
  · iexists _
    isplitr; swap
    · iexact H24
    · ipureintro
      sl_unfold_run_names
      rw [read_put, e24]
      try simp only [p1, p2, p3, p4, p5, p6, p7, p8, p9, p10, p11, p12, p13, p14, p15, p16, p17, p20, p21, p22, p23, p24, p25, w1, w2, w3, w4, w6, w9, w10, w11, w12, w13, w14, w15, w16, w17, w20, w21, c20, c21, cwuOf, cwwOf, keyOf, cnewOf, keyTOf]
      try rfl
  iexists _
  isplitr; swap
  · iexact H25
  · ipureintro
    sl_unfold_run_names
    rw [read_put, e25]
    try simp only [p1, p2, p3, p4, p5, p6, p7, p8, p9, p10, p11, p12, p13, p14, p15, p16, p17, p20, p21, p22, p23, p24, p25, w1, w2, w3, w4, w6, w9, w10, w11, w12, w13, w14, w15, w16, w17, w20, w21, c20, c21, cwuOf, cwwOf, keyOf, cnewOf, keyTOf]
    try rfl

end Cert.KernelIdeal.Hand

end
-- ==== Proof.SoundA.lean ====
/-
The kernel run at the first point, as the launch calls it.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic
public import proofs.«01_k».proof.Proof.Leave
public import proofs.«01_k».proof.Proof.BodyA

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (hc : ∀ c : Dev nD, ChkV m c) (c : Dev nD)
theorem after_12_A (t : Fin cfg0.N) : (dats m hc 0 c).after 12 t = keyTV m c := by dsimp only [dats]
theorem after_13_A (t : Fin cfg0.N) : (dats m hc 0 c).after 13 t = cnewTV m c := by dsimp only [dats]
theorem after_14_A (t : Fin cfg0.N) : (dats m hc 0 c).after 14 t = readV m c (min t.val 31) := by dsimp only [dats]
theorem after_15_A (t : Fin cfg0.N) : (dats m hc 0 c).after 15 t = cwrV m c (clampP t) := by dsimp only [dats]
theorem after_16_A (t : Fin cfg0.N) : (dats m hc 0 c).after 16 t = cwuV m c (clampP t) := by dsimp only [dats]
theorem after_17_A (t : Fin cfg0.N) : (dats m hc 0 c).after 17 t = lwuV m c t := by dsimp only [dats]
theorem after_18_A (t : Fin cfg0.N) : (dats m hc 0 c).after 18 t = memV m c (hc c) t := by dsimp only [dats]
set_option maxHeartbeats 1000000 in
theorem soundA (t : Fin cfg0.N) (h : t.val = 0) : Sound m hc c t := by
  have hlt : t.val < 64 := t.isLt
  obtain rfl : t = p0 := Fin.ext h
  unfold Sound bodyPre bodyPost bodyAt0
  simp only [before_0 m hc c, before_1 m hc c, before_2 m hc c, before_3 m hc c, before_4 m hc c, before_5 m hc c, before_6 m hc c, before_7 m hc c, before_8 m hc c, before_9 m hc c, before_10 m hc c, before_11 m hc c]
  rw [show (dats m hc 0 c).Φ p0.castSucc = PhiS m hc c p0.val from rfl, show (dats m hc 0 c).Φ p0.succ = PhiS m hc c (p0.val + 1) from rfl]
  rw [show (dats m hc 0 c).owesAt () p0.succ = (dats m hc 0 c).owesAt () p0.castSucc from rfl]
  rw [PhiS_pos m hc c (p0.val + 1) (by decide)]
  unfold PhiS
  iintro ⟨⟨⟨%X20, -, S0⟩, ⟨%X21, -, S1⟩, ⟨%X22, %e2, S2⟩, ⟨%X23, %e3, S3⟩, ⟨%X24, %e4, S4⟩, ⟨%X25, %e5, S5⟩, S6, S7, Hg⟩, HO, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩, ⟨%d13, W13⟩, ⟨%d14, W14⟩, ⟨%d15, W15⟩, ⟨%d16, W16⟩, W17, W18⟩
  iapply (bodyA c (grid0.coords p0) ((cond1_iff p0).mpr rfl) ((cond2_iff p0).mpr (by decide)) ((cond3_iff p0).mpr rfl) (fun h' => (cond4_iff p0).mp h' rfl) (fun h' => absurd ((cond5_iff p0).mp h') (by decide)) _ _ _ _ _ _ _ _ _ _ _ _ _ _ _ _ _ _ _ _ _ _ _ _ _ _ _ _ _ _ _ _ _ _ _ _ _ _ _ _ _ _ _ _ _ _ _ _ _ _ _ _ _ _ (xb0 m c p0) (xb1 m c p0) (xb2 m c p0) (xb3 m c p0) (xb4 m c p0) (xb5 m c p0) (xb6 m c p0) (xb7 m c p0) (xb8 m c p0) (xb9 m c p0) (xb10 m c p0) (xb11 m c p0) _ _ _ _ _ X20 X21 X22 X23 X24 X25 _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iexact W12
  isplitl [W13]; · iexact W13
  isplitl [W14]; · iexact W14
  isplitl [W15]; · iexact W15
  isplitl [W16]; · iexact W16
  isplitl [S0]; · iexact S0
  isplitl [S1]; · iexact S1
  isplitl [S2]; · iexact S2
  isplitl [S3]; · iexact S3
  isplitl [S4]; · iexact S4
  isplitl [S5]; · iexact S5
  iintro ⟨W0, W1, W2, W3, W4, W5, W6, W7, W8, W9, W10, W11, W12, W13, W14, W15, W16, S0, S1, S2, S3, S4, S5⟩
  isplitl [S0 S1 S2 S3 S4 S5 S6 S7 Hg]
  · isplitl [S0]; · iexact S0
    isplitl [S1]; · iexact S1
    isplitl [S2]
    · iexists _; isplitr; swap; · iexact S2
      ipureintro; exact T22_step m c p0 ((cond2_iff p0).mpr (by decide)) _ e2
    isplitl [S3]
    · iexists _; isplitr; swap; · iexact S3
      ipureintro; exact T23_step m c p0 ((cond2_iff p0).mpr (by decide)) _ e3
    isplitl [S4]
    · iexists _; isplitr; swap; · iexact S4
      ipureintro; exact T24_step m c p0 ((cond2_iff p0).mpr (by decide)) _ e4
    isplitl [S5]
    · iexists _; isplitr; swap; · iexact S5
      ipureintro; exact T25_step m c p0 ((cond2_iff p0).mpr (by decide)) _ e5
    isplitl [S6]
    · icases S6 with ⟨%X26, -, S6⟩
      iexists _; isplitr; swap; · iexact S6
      ipureintro; intro h33; exact absurd h33 (by decide)
    isplitl [S7]
    · icases S7 with ⟨%X27, -, S7⟩
      iexists _; isplitr; swap; · iexact S7
      ipureintro; intro h33; exact absurd h33 (by decide)
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]
  · iapply (leave_live m hc c 12 p0 (by rw [idle_12]; try rfl) _ (show keyTOf (xb0 m c p0) (xb1 m c p0) (xb2 m c p0) (xb3 m c p0) (xb4 m c p0) (xb5 m c p0) (xb6 m c p0) = _ from by rw [after_12_A]; rfl)); iexact W12
  isplitl [W13]
  · iapply (leave_live m hc c 13 p0 (by rw [idle_13]; try rfl) _ (show k0_pay1 k0_pay12 (cnewOf (xb0 m c p0) (xb1 m c p0) (xb2 m c p0) (xb3 m c p0) (xb4 m c p0) (xb5 m c p0) (xb6 m c p0)) = _ from by rw [after_13_A]; rfl)); iexact W13
  isplitl [W14]
  · iapply (leave_live m hc c 14 p0 (by rw [idle_14]; try rfl) _ (show k0_pay6 (k0_pay16 (xb8 m c p0)) (cwrV m c p0) = _ from by rw [after_14_A]; rfl)); iexact W14
  isplitl [W15]
  · iapply (leave_live m hc c 15 p0 (by rw [idle_15]; try rfl) _ (show cwrV m c p0 = _ from by rw [after_15_A, clampP_of _ (by decide)])); iexact W15
  isplitl [W16]
  · iapply (leave_live m hc c 16 p0 (by rw [idle_16]; try rfl) _ (show cwuV m c p0 = _ from by rw [after_16_A, clampP_of _ (by decide)])); iexact W16
  isplitl [W17]
  · iapply (leave_idle m hc c 17 p0 (by rw [idle_17]; try rfl) (fun hf => absurd hf (by rw [flush_17]; simp only [decide_eq_true_iff, Bool.or_eq_true]; decide))); iexact W17
  iapply (leave_idle m hc c 18 p0 (by rw [idle_18]; try rfl) (fun hf => absurd hf (by rw [flush_18]; simp only [decide_eq_true_iff, Bool.or_eq_true]; decide))); iexact W18

end Cert.KernelIdeal.Hand

end
-- ==== Proof.BodyB.lean ====
/-
The kernel's body at a later point of the first half: one block.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic
public import proofs.«01_k».proof.Proof.BodyDefs

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

set_option maxHeartbeats 1000000 in
/-- What the body leaves at a later point of the first half: one block. -/
theorem bodyB (c : Dev nD) (i : grid0.Coords) (h1 : ¬ k0_cond1 i = 1#1) (h2 : k0_cond2 i = 1#1) (h3 : ¬ k0_cond3 i = 1#1) (h4 : k0_cond4 i = 1#1) (h5 : ¬ k0_cond5 i = 1#1)
    (arg1 : Memref sig .tc .vmem S1024x128 .f32) (harg1 : arg1.IsWhole)
    (arg2 : Memref sig .tc .vmem S64x1024 .f32) (harg2 : arg2.IsWhole)
    (arg3 : Memref sig .tc .vmem S64x1024 .f32) (harg3 : arg3.IsWhole)
    (arg4 : Memref sig .tc .vmem S64x1024 .f32) (harg4 : arg4.IsWhole)
    (arg5 : Memref sig .tc .vmem S192x256 .f32) (harg5 : arg5.IsWhole)
    (arg6 : Memref sig .tc .vmem S64x256 .f32) (harg6 : arg6.IsWhole)
    (arg7 : Memref sig .tc .vmem S8x256 .f32) (harg7 : arg7.IsWhole)
    (arg8 : Memref sig .tc .vmem S8x128 .f32) (harg8 : arg8.IsWhole)
    (arg9 : Memref sig .tc .vmem S64x512 .f32) (harg9 : arg9.IsWhole)
    (arg10 : Memref sig .tc .vmem S512x1024 .f32) (harg10 : arg10.IsWhole)
    (arg11 : Memref sig .tc .vmem S512x1024 .f32) (harg11 : arg11.IsWhole)
    (arg12 : Memref sig .tc .vmem S512x1024 .f32) (harg12 : arg12.IsWhole)
    (arg13 : Memref sig .tc .vmem S64x1024 .f32) (harg13 : arg13.IsWhole)
    (arg14 : Memref sig .tc .vmem S64x1024 .f32) (harg14 : arg14.IsWhole)
    (arg15 : Memref sig .tc .vmem S64x1024 .f32) (harg15 : arg15.IsWhole)
    (arg16 : Memref sig .tc .vmem S512x1024 .f32) (harg16 : arg16.IsWhole)
    (arg17 : Memref sig .tc .vmem S512x1024 .f32) (harg17 : arg17.IsWhole)
    (arg18 : Memref sig .tc .vmem S512x1024 .f32) (harg18 : arg18.IsWhole)
    (arg19 : Memref sig .tc .vmem S64x512 .f32) (harg19 : arg19.IsWhole)
    (arg20 : Memref sig .tc .vmem S1024x64 .f32) (harg20 : arg20.IsWhole)
    (arg21 : Memref sig .tc .vmem S1024x64 .f32) (harg21 : arg21.IsWhole)
    (arg22 : Memref sig .tc .vmem S32x64x512 .f32) (harg22 : arg22.IsWhole)
    (arg23 : Memref sig .tc .vmem S32x64x512 .f32) (harg23 : arg23.IsWhole)
    (arg24 : Memref sig .tc .vmem S16384x1024 .i8) (harg24 : arg24.IsWhole)
    (arg25 : Memref sig .tc .vmem S32x1024 .f32) (harg25 : arg25.IsWhole)
    (arg26 : Memref sig .tc .vmem S1x1024 .f32) (harg26 : arg26.IsWhole)
    (arg27 : Memref sig .tc .smem S1 .i32) (harg27 : arg27.IsWhole)
    (X8 : Vec F S8x128 .f32) (X9 : Vec F S64x512 .f32) (X10 : Vec F S512x1024 .f32) (X11 : Vec F S512x1024 .f32) (X12 : Vec F S512x1024 .f32) (X15 : Vec F S64x1024 .f32) (X16 : Vec F S512x1024 .f32) (X17 : Vec F S512x1024 .f32) (X20 : Vec F S1024x64 .f32) (X21 : Vec F S1024x64 .f32) (X22 : Vec F S32x64x512 .f32) (X23 : Vec F S32x64x512 .f32) (X24 : Vec F S16384x1024 .i8) (X25 : Vec F S32x1024 .f32)  (K : PUnit → sProp 𝕄) :
    iprop(owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg15 fullShare X15 ∗ owns (c : Thread nD τ) arg16 fullShare X16 ∗ owns (c : Thread nD τ) arg17 fullShare X17 ∗ owns (c : Thread nD τ) arg20 fullShare X20 ∗ owns (c : Thread nD τ) arg21 fullShare X21 ∗ owns (c : Thread nD τ) arg22 fullShare X22 ∗ owns (c : Thread nD τ) arg23 fullShare X23 ∗ owns (c : Thread nD τ) arg24 fullShare X24 ∗ owns (c : Thread nD τ) arg25 fullShare X25
      ∗ (owns (c : Thread nD τ) arg8 fullShare X8
        ∗ owns (c : Thread nD τ) arg9 fullShare X9
        ∗ owns (c : Thread nD τ) arg10 fullShare X10
        ∗ owns (c : Thread nD τ) arg11 fullShare X11
        ∗ owns (c : Thread nD τ) arg12 fullShare X12
        ∗ owns (c : Thread nD τ) arg15 fullShare (k0_pay10 (k0_pay16 X9) (k0_pay17 X9 X20) X15)
        ∗ owns (c : Thread nD τ) arg16 fullShare (k0_pay17 X9 X20)
        ∗ owns (c : Thread nD τ) arg17 fullShare (cwuOf X9 X20 X8 X12 X11 X10)
        ∗ owns (c : Thread nD τ) arg20 fullShare X20
        ∗ owns (c : Thread nD τ) arg21 fullShare X21
        ∗ owns (c : Thread nD τ) arg22 fullShare ((Rect.unit (s := S32x64x512) (k0_off1 i) S1x64x512.size (k0_off1_inb i h2)).overlay X22 (k0_pay4 (cwwOf X8 X12 X11) X21))
        ∗ owns (c : Thread nD τ) arg23 fullShare ((Rect.unit (s := S32x64x512) (k0_off1 i) S1x64x512.size (k0_off1_inb i h2)).overlay X23 (k0_pay5 (k0_pay16 X9)))
        ∗ owns (c : Thread nD τ) arg24 fullShare ((Rect.unit (s := S16384x1024) (k0_off2 i) S512x1024.size (k0_off2_inb i h2)).overlay X24 (k0_pay8 (cwuOf X9 X20 X8 X12 X11 X10)))
        ∗ owns (c : Thread nD τ) arg25 fullShare ((Rect.unit (s := S32x1024) (k0_off3 i) S1x1024.size (k0_off3_inb i h2)).overlay X25 (k0_pay9 (cwuOf X9 X20 X8 X12 X11 X10)))
        -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__body_eq_skeleton]; unfold cc0__body_skel
  unfold owns
  iintro ⟨⟨%f8, %e8, H8⟩, ⟨%f9, %e9, H9⟩, ⟨%f10, %e10, H10⟩, ⟨%f11, %e11, H11⟩, ⟨%f12, %e12, H12⟩, ⟨%f15, %e15, H15⟩, ⟨%f16, %e16, H16⟩, ⟨%f17, %e17, H17⟩, ⟨%f20, %e20, H20⟩, ⟨%f21, %e21, H21⟩, ⟨%f22, %e22, H22⟩, ⟨%f23, %e23, H23⟩, ⟨%f24, %e24, H24⟩, ⟨%f25, %e25, H25⟩, Hk⟩
  have p8 : ∀ r : Rect S8x128, View.readAt (Elt F) arg8.view r.toLoadRect f8 = View.ld X8 r := fun r => by rw [View.readAt_eq_ld, e8]
  have p9 : ∀ r : Rect S64x512, View.readAt (Elt F) arg9.view r.toLoadRect f9 = View.ld X9 r := fun r => by rw [View.readAt_eq_ld, e9]
  have w9 : View.ld X9 (Rect.unit (s := S64x512) ![0, 0] S64x512.size inb_S64x512_S64x512_0_0) = X9 := View.ld_unit_zero zero2 _ _
  have p10 : ∀ r : Rect S512x1024, View.readAt (Elt F) arg10.view r.toLoadRect f10 = View.ld X10 r := fun r => by rw [View.readAt_eq_ld, e10]
  have w10 : View.ld X10 (Rect.unit (s := S512x1024) ![0, 0] S512x1024.size inb_S512x1024_S512x1024_0_0) = X10 := View.ld_unit_zero zero2 _ _
  have p11 : ∀ r : Rect S512x1024, View.readAt (Elt F) arg11.view r.toLoadRect f11 = View.ld X11 r := fun r => by rw [View.readAt_eq_ld, e11]
  have w11 : View.ld X11 (Rect.unit (s := S512x1024) ![0, 0] S512x1024.size inb_S512x1024_S512x1024_0_0) = X11 := View.ld_unit_zero zero2 _ _
  have p12 : ∀ r : Rect S512x1024, View.readAt (Elt F) arg12.view r.toLoadRect f12 = View.ld X12 r := fun r => by rw [View.readAt_eq_ld, e12]
  have w12 : View.ld X12 (Rect.unit (s := S512x1024) ![0, 0] S512x1024.size inb_S512x1024_S512x1024_0_0) = X12 := View.ld_unit_zero zero2 _ _
  have p15 : ∀ r : Rect S64x1024, View.readAt (Elt F) arg15.view r.toLoadRect f15 = View.ld X15 r := fun r => by rw [View.readAt_eq_ld, e15]
  have w15 : View.ld X15 (Rect.unit (s := S64x1024) ![0, 0] S64x1024.size inb_S64x1024_S64x1024_0_0) = X15 := View.ld_unit_zero zero2 _ _
  have p16 : ∀ r : Rect S512x1024, View.readAt (Elt F) arg16.view r.toLoadRect f16 = View.ld X16 r := fun r => by rw [View.readAt_eq_ld, e16]
  have w16 : View.ld X16 (Rect.unit (s := S512x1024) ![0, 0] S512x1024.size inb_S512x1024_S512x1024_0_0) = X16 := View.ld_unit_zero zero2 _ _
  have p17 : ∀ r : Rect S512x1024, View.readAt (Elt F) arg17.view r.toLoadRect f17 = View.ld X17 r := fun r => by rw [View.readAt_eq_ld, e17]
  have w17 : View.ld X17 (Rect.unit (s := S512x1024) ![0, 0] S512x1024.size inb_S512x1024_S512x1024_0_0) = X17 := View.ld_unit_zero zero2 _ _
  have p20 : ∀ r : Rect S1024x64, View.readAt (Elt F) arg20.view r.toLoadRect f20 = View.ld X20 r := fun r => by rw [View.readAt_eq_ld, e20]
  have w20 : View.ld X20 (Rect.unit (s := S1024x64) ![0, 0] S1024x64.size inb_S1024x64_S1024x64_0_0) = X20 := View.ld_unit_zero zero2 _ _
  have p21 : ∀ r : Rect S1024x64, View.readAt (Elt F) arg21.view r.toLoadRect f21 = View.ld X21 r := fun r => by rw [View.readAt_eq_ld, e21]
  have w21 : View.ld X21 (Rect.unit (s := S1024x64) ![0, 0] S1024x64.size inb_S1024x64_S1024x64_0_0) = X21 := View.ld_unit_zero zero2 _ _
  have p22 : ∀ r : Rect S32x64x512, View.readAt (Elt F) arg22.view r.toLoadRect f22 = View.ld X22 r := fun r => by rw [View.readAt_eq_ld, e22]
  have p23 : ∀ r : Rect S32x64x512, View.readAt (Elt F) arg23.view r.toLoadRect f23 = View.ld X23 r := fun r => by rw [View.readAt_eq_ld, e23]
  have p24 : ∀ r : Rect S16384x1024, View.readAt (Elt F) arg24.view r.toLoadRect f24 = View.ld X24 r := fun r => by rw [View.readAt_eq_ld, e24]
  have p25 : ∀ r : Rect S32x1024, View.readAt (Elt F) arg25.view r.toLoadRect f25 = View.ld X25 r := fun r => by rw [View.readAt_eq_ld, e25]
  sl_exec (disch := first | sl_exact h1 | sl_exact h2 | sl_exact h3 | sl_exact h4 | sl_exact h5)
  sl_step
  iapply Hk
  isplitl [H8]
  · iexists _
    isplitr; swap
    · iexact H8
    · ipureintro
      exact e8
  isplitl [H9]
  · iexists _
    isplitr; swap
    · iexact H9
    · ipureintro
      exact e9
  isplitl [H10]
  · iexists _
    isplitr; swap
    · iexact H10
    · ipureintro
      exact e10
  isplitl [H11]
  · iexists _
    isplitr; swap
    · iexact H11
    · ipureintro
      exact e11
  isplitl [H12]
  · iexists _
    isplitr; swap
    · iexact H12
    · ipureintro
      exact e12
  isplitl [H15]
  · iexists _
    isplitr; swap
    · iexact H15
    · ipureintro
      sl_unfold_run_names
      rw [read_put, overlay_whole zero2]
      try simp only [p8, p9, p10, p11, p12, p15, p16, p17, p20, p21, p22, p23, p24, p25, w9, w10, w11, w12, w15, w16, w17, w20, w21, cwuOf, cwwOf]
      try rfl
  isplitl [H16]
  · iexists _
    isplitr; swap
    · iexact H16
    · ipureintro
      sl_unfold_run_names
      rw [read_put, overlay_whole zero2]
      try simp only [p8, p9, p10, p11, p12, p15, p16, p17, p20, p21, p22, p23, p24, p25, w9, w10, w11, w12, w15, w16, w17, w20, w21, cwuOf, cwwOf]
      try rfl
  isplitl [H17]
  · iexists _
    isplitr; swap
    · iexact H17
    · ipureintro
      sl_unfold_run_names
      rw [read_put, overlay_whole zero2]
      try simp only [p8, p9, p10, p11, p12, p15, p16, p17, p20, p21, p22, p23, p24, p25, w9, w10, w11, w12, w15, w16, w17, w20, w21, cwuOf, cwwOf]
      try rfl
  isplitl [H20]
  · iexists _
    isplitr; swap
    · iexact H20
    · ipureintro
      exact e20
  isplitl [H21]
  · iexists _
    isplitr; swap
    · iexact H21
    · ipureintro
      exact e21
  isplitl [H22]
  · iexists _
    isplitr; swap
    · iexact H22
    · ipureintro
      sl_unfold_run_names
      rw [read_put, e22]
      try simp only [p8, p9, p10, p11, p12, p15, p16, p17, p20, p21, p22, p23, p24, p25, w9, w10, w11, w12, w15, w16, w17, w20, w21, cwuOf, cwwOf]
      try rfl
  isplitl [H23]
  · iexists _
    isplitr; swap
    · iexact H23
    · ipureintro
      sl_unfold_run_names
      rw [read_put, e23]
      try simp only [p8, p9, p10, p11, p12, p15, p16, p17, p20, p21, p22, p23, p24, p25, w9, w10, w11, w12, w15, w16, w17, w20, w21, cwuOf, cwwOf]
      try rfl
  isplitl [H24]
  · iexists _
    isplitr; swap
    · iexact H24
    · ipureintro
      sl_unfold_run_names
      rw [read_put, e24]
      try simp only [p8, p9, p10, p11, p12, p15, p16, p17, p20, p21, p22, p23, p24, p25, w9, w10, w11, w12, w15, w16, w17, w20, w21, cwuOf, cwwOf]
      try rfl
  iexists _
  isplitr; swap
  · iexact H25
  · ipureintro
    sl_unfold_run_names
    rw [read_put, e25]
    try simp only [p8, p9, p10, p11, p12, p15, p16, p17, p20, p21, p22, p23, p24, p25, w9, w10, w11, w12, w15, w16, w17, w20, w21, cwuOf, cwwOf]
    try rfl

end Cert.KernelIdeal.Hand

end
-- ==== Proof.SoundB.lean ====
/-
The kernel run at the later points of the first half, as the launch calls it.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic
public import proofs.«01_k».proof.Proof.Leave
public import proofs.«01_k».proof.Proof.BodyB

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (hc : ∀ c : Dev nD, ChkV m c) (c : Dev nD)
theorem after_12_B (t : Fin cfg0.N) : (dats m hc 0 c).after 12 t = keyTV m c := by dsimp only [dats]
theorem after_13_B (t : Fin cfg0.N) : (dats m hc 0 c).after 13 t = cnewTV m c := by dsimp only [dats]
theorem after_14_B (t : Fin cfg0.N) : (dats m hc 0 c).after 14 t = readV m c (min t.val 31) := by dsimp only [dats]
theorem after_15_B (t : Fin cfg0.N) : (dats m hc 0 c).after 15 t = cwrV m c (clampP t) := by dsimp only [dats]
theorem after_16_B (t : Fin cfg0.N) : (dats m hc 0 c).after 16 t = cwuV m c (clampP t) := by dsimp only [dats]
theorem after_17_B (t : Fin cfg0.N) : (dats m hc 0 c).after 17 t = lwuV m c t := by dsimp only [dats]
theorem after_18_B (t : Fin cfg0.N) : (dats m hc 0 c).after 18 t = memV m c (hc c) t := by dsimp only [dats]
set_option maxHeartbeats 1000000 in
theorem soundB (t : Fin cfg0.N) (h0 : t.val ≠ 0) (h : t.val < 32) : Sound m hc c t := by
  have hlt : t.val < 64 := t.isLt
  unfold Sound bodyPre bodyPost bodyAt0
  simp only [before_0 m hc c, before_1 m hc c, before_2 m hc c, before_3 m hc c, before_4 m hc c, before_5 m hc c, before_6 m hc c, before_7 m hc c, before_8 m hc c, before_9 m hc c, before_10 m hc c, before_11 m hc c, before_14 m hc c t h0]
  rw [show (dats m hc 0 c).Φ t.castSucc = PhiS m hc c t.val from rfl, show (dats m hc 0 c).Φ t.succ = PhiS m hc c (t.val + 1) from rfl]
  rw [show (dats m hc 0 c).owesAt () t.succ = (dats m hc 0 c).owesAt () t.castSucc from rfl]
  rw [PhiS_pos m hc c t.val (by omega), PhiS_pos m hc c (t.val + 1) (by omega)]
  iintro ⟨⟨S0, S1, ⟨%X22, %e2, S2⟩, ⟨%X23, %e3, S3⟩, ⟨%X24, %e4, S4⟩, ⟨%X25, %e5, S5⟩, S6, S7, Hg⟩, HO, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, W12, W13, ⟨%d14, W14⟩, ⟨%d15, W15⟩, ⟨%d16, W16⟩, W17, W18⟩
  iapply (bodyB c (grid0.coords t) (fun h' => h0 ((cond1_iff t).mp h')) ((cond2_iff t).mpr h) (fun h' => h0 ((cond3_iff t).mp h')) ((cond4_iff t).mpr h0) (fun h' => absurd ((cond5_iff t).mp h') (by omega)) _ _ _ _ _ _ _ _ _ _ _ _ _ _ _ _ _ _ _ _ _ _ _ _ _ _ _ _ _ _ _ _ _ _ _ _ _ _ _ _ _ _ _ _ _ _ _ _ _ _ _ _ _ _ (xb7 m c t) (xb8 m c t) (xb9 m c t) (xb10 m c t) (xb11 m c t) _ _ _ (nkV m c) (kyV m c) X22 X23 X24 X25 _)
  isplitl [W7]; · iexact W7
  isplitl [W8]; · iexact W8
  isplitl [W9]; · iexact W9
  isplitl [W10]; · iexact W10
  isplitl [W11]; · iexact W11
  isplitl [W14]; · iexact W14
  isplitl [W15]; · iexact W15
  isplitl [W16]; · iexact W16
  isplitl [S0]; · iexact S0
  isplitl [S1]; · iexact S1
  isplitl [S2]; · iexact S2
  isplitl [S3]; · iexact S3
  isplitl [S4]; · iexact S4
  isplitl [S5]; · iexact S5
  iintro ⟨W7, W8, W9, W10, W11, W14, W15, W16, S0, S1, S2, S3, S4, S5⟩
  isplitl [S0 S1 S2 S3 S4 S5 S6 S7 Hg]
  · isplitl [S0]; · iexact S0
    isplitl [S1]; · iexact S1
    isplitl [S2]
    · iexists _; isplitr; swap; · iexact S2
      ipureintro; exact T22_step m c t ((cond2_iff t).mpr (by omega)) _ e2
    isplitl [S3]
    · iexists _; isplitr; swap; · iexact S3
      ipureintro; exact T23_step m c t ((cond2_iff t).mpr (by omega)) _ e3
    isplitl [S4]
    · iexists _; isplitr; swap; · iexact S4
      ipureintro; exact T24_step m c t ((cond2_iff t).mpr (by omega)) _ e4
    isplitl [S5]
    · iexists _; isplitr; swap; · iexact S5
      ipureintro; exact T25_step m c t ((cond2_iff t).mpr (by omega)) _ e5
    isplitl [S6]
    · icases S6 with ⟨%X26, -, S6⟩
      iexists _; isplitr; swap; · iexact S6
      ipureintro; intro h33; omega
    isplitl [S7]
    · icases S7 with ⟨%X27, -, S7⟩
      iexists _; isplitr; swap; · iexact S7
      ipureintro; intro h33; omega
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]
  · iapply (leave_idle m hc c 12 t (by rw [idle_12, decide_eq_true_iff]; omega) (fun hf => absurd hf (by rw [flush_12]; simp only [decide_eq_true_iff, Bool.or_eq_true]; omega))); iexact W12
  isplitl [W13]
  · iapply (leave_idle m hc c 13 t (by rw [idle_13, decide_eq_true_iff]; omega) (fun hf => absurd hf (by rw [flush_13]; simp only [decide_eq_true_iff, Bool.or_eq_true]; omega))); iexact W13
  isplitl [W14]
  · iapply (leave_live m hc c 14 t (by rw [idle_14, decide_eq_false_iff_not]; omega) _ (readV_step m c t h0 h)); iexact W14
  isplitl [W15]
  · iapply (leave_live m hc c 15 t (by rw [idle_15, decide_eq_false_iff_not]; omega) _ ((congrArg (cwrV m c) (clampP_of t (by omega))).symm)); iexact W15
  isplitl [W16]
  · iapply (leave_live m hc c 16 t (by rw [idle_16, decide_eq_false_iff_not]; omega) _ ((congrArg (cwuV m c) (clampP_of t (by omega))).symm)); iexact W16
  isplitl [W17]
  · iapply (leave_idle m hc c 17 t (by rw [idle_17, decide_eq_true_iff]; omega) (fun hf => absurd hf (by rw [flush_17]; simp only [decide_eq_true_iff, Bool.or_eq_true]; omega))); iexact W17
  iapply (leave_idle m hc c 18 t (by rw [idle_18, decide_eq_true_iff]; omega) (fun hf => absurd hf (by rw [flush_18]; simp only [decide_eq_true_iff, Bool.or_eq_true]; omega))); iexact W18

end Cert.KernelIdeal.Hand

end
-- ==== Proof.BodyC.lean ====
/-
The kernel's body at the first point of the second half: the row is picked, and one block.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic
public import proofs.«01_k».proof.Proof.BodyDefs

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

set_option maxHeartbeats 1000000 in
/-- What the body leaves at the first point of the second half: the row is picked, and one block. -/
theorem bodyC (c : Dev nD) (i : grid0.Coords) (h1 : ¬ k0_cond1 i = 1#1) (h2 : ¬ k0_cond2 i = 1#1) (h5 : k0_cond5 i = 1#1) (h6 : k0_cond6 i = 1#1)
    (arg1 : Memref sig .tc .vmem S1024x128 .f32) (harg1 : arg1.IsWhole)
    (arg2 : Memref sig .tc .vmem S64x1024 .f32) (harg2 : arg2.IsWhole)
    (arg3 : Memref sig .tc .vmem S64x1024 .f32) (harg3 : arg3.IsWhole)
    (arg4 : Memref sig .tc .vmem S64x1024 .f32) (harg4 : arg4.IsWhole)
    (arg5 : Memref sig .tc .vmem S192x256 .f32) (harg5 : arg5.IsWhole)
    (arg6 : Memref sig .tc .vmem S64x256 .f32) (harg6 : arg6.IsWhole)
    (arg7 : Memref sig .tc .vmem S8x256 .f32) (harg7 : arg7.IsWhole)
    (arg8 : Memref sig .tc .vmem S8x128 .f32) (harg8 : arg8.IsWhole)
    (arg9 : Memref sig .tc .vmem S64x512 .f32) (harg9 : arg9.IsWhole)
    (arg10 : Memref sig .tc .vmem S512x1024 .f32) (harg10 : arg10.IsWhole)
    (arg11 : Memref sig .tc .vmem S512x1024 .f32) (harg11 : arg11.IsWhole)
    (arg12 : Memref sig .tc .vmem S512x1024 .f32) (harg12 : arg12.IsWhole)
    (arg13 : Memref sig .tc .vmem S64x1024 .f32) (harg13 : arg13.IsWhole)
    (arg14 : Memref sig .tc .vmem S64x1024 .f32) (harg14 : arg14.IsWhole)
    (arg15 : Memref sig .tc .vmem S64x1024 .f32) (harg15 : arg15.IsWhole)
    (arg16 : Memref sig .tc .vmem S512x1024 .f32) (harg16 : arg16.IsWhole)
    (arg17 : Memref sig .tc .vmem S512x1024 .f32) (harg17 : arg17.IsWhole)
    (arg18 : Memref sig .tc .vmem S512x1024 .f32) (harg18 : arg18.IsWhole)
    (arg19 : Memref sig .tc .vmem S64x512 .f32) (harg19 : arg19.IsWhole)
    (arg20 : Memref sig .tc .vmem S1024x64 .f32) (harg20 : arg20.IsWhole)
    (arg21 : Memref sig .tc .vmem S1024x64 .f32) (harg21 : arg21.IsWhole)
    (arg22 : Memref sig .tc .vmem S32x64x512 .f32) (harg22 : arg22.IsWhole)
    (arg23 : Memref sig .tc .vmem S32x64x512 .f32) (harg23 : arg23.IsWhole)
    (arg24 : Memref sig .tc .vmem S16384x1024 .i8) (harg24 : arg24.IsWhole)
    (arg25 : Memref sig .tc .vmem S32x1024 .f32) (harg25 : arg25.IsWhole)
    (arg26 : Memref sig .tc .vmem S1x1024 .f32) (harg26 : arg26.IsWhole)
    (arg27 : Memref sig .tc .smem S1 .i32) (harg27 : arg27.IsWhole)
    (X18 : Vec F S512x1024 .f32) (X19 : Vec F S64x512 .f32) (X22 : Vec F S32x64x512 .f32) (X23 : Vec F S32x64x512 .f32) (X24 : Vec F S16384x1024 .i8) (X25 : Vec F S32x1024 .f32) (X26 : Vec F S1x1024 .f32) (X27 : Vec F S1 .i32) (hc : k0_chk1 i (bselOf X25)) (K : PUnit → sProp 𝕄) :
    iprop(owns (c : Thread nD τ) arg18 fullShare X18 ∗ owns (c : Thread nD τ) arg19 fullShare X19 ∗ owns (c : Thread nD τ) arg22 fullShare X22 ∗ owns (c : Thread nD τ) arg23 fullShare X23 ∗ owns (c : Thread nD τ) arg24 fullShare X24 ∗ owns (c : Thread nD τ) arg25 fullShare X25 ∗ owns (c : Thread nD τ) arg26 fullShare X26 ∗ owns (c : Thread nD τ) arg27 fullShare X27
      ∗ (owns (c : Thread nD τ) arg18 fullShare (k0_pay26 (View.ld X24 (Rect.unit (s := S16384x1024) (k0_off5 i) S512x1024.size (k0_off5_inb i h5))) (View.ld X25 (Rect.unit (s := S32x1024) (k0_off6 i) S1x1024.size (k0_off6_inb i h5))) (k0_pay21 X25))
        ∗ owns (c : Thread nD τ) arg19 fullShare (k0_pay27 (BitVec.ofNat 32 (i 0).val) (selOf i h5 h6 X25 X24 hc) (View.ld X22 (Rect.unit (s := S32x64x512) (k0_off7 i) S1x64x512.size (k0_off7_inb i h5))) (View.ld X23 (Rect.unit (s := S32x64x512) (k0_off7 i) S1x64x512.size (k0_off7_inb i h5))))
        ∗ owns (c : Thread nD τ) arg22 fullShare X22
        ∗ owns (c : Thread nD τ) arg23 fullShare X23
        ∗ owns (c : Thread nD τ) arg24 fullShare X24
        ∗ owns (c : Thread nD τ) arg25 fullShare X25
        ∗ owns (c : Thread nD τ) arg26 fullShare (k0_pay21 X25)
        ∗ owns (c : Thread nD τ) arg27 fullShare (fun _ => selOf i h5 h6 X25 X24 hc)
        -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__body_eq_skeleton]; unfold cc0__body_skel
  unfold owns
  iintro ⟨⟨%f18, %e18, H18⟩, ⟨%f19, %e19, H19⟩, ⟨%f22, %e22, H22⟩, ⟨%f23, %e23, H23⟩, ⟨%f24, %e24, H24⟩, ⟨%f25, %e25, H25⟩, ⟨%f26, %e26, H26⟩, ⟨%f27, %e27, H27⟩, Hk⟩
  have p18 : ∀ r : Rect S512x1024, View.readAt (Elt F) arg18.view r.toLoadRect f18 = View.ld X18 r := fun r => by rw [View.readAt_eq_ld, e18]
  have w18 : View.ld X18 (Rect.unit (s := S512x1024) ![0, 0] S512x1024.size inb_S512x1024_S512x1024_0_0) = X18 := View.ld_unit_zero zero2 _ _
  have p19 : ∀ r : Rect S64x512, View.readAt (Elt F) arg19.view r.toLoadRect f19 = View.ld X19 r := fun r => by rw [View.readAt_eq_ld, e19]
  have w19 : View.ld X19 (Rect.unit (s := S64x512) ![0, 0] S64x512.size inb_S64x512_S64x512_0_0) = X19 := View.ld_unit_zero zero2 _ _
  have p22 : ∀ r : Rect S32x64x512, View.readAt (Elt F) arg22.view r.toLoadRect f22 = View.ld X22 r := fun r => by rw [View.readAt_eq_ld, e22]
  have p23 : ∀ r : Rect S32x64x512, View.readAt (Elt F) arg23.view r.toLoadRect f23 = View.ld X23 r := fun r => by rw [View.readAt_eq_ld, e23]
  have p24 : ∀ r : Rect S16384x1024, View.readAt (Elt F) arg24.view r.toLoadRect f24 = View.ld X24 r := fun r => by rw [View.readAt_eq_ld, e24]
  have p25 : ∀ r : Rect S32x1024, View.readAt (Elt F) arg25.view r.toLoadRect f25 = View.ld X25 r := fun r => by rw [View.readAt_eq_ld, e25]
  have w25 : View.ld X25 (Rect.unit (s := S32x1024) ![0, 0] S32x1024.size inb_S32x1024_S32x1024_0_0) = X25 := View.ld_unit_zero zero2 _ _
  have p26 : ∀ r : Rect S1x1024, View.readAt (Elt F) arg26.view r.toLoadRect f26 = View.ld X26 r := fun r => by rw [View.readAt_eq_ld, e26]
  have w26 : View.ld X26 (Rect.unit (s := S1x1024) ![0, 0] S1x1024.size inb_S1x1024_S1x1024_0_0) = X26 := View.ld_unit_zero zero2 _ _
  have p27 : ∀ r : Rect S1, View.readAt (Elt F) arg27.view r.toLoadRect f27 = View.ld X27 r := fun r => by rw [View.readAt_eq_ld, e27]
  have c26 : ∀ w : Vec F S1x1024 .f32, arg26.view.readCov [⟨(Rect.unit (s := S1x1024) ![0, 0] S1x1024.size inb_S1x1024_S1x1024_0_0), w⟩] (Rect.unit (s := S1x1024) ![0, 0] S1x1024.size inb_S1x1024_S1x1024_0_0).toLoadRect = w := fun w => View.readCov_unit_zero _ zero2 _ w
  have hc' : k0_chk1 i (extractAt ![0, 0, 0] (k0_pay23 (View.ld X25 (Rect.unit (s := S32x1024) ![0, 0] S32x1024.size inb_S32x1024_S32x1024_0_0))) inpos_S1x1x1_p0_0_0) := by
    rw [w25]; exact hc
  have q25 : (extractAt ![0, 0, 0] (k0_pay23 (View.ld X25 (Rect.unit (s := S32x1024) ![0, 0] S32x1024.size inb_S32x1024_S32x1024_0_0))) inpos_S1x1x1_p0_0_0 : BitVec 32) = bselOf X25 := by rw [w25]; rfl
  have b25 : (extractAt ![0, 0, 0] (k0_pay23 X25) inpos_S1x1x1_p0_0_0 : BitVec 32) = bselOf X25 := rfl
  have o25 := k0_off4_inb i (bselOf X25) hc h5 h6
  have l24 := fun ha => ld_off4_congr (F := F) X24 q25 ha o25
  sl_exec (disch := first | sl_exact h1 | sl_exact h2 | sl_exact h5 | sl_exact h6 | (sl_unfold_run_names; sl_exact hc'))
  sl_step
  iapply Hk
  isplitl [H18]
  · iexists _
    isplitr; swap
    · iexact H18
    · ipureintro
      sl_unfold_run_names
      rw [read_put, overlay_whole zero2]
      try simp only [l24, p18, p19, p22, p23, p24, p25, p26, p27, w18, w19, w25, w26, c26, selOf, b25]
      try with_reducible rfl
  isplitl [H19]
  · iexists _
    isplitr; swap
    · iexact H19
    · ipureintro
      sl_unfold_run_names
      rw [read_put, overlay_whole zero2]
      try simp only [l24, p18, p19, p22, p23, p24, p25, p26, p27, w18, w19, w25, w26, c26, selOf, b25]
      try with_reducible rfl
  isplitl [H22]
  · iexists _
    isplitr; swap
    · iexact H22
    · ipureintro
      exact e22
  isplitl [H23]
  · iexists _
    isplitr; swap
    · iexact H23
    · ipureintro
      exact e23
  isplitl [H24]
  · iexists _
    isplitr; swap
    · iexact H24
    · ipureintro
      exact e24
  isplitl [H25]
  · iexists _
    isplitr; swap
    · iexact H25
    · ipureintro
      exact e25
  isplitl [H26]
  · iexists _
    isplitr; swap
    · iexact H26
    · ipureintro
      sl_unfold_run_names
      rw [read_put, overlay_whole zero2]
      try simp only [l24, p18, p19, p22, p23, p24, p25, p26, p27, w18, w19, w25, w26, c26, selOf, b25]
      try with_reducible rfl
  iexists _
  isplitr; swap
  · iexact H27
  · ipureintro
    sl_unfold_run_names
    rw [read_put, overlay_whole zero1]
    try simp only [l24, p18, p19, p22, p23, p24, p25, p26, p27, w18, w19, w25, w26, c26, selOf, b25]
    refine funext fun _ => ?_
    congr

end Cert.KernelIdeal.Hand

end
-- ==== Proof.SoundC.lean ====
/-
The kernel run at the first point of the second half, as the launch calls it.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic
public import proofs.«01_k».proof.Proof.Leave
public import proofs.«01_k».proof.Proof.BodyC

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (hc : ∀ c : Dev nD, ChkV m c) (c : Dev nD)
theorem after_12_C (t : Fin cfg0.N) : (dats m hc 0 c).after 12 t = keyTV m c := by dsimp only [dats]
theorem after_13_C (t : Fin cfg0.N) : (dats m hc 0 c).after 13 t = cnewTV m c := by dsimp only [dats]
theorem after_14_C (t : Fin cfg0.N) : (dats m hc 0 c).after 14 t = readV m c (min t.val 31) := by dsimp only [dats]
theorem after_15_C (t : Fin cfg0.N) : (dats m hc 0 c).after 15 t = cwrV m c (clampP t) := by dsimp only [dats]
theorem after_16_C (t : Fin cfg0.N) : (dats m hc 0 c).after 16 t = cwuV m c (clampP t) := by dsimp only [dats]
theorem after_17_C (t : Fin cfg0.N) : (dats m hc 0 c).after 17 t = lwuV m c t := by dsimp only [dats]
theorem after_18_C (t : Fin cfg0.N) : (dats m hc 0 c).after 18 t = memV m c (hc c) t := by dsimp only [dats]
set_option maxHeartbeats 1000000 in
theorem soundC (t : Fin cfg0.N) (h : t.val = 32) : Sound m hc c t := by
  have hlt : t.val < 64 := t.isLt
  obtain rfl : t = p32 := Fin.ext h
  unfold Sound bodyPre bodyPost bodyAt0
  simp only [before_0 m hc c, before_1 m hc c, before_2 m hc c, before_3 m hc c, before_4 m hc c, before_5 m hc c, before_6 m hc c, before_7 m hc c, before_8 m hc c, before_9 m hc c, before_10 m hc c, before_11 m hc c]
  rw [show (dats m hc 0 c).Φ p32.castSucc = PhiS m hc c p32.val from rfl, show (dats m hc 0 c).Φ p32.succ = PhiS m hc c (p32.val + 1) from rfl]
  rw [show (dats m hc 0 c).owesAt () p32.succ = (dats m hc 0 c).owesAt () p32.castSucc from rfl]
  rw [PhiS_half m hc c p32.val (by decide), PhiS_late m hc c (p32.val + 1) (by decide)]
  iintro ⟨⟨S0, S1, S2, S3, S4, S5, ⟨%X26, -, S6⟩, ⟨%X27, -, S7⟩, Hg⟩, HO, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, W12, W13, W14, W15, W16, ⟨%d17, W17⟩, ⟨%d18, W18⟩⟩
  iapply (bodyC c (grid0.coords p32) (fun h' => absurd ((cond1_iff p32).mp h') (by omega)) (fun h' => absurd ((cond2_iff p32).mp h') (by omega)) ((cond5_iff p32).mpr (by omega)) ((cond6_iff p32).mpr h) _ _ _ _ _ _ _ _ _ _ _ _ _ _ _ _ _ _ _ _ _ _ _ _ _ _ _ _ _ _ _ _ _ _ _ _ _ _ _ _ _ _ _ _ _ _ _ _ _ _ _ _ _ _ _ _ (T22 m c) (T23 m c) (T24 m c) (T25 m c) X26 X27 (hc c) _)
  isplitl [W17]; · iexact W17
  isplitl [W18]; · iexact W18
  isplitl [S2]; · iexact S2
  isplitl [S3]; · iexact S3
  isplitl [S4]; · iexact S4
  isplitl [S5]; · iexact S5
  isplitl [S6]; · iexact S6
  isplitl [S7]; · iexact S7
  iintro ⟨W17, W18, S2, S3, S4, S5, S6, S7⟩
  isplitl [S0 S1 S2 S3 S4 S5 S6 S7 Hg]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]
  · iapply (leave_idle m hc c 12 p32 (by rw [idle_12]; try rfl) (fun _ d => (before_12 m hc c p32 (by decide) d).trans (after_12_C m hc c p32).symm)); iexact W12
  isplitl [W13]
  · iapply (leave_idle m hc c 13 p32 (by rw [idle_13]; try rfl) (fun _ d => (before_13 m hc c p32 (by decide) d).trans (after_13_C m hc c p32).symm)); iexact W13
  isplitl [W14]
  · iapply (leave_idle m hc c 14 p32 (by rw [idle_14]; try rfl) (fun _ d => (before_14 m hc c p32 (by decide) d).trans ((congrArg (readV m c) (show min (p32.val - 1) 31 = min p32.val 31 from rfl)).trans (after_14_C m hc c p32).symm))); iexact W14
  isplitl [W15]
  · iapply (leave_idle m hc c 15 p32 (by rw [idle_15]; try rfl) (fun _ d => (before_15 m hc c p32 (by decide) d).trans (after_15_C m hc c p32).symm)); iexact W15
  isplitl [W16]
  · iapply (leave_idle m hc c 16 p32 (by rw [idle_16]; try rfl) (fun _ d => (before_16 m hc c p32 (by decide) d).trans (after_16_C m hc c p32).symm)); iexact W16
  isplitl [W17]
  · iapply (leave_live m hc c 17 p32 (by rw [idle_17]; try rfl) _ ((by rw [after_17_C, lwuV, dif_pos (show 32 ≤ _ from by decide)]; try rfl))); iexact W17
  iapply (leave_live m hc c 18 p32 (by rw [idle_18]; try rfl) _ ((by rw [after_18_C, memV, dif_pos (show 32 ≤ _ from by decide)]; try rfl))); iexact W18

end Cert.KernelIdeal.Hand

end
-- ==== Proof.BodyD.lean ====
/-
The kernel's body at a later point of the second half: one block.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic
public import proofs.«01_k».proof.Proof.BodyDefs

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

set_option maxHeartbeats 1000000 in
/-- What the body leaves at a later point of the second half: one block. -/
theorem bodyD (c : Dev nD) (i : grid0.Coords) (h1 : ¬ k0_cond1 i = 1#1) (h2 : ¬ k0_cond2 i = 1#1) (h5 : k0_cond5 i = 1#1) (h6 : ¬ k0_cond6 i = 1#1)
    (arg1 : Memref sig .tc .vmem S1024x128 .f32) (harg1 : arg1.IsWhole)
    (arg2 : Memref sig .tc .vmem S64x1024 .f32) (harg2 : arg2.IsWhole)
    (arg3 : Memref sig .tc .vmem S64x1024 .f32) (harg3 : arg3.IsWhole)
    (arg4 : Memref sig .tc .vmem S64x1024 .f32) (harg4 : arg4.IsWhole)
    (arg5 : Memref sig .tc .vmem S192x256 .f32) (harg5 : arg5.IsWhole)
    (arg6 : Memref sig .tc .vmem S64x256 .f32) (harg6 : arg6.IsWhole)
    (arg7 : Memref sig .tc .vmem S8x256 .f32) (harg7 : arg7.IsWhole)
    (arg8 : Memref sig .tc .vmem S8x128 .f32) (harg8 : arg8.IsWhole)
    (arg9 : Memref sig .tc .vmem S64x512 .f32) (harg9 : arg9.IsWhole)
    (arg10 : Memref sig .tc .vmem S512x1024 .f32) (harg10 : arg10.IsWhole)
    (arg11 : Memref sig .tc .vmem S512x1024 .f32) (harg11 : arg11.IsWhole)
    (arg12 : Memref sig .tc .vmem S512x1024 .f32) (harg12 : arg12.IsWhole)
    (arg13 : Memref sig .tc .vmem S64x1024 .f32) (harg13 : arg13.IsWhole)
    (arg14 : Memref sig .tc .vmem S64x1024 .f32) (harg14 : arg14.IsWhole)
    (arg15 : Memref sig .tc .vmem S64x1024 .f32) (harg15 : arg15.IsWhole)
    (arg16 : Memref sig .tc .vmem S512x1024 .f32) (harg16 : arg16.IsWhole)
    (arg17 : Memref sig .tc .vmem S512x1024 .f32) (harg17 : arg17.IsWhole)
    (arg18 : Memref sig .tc .vmem S512x1024 .f32) (harg18 : arg18.IsWhole)
    (arg19 : Memref sig .tc .vmem S64x512 .f32) (harg19 : arg19.IsWhole)
    (arg20 : Memref sig .tc .vmem S1024x64 .f32) (harg20 : arg20.IsWhole)
    (arg21 : Memref sig .tc .vmem S1024x64 .f32) (harg21 : arg21.IsWhole)
    (arg22 : Memref sig .tc .vmem S32x64x512 .f32) (harg22 : arg22.IsWhole)
    (arg23 : Memref sig .tc .vmem S32x64x512 .f32) (harg23 : arg23.IsWhole)
    (arg24 : Memref sig .tc .vmem S16384x1024 .i8) (harg24 : arg24.IsWhole)
    (arg25 : Memref sig .tc .vmem S32x1024 .f32) (harg25 : arg25.IsWhole)
    (arg26 : Memref sig .tc .vmem S1x1024 .f32) (harg26 : arg26.IsWhole)
    (arg27 : Memref sig .tc .smem S1 .i32) (harg27 : arg27.IsWhole)
    (X18 : Vec F S512x1024 .f32) (X19 : Vec F S64x512 .f32) (X22 : Vec F S32x64x512 .f32) (X23 : Vec F S32x64x512 .f32) (X24 : Vec F S16384x1024 .i8) (X25 : Vec F S32x1024 .f32) (X26 : Vec F S1x1024 .f32) (X27 : Vec F S1 .i32)  (K : PUnit → sProp 𝕄) :
    iprop(owns (c : Thread nD τ) arg18 fullShare X18 ∗ owns (c : Thread nD τ) arg19 fullShare X19 ∗ owns (c : Thread nD τ) arg22 fullShare X22 ∗ owns (c : Thread nD τ) arg23 fullShare X23 ∗ owns (c : Thread nD τ) arg24 fullShare X24 ∗ owns (c : Thread nD τ) arg25 fullShare X25 ∗ owns (c : Thread nD τ) arg26 fullShare X26 ∗ owns (c : Thread nD τ) arg27 fullShare X27
      ∗ (owns (c : Thread nD τ) arg18 fullShare (k0_pay26 (View.ld X24 (Rect.unit (s := S16384x1024) (k0_off5 i) S512x1024.size (k0_off5_inb i h5))) (View.ld X25 (Rect.unit (s := S32x1024) (k0_off6 i) S1x1024.size (k0_off6_inb i h5))) X26)
        ∗ owns (c : Thread nD τ) arg19 fullShare (k0_pay27 (BitVec.ofNat 32 (i 0).val) (X27 ix1) (View.ld X22 (Rect.unit (s := S32x64x512) (k0_off7 i) S1x64x512.size (k0_off7_inb i h5))) (View.ld X23 (Rect.unit (s := S32x64x512) (k0_off7 i) S1x64x512.size (k0_off7_inb i h5))))
        ∗ owns (c : Thread nD τ) arg22 fullShare X22
        ∗ owns (c : Thread nD τ) arg23 fullShare X23
        ∗ owns (c : Thread nD τ) arg24 fullShare X24
        ∗ owns (c : Thread nD τ) arg25 fullShare X25
        ∗ owns (c : Thread nD τ) arg26 fullShare X26
        ∗ owns (c : Thread nD τ) arg27 fullShare X27
        -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__body_eq_skeleton]; unfold cc0__body_skel
  unfold owns
  iintro ⟨⟨%f18, %e18, H18⟩, ⟨%f19, %e19, H19⟩, ⟨%f22, %e22, H22⟩, ⟨%f23, %e23, H23⟩, ⟨%f24, %e24, H24⟩, ⟨%f25, %e25, H25⟩, ⟨%f26, %e26, H26⟩, ⟨%f27, %e27, H27⟩, Hk⟩
  have p18 : ∀ r : Rect S512x1024, View.readAt (Elt F) arg18.view r.toLoadRect f18 = View.ld X18 r := fun r => by rw [View.readAt_eq_ld, e18]
  have w18 : View.ld X18 (Rect.unit (s := S512x1024) ![0, 0] S512x1024.size inb_S512x1024_S512x1024_0_0) = X18 := View.ld_unit_zero zero2 _ _
  have p19 : ∀ r : Rect S64x512, View.readAt (Elt F) arg19.view r.toLoadRect f19 = View.ld X19 r := fun r => by rw [View.readAt_eq_ld, e19]
  have w19 : View.ld X19 (Rect.unit (s := S64x512) ![0, 0] S64x512.size inb_S64x512_S64x512_0_0) = X19 := View.ld_unit_zero zero2 _ _
  have p22 : ∀ r : Rect S32x64x512, View.readAt (Elt F) arg22.view r.toLoadRect f22 = View.ld X22 r := fun r => by rw [View.readAt_eq_ld, e22]
  have p23 : ∀ r : Rect S32x64x512, View.readAt (Elt F) arg23.view r.toLoadRect f23 = View.ld X23 r := fun r => by rw [View.readAt_eq_ld, e23]
  have p24 : ∀ r : Rect S16384x1024, View.readAt (Elt F) arg24.view r.toLoadRect f24 = View.ld X24 r := fun r => by rw [View.readAt_eq_ld, e24]
  have p25 : ∀ r : Rect S32x1024, View.readAt (Elt F) arg25.view r.toLoadRect f25 = View.ld X25 r := fun r => by rw [View.readAt_eq_ld, e25]
  have p26 : ∀ r : Rect S1x1024, View.readAt (Elt F) arg26.view r.toLoadRect f26 = View.ld X26 r := fun r => by rw [View.readAt_eq_ld, e26]
  have w26 : View.ld X26 (Rect.unit (s := S1x1024) ![0, 0] S1x1024.size inb_S1x1024_S1x1024_0_0) = X26 := View.ld_unit_zero zero2 _ _
  have p27 : ∀ r : Rect S1, View.readAt (Elt F) arg27.view r.toLoadRect f27 = View.ld X27 r := fun r => by rw [View.readAt_eq_ld, e27]
  sl_exec (disch := first | sl_exact h1 | sl_exact h2 | sl_exact h5 | sl_exact h6)
  sl_step
  iapply Hk
  isplitl [H18]
  · iexists _
    isplitr; swap
    · iexact H18
    · ipureintro
      sl_unfold_run_names
      rw [read_put, overlay_whole zero2]
      try simp only [p18, p19, p22, p23, p24, p25, p26, p27, w18, w19, w26, selOf, bselOf]
      try rfl
  isplitl [H19]
  · iexists _
    isplitr; swap
    · iexact H19
    · ipureintro
      sl_unfold_run_names
      rw [read_put, overlay_whole zero2]
      try simp only [p18, p19, p22, p23, p24, p25, p26, p27, w18, w19, w26, selOf, bselOf]
      exact congrArg (fun z => k0_pay27 _ z _ _) (congrArg X27 (eq_ix1 _))
  isplitl [H22]
  · iexists _
    isplitr; swap
    · iexact H22
    · ipureintro
      exact e22
  isplitl [H23]
  · iexists _
    isplitr; swap
    · iexact H23
    · ipureintro
      exact e23
  isplitl [H24]
  · iexists _
    isplitr; swap
    · iexact H24
    · ipureintro
      exact e24
  isplitl [H25]
  · iexists _
    isplitr; swap
    · iexact H25
    · ipureintro
      exact e25
  isplitl [H26]
  · iexists _
    isplitr; swap
    · iexact H26
    · ipureintro
      exact e26
  iexists _
  isplitr; swap
  · iexact H27
  · ipureintro
    exact e27

end Cert.KernelIdeal.Hand

end
-- ==== Proof.SoundD.lean ====
/-
The kernel run at the later points of the second half, as the launch calls it.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic
public import proofs.«01_k».proof.Proof.Leave
public import proofs.«01_k».proof.Proof.BodyD

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (hc : ∀ c : Dev nD, ChkV m c) (c : Dev nD)
theorem after_12_D (t : Fin cfg0.N) : (dats m hc 0 c).after 12 t = keyTV m c := by dsimp only [dats]
theorem after_13_D (t : Fin cfg0.N) : (dats m hc 0 c).after 13 t = cnewTV m c := by dsimp only [dats]
theorem after_14_D (t : Fin cfg0.N) : (dats m hc 0 c).after 14 t = readV m c (min t.val 31) := by dsimp only [dats]
theorem after_15_D (t : Fin cfg0.N) : (dats m hc 0 c).after 15 t = cwrV m c (clampP t) := by dsimp only [dats]
theorem after_16_D (t : Fin cfg0.N) : (dats m hc 0 c).after 16 t = cwuV m c (clampP t) := by dsimp only [dats]
theorem after_17_D (t : Fin cfg0.N) : (dats m hc 0 c).after 17 t = lwuV m c t := by dsimp only [dats]
theorem after_18_D (t : Fin cfg0.N) : (dats m hc 0 c).after 18 t = memV m c (hc c) t := by dsimp only [dats]
set_option maxHeartbeats 1000000 in
theorem soundD (t : Fin cfg0.N) (h : 32 < t.val) : Sound m hc c t := by
  have hlt : t.val < 64 := t.isLt
  unfold Sound bodyPre bodyPost bodyAt0
  simp only [before_0 m hc c, before_1 m hc c, before_2 m hc c, before_3 m hc c, before_4 m hc c, before_5 m hc c, before_6 m hc c, before_7 m hc c, before_8 m hc c, before_9 m hc c, before_10 m hc c, before_11 m hc c]
  rw [show (dats m hc 0 c).Φ t.castSucc = PhiS m hc c t.val from rfl, show (dats m hc 0 c).Φ t.succ = PhiS m hc c (t.val + 1) from rfl]
  rw [show (dats m hc 0 c).owesAt () t.succ = (dats m hc 0 c).owesAt () t.castSucc from rfl]
  rw [PhiS_late m hc c t.val (by omega), PhiS_late m hc c (t.val + 1) (by omega)]
  iintro ⟨⟨S0, S1, S2, S3, S4, S5, S6, S7, Hg⟩, HO, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, W12, W13, W14, W15, W16, ⟨%d17, W17⟩, ⟨%d18, W18⟩⟩
  iapply (bodyD c (grid0.coords t) (fun h' => absurd ((cond1_iff t).mp h') (by omega)) (fun h' => absurd ((cond2_iff t).mp h') (by omega)) ((cond5_iff t).mpr (by omega)) (fun h' => absurd ((cond6_iff t).mp h') (by omega)) _ _ _ _ _ _ _ _ _ _ _ _ _ _ _ _ _ _ _ _ _ _ _ _ _ _ _ _ _ _ _ _ _ _ _ _ _ _ _ _ _ _ _ _ _ _ _ _ _ _ _ _ _ _ _ _ (T22 m c) (T23 m c) (T24 m c) (T25 m c) (cminV m c) (fun _ => selV m c (hc c)) _)
  isplitl [W17]; · iexact W17
  isplitl [W18]; · iexact W18
  isplitl [S2]; · iexact S2
  isplitl [S3]; · iexact S3
  isplitl [S4]; · iexact S4
  isplitl [S5]; · iexact S5
  isplitl [S6]; · iexact S6
  isplitl [S7]; · iexact S7
  iintro ⟨W17, W18, S2, S3, S4, S5, S6, S7⟩
  isplitl [S0 S1 S2 S3 S4 S5 S6 S7 Hg]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]
  · iapply (leave_idle m hc c 12 t (by rw [idle_12, decide_eq_true_iff]; omega) (fun _ d => (before_12 m hc c t (by omega) d).trans (after_12_D m hc c t).symm)); iexact W12
  isplitl [W13]
  · iapply (leave_idle m hc c 13 t (by rw [idle_13, decide_eq_true_iff]; omega) (fun _ d => (before_13 m hc c t (by omega) d).trans (after_13_D m hc c t).symm)); iexact W13
  isplitl [W14]
  · iapply (leave_idle m hc c 14 t (by rw [idle_14, decide_eq_true_iff]; omega) (fun _ d => (before_14 m hc c t (by omega) d).trans ((congrArg (readV m c) (by omega)).trans (after_14_D m hc c t).symm))); iexact W14
  isplitl [W15]
  · iapply (leave_idle m hc c 15 t (by rw [idle_15, decide_eq_true_iff]; omega) (fun _ d => (before_15 m hc c t (by omega) d).trans (after_15_D m hc c t).symm)); iexact W15
  isplitl [W16]
  · iapply (leave_idle m hc c 16 t (by rw [idle_16, decide_eq_true_iff]; omega) (fun _ d => (before_16 m hc c t (by omega) d).trans (after_16_D m hc c t).symm)); iexact W16
  isplitl [W17]
  · iapply (leave_live m hc c 17 t (by rw [idle_17, decide_eq_false_iff_not]; omega) _ ((by rw [after_17_D, lwuV, dif_pos (show 32 ≤ _ from by omega)]; try rfl))); iexact W17
  iapply (leave_live m hc c 18 t (by rw [idle_18, decide_eq_false_iff_not]; omega) _ ((by rw [after_18_D, memV, dif_pos (show 32 ≤ _ from by omega)]; try rfl))); iexact W18

end Cert.KernelIdeal.Hand

end
-- ==== Proof.Run.lean ====
/-
The launch of the kernel: every point behaves, so the run terminates with each array at the contents the library computes.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic
public import proofs.«01_k».proof.Proof.SoundA
public import proofs.«01_k».proof.Proof.SoundB
public import proofs.«01_k».proof.Proof.SoundC
public import proofs.«01_k».proof.Proof.SoundD

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (hc : ∀ c : Dev nD, ChkV m c)

theorem sound (c : Dev nD) (t : Fin cfg0.N) : Sound m hc c t := by
  by_cases h0 : t.val = 0
  · exact soundA m hc c t h0
  · rcases Nat.lt_trichotomy t.val 32 with h | h | h
    · exact soundB m hc c t h0 h
    · exact soundC m hc c t h
    · exact soundD m hc c t h

theorem defs₀_row (t : Fin cfg0.N) :
    defs₀ (F := F) .tc cfg0.body (cfg0.bodyArgs t (cfg0.slots t)) = bodyAt0 t := by
  unfold defs₀
  rw [Defs.onTc_tc]

set_option maxHeartbeats 2000000 in
/-- The kernel keeps its promise at every point. -/
theorem body_obligation (c : Dev nD) : BodyObligation (dats m hc 0 c) (defs₀ (F := F)) Variants.none () Set.univ := fun t => by
  rw [bigSep_W0, bigSep_W0, defs₀_row]
  exact triple_restated (sound m hc c t) rfl .rfl fun _ => .rfl

theorem phi_in (c : Dev nD) : Pipeline.ΦA spec0 c ⊢ (dats m hc 0 c).Φ 0 := by
  rw [show (dats m hc 0 c).Φ 0 = PhiS m hc c 0 from rfl]
  unfold Pipeline.ΦA PhiS
  rw [scopedRest0_eq]
  simp only [owns_whole]
  iintro ⟨⟨S0, S1, S2, S3, S4, S5, S6, S7⟩, Hg⟩
  isplitl [S0]
  · icases S0 with ⟨%f0, S0⟩
    iexists _; isplitr; swap; · iexact S0
    ipureintro; exact fun h => absurd h (by decide)
  isplitl [S1]
  · icases S1 with ⟨%f1, S1⟩
    iexists _; isplitr; swap; · iexact S1
    ipureintro; exact fun h => absurd h (by decide)
  isplitl [S2]
  · icases S2 with ⟨%f2, S2⟩
    iexists _; isplitr; swap; · iexact S2
    ipureintro; exact fun j h => absurd h (Nat.not_lt_zero _)
  isplitl [S3]
  · icases S3 with ⟨%f3, S3⟩
    iexists _; isplitr; swap; · iexact S3
    ipureintro; exact fun j h => absurd h (Nat.not_lt_zero _)
  isplitl [S4]
  · icases S4 with ⟨%f4, S4⟩
    iexists _; isplitr; swap; · iexact S4
    ipureintro; exact fun j h => absurd h (by rw [Nat.zero_mul]; exact Nat.not_lt_zero _)
  isplitl [S5]
  · icases S5 with ⟨%f5, S5⟩
    iexists _; isplitr; swap; · iexact S5
    ipureintro; exact fun j h => absurd h (Nat.not_lt_zero _)
  isplitl [S6]
  · icases S6 with ⟨%f6, S6⟩
    iexists _; isplitr; swap; · iexact S6
    ipureintro; exact fun h => absurd h (by decide)
  isplitl [S7]
  · icases S7 with ⟨%f7, S7⟩
    iexists _; isplitr; swap; · iexact S7
    ipureintro; exact fun h => absurd h (by decide)
  iexact Hg

theorem phi_out (c : Dev nD) : (dats m hc 0 c).Φ (Fin.last cfg0.N) ⊢ Pipeline.ΦA spec0 c := by
  rw [show (dats m hc 0 c).Φ (Fin.last cfg0.N) = PhiS m hc c 64 from rfl, PhiS_late m hc c 64 (by decide)]
  unfold Pipeline.ΦA
  rw [scopedRest0_eq]
  simp only [owns_whole]
  iintro ⟨S0, S1, S2, S3, S4, S5, S6, S7, Hg⟩
  isplitr [Hg]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    iexists _; iexact S7
  iexact Hg

/-- The launch's proof data do not lend a fraction of any array. -/
theorem share_eq (c : Dev nD) (w) : (dats m hc 0 c).share w = fullShare := (dats m hc 0 c).share_full (fun _ => rfl) w

set_option backward.isDefEq.respectTransparency.types false in
/-- Every weakly fair execution of the kernel's program terminates, with every array at the computed contents and every
    semaphore counter at zero. -/
theorem run_main : θ_run defs (onTc (τ := τ) (main (F := F))) (s₀ m ρ) (fun r =>
    Pipeline.FramePost cfgs (dats m hc) 0 (Pipeline.afterTail₀ cfgs (dats m hc) 0 (V0 m) [hostOps1]) r ∧ r.2.sem = fun _ => 0) :=
  Pipeline.θ_run_frame_around_track cfgs (dats m hc) 0 launch0 defs₀ Variants.none m ρ main
    (hbody := fun c => (body_obligation m hc c).loose) (hshare := share_eq m hc) (howed := fun _ _ => rfl)
    (V₀ := V0 m) (opss := [hostOps1]) (hsub := sfx_sub) (hfresh := sfx_fresh) (hkeep := sfx_keeps)
    (hmain := hmain m Variants.none) (hA := fun _ _ => rfl) (hin := phi_in m hc) (hout := phi_out m hc)
    (Q' := fun r => Pipeline.FramePost cfgs (dats m hc) 0 (Pipeline.afterTail₀ cfgs (dats m hc) 0 (V0 m) [hostOps1]) r ∧ r.2.sem = fun _ => 0)
    (hQ' := fun _ h => h)

end Cert.KernelIdeal.Hand

end
-- ==== Proof.RefRun.lean ====
/-
  The run of the reference program: its host operations as one list per stage, that the program is that straight line, and
  what each buffer the later files read holds after its stage, as named pure values.
-/
module

public import Idealize.ShloMosaic.Lib.StableHlo.Run
public import Idealize.ShloMosaic.Lib.StableHlo.RunRead
public import proofs.«01_k».proof.Proof.Gen.ReferenceIdeal

@[expose] public section

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- The operations of stage A. -/
abbrev opsA : List (HloOp τ sig (Elt F)) :=
  [ binary main_arg0 main_arg1 main_v0 ((fun a b => concatenate S1024x192 1 [⟨S1024x128, a⟩, ⟨S1024x64, b⟩] concatenates_S1024x128_S1024x64_S1024x192_d1) : (⟨S1024x128, .f32⟩ : BufTy).Contents (Elt F) → (⟨S1024x64, .f32⟩ : BufTy).Contents (Elt F) → (⟨S1024x192, .f32⟩ : BufTy).Contents (Elt F)),
    binary main_v0 main_arg9 main_v1 ((fun l r => Host.dotGeneral dot_S1024x192_S192x256_S1024x256_1_0_0_1_n_n none l r) : (⟨S1024x192, .f32⟩ : BufTy).Contents (Elt F) → (⟨S192x256, .f32⟩ : BufTy).Contents (Elt F) → (⟨S1024x256, .f32⟩ : BufTy).Contents (Elt F)),
    binary main_arg6 main_arg10 main_v2 ((fun l r => Host.dotGeneral dot_S1024x64_S64x256_S1024x256_1_0_0_1_n_n none l r) : (⟨S1024x64, .f32⟩ : BufTy).Contents (Elt F) → (⟨S64x256, .f32⟩ : BufTy).Contents (Elt F) → (⟨S1024x256, .f32⟩ : BufTy).Contents (Elt F)),
    binary main_v1 main_v2 main_v3 (addf : (⟨S1024x256, .f32⟩ : BufTy).Contents (Elt F) → (⟨S1024x256, .f32⟩ : BufTy).Contents (Elt F) → (⟨S1024x256, .f32⟩ : BufTy).Contents (Elt F)),
    unary main_arg11 main_v4 (broadcastInDim S1x256 ![1] bcast_S256_S1x256_1 : (⟨S256, .f32⟩ : BufTy).Contents (Elt F) → (⟨S1x256, .f32⟩ : BufTy).Contents (Elt F)),
    unary main_v4 main_v5 (broadcastInDim S1024x256 ![0, 1] bcast_S1x256_S1024x256_0_1 : (⟨S1x256, .f32⟩ : BufTy).Contents (Elt F) → (⟨S1024x256, .f32⟩ : BufTy).Contents (Elt F)),
    binary main_v3 main_v5 main_v6 (addf : (⟨S1024x256, .f32⟩ : BufTy).Contents (Elt F) → (⟨S1024x256, .f32⟩ : BufTy).Contents (Elt F) → (⟨S1024x256, .f32⟩ : BufTy).Contents (Elt F)),
    unary main_v6 main_v7 ((extractStridedSlice S1024x64 ![0, 0] · slices_S1024x256_S1024x64_0_0) : (⟨S1024x256, .f32⟩ : BufTy).Contents (Elt F) → (⟨S1024x64, .f32⟩ : BufTy).Contents (Elt F)),
    unary main_v6 main_v8 ((extractStridedSlice S1024x64 ![0, 64] · slices_S1024x256_S1024x64_0_64) : (⟨S1024x256, .f32⟩ : BufTy).Contents (Elt F) → (⟨S1024x64, .f32⟩ : BufTy).Contents (Elt F)),
    unary main_v6 main_v9 ((extractStridedSlice S1024x64 ![0, 128] · slices_S1024x256_S1024x64_0_128) : (⟨S1024x256, .f32⟩ : BufTy).Contents (Elt F) → (⟨S1024x64, .f32⟩ : BufTy).Contents (Elt F)),
    unary main_v6 main_v10 ((extractStridedSlice S1024x64 ![0, 192] · slices_S1024x256_S1024x64_0_192) : (⟨S1024x256, .f32⟩ : BufTy).Contents (Elt F) → (⟨S1024x64, .f32⟩ : BufTy).Contents (Elt F)),
    unary main_v7 main_v11 (Host.negf : (⟨S1024x64, .f32⟩ : BufTy).Contents (Elt F) → (⟨S1024x64, .f32⟩ : BufTy).Contents (Elt F)),
    unary main_v11 main_v12 (Host.exp : (⟨S1024x64, .f32⟩ : BufTy).Contents (Elt F) → (⟨S1024x64, .f32⟩ : BufTy).Contents (Elt F)),
    nullary main_cst (constant S_ .f32 0x3F800000#32),
    unary main_cst main_v13 (broadcastInDim S1024x64 ![] bcast_S_S1024x64 : (⟨S_, .f32⟩ : BufTy).Contents (Elt F) → (⟨S1024x64, .f32⟩ : BufTy).Contents (Elt F)),
    binary main_v13 main_v12 main_v14 (addf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x3F800000#32),
    unary main_cst_0 main_v15 (broadcastInDim S1024x64 ![] bcast_S_S1024x64 : (⟨S_, .f32⟩ : BufTy).Contents (Elt F) → (⟨S1024x64, .f32⟩ : BufTy).Contents (Elt F)),
    binary main_v15 main_v14 main_v16 (Host.divf : (⟨S1024x64, .f32⟩ : BufTy).Contents (Elt F) → (⟨S1024x64, .f32⟩ : BufTy).Contents (Elt F) → (⟨S1024x64, .f32⟩ : BufTy).Contents (Elt F)),
    unary main_v8 main_v17 (Host.negf : (⟨S1024x64, .f32⟩ : BufTy).Contents (Elt F) → (⟨S1024x64, .f32⟩ : BufTy).Contents (Elt F)),
    unary main_v17 main_v18 (Host.exp : (⟨S1024x64, .f32⟩ : BufTy).Contents (Elt F) → (⟨S1024x64, .f32⟩ : BufTy).Contents (Elt F)),
    nullary main_cst_1 (constant S_ .f32 0x3F800000#32),
    unary main_cst_1 main_v19 (broadcastInDim S1024x64 ![] bcast_S_S1024x64 : (⟨S_, .f32⟩ : BufTy).Contents (Elt F) → (⟨S1024x64, .f32⟩ : BufTy).Contents (Elt F)),
    binary main_v19 main_v18 main_v20 (addf : (⟨S1024x64, .f32⟩ : BufTy).Contents (Elt F) → (⟨S1024x64, .f32⟩ : BufTy).Contents (Elt F) → (⟨S1024x64, .f32⟩ : BufTy).Contents (Elt F)),
    nullary main_cst_2 (constant S_ .f32 0x3F800000#32),
    unary main_cst_2 main_v21 (broadcastInDim S1024x64 ![] bcast_S_S1024x64 : (⟨S_, .f32⟩ : BufTy).Contents (Elt F) → (⟨S1024x64, .f32⟩ : BufTy).Contents (Elt F)),
    binary main_v21 main_v20 main_v22 (Host.divf : (⟨S1024x64, .f32⟩ : BufTy).Contents (Elt F) → (⟨S1024x64, .f32⟩ : BufTy).Contents (Elt F) → (⟨S1024x64, .f32⟩ : BufTy).Contents (Elt F)),
    binary main_v22 main_arg7 main_v23 (mulf : (⟨S1024x64, .f32⟩ : BufTy).Contents (Elt F) → (⟨S1024x64, .f32⟩ : BufTy).Contents (Elt F) → (⟨S1024x64, .f32⟩ : BufTy).Contents (Elt F)),
    unary main_v9 main_v24 (Host.tanh : (⟨S1024x64, .f32⟩ : BufTy).Contents (Elt F) → (⟨S1024x64, .f32⟩ : BufTy).Contents (Elt F)),
    binary main_v16 main_v24 main_v25 (mulf : (⟨S1024x64, .f32⟩ : BufTy).Contents (Elt F) → (⟨S1024x64, .f32⟩ : BufTy).Contents (Elt F) → (⟨S1024x64, .f32⟩ : BufTy).Contents (Elt F)),
    binary main_v23 main_v25 main_v26 (addf : (⟨S1024x64, .f32⟩ : BufTy).Contents (Elt F) → (⟨S1024x64, .f32⟩ : BufTy).Contents (Elt F) → (⟨S1024x64, .f32⟩ : BufTy).Contents (Elt F)),
    unary main_v10 main_v27 (Host.negf : (⟨S1024x64, .f32⟩ : BufTy).Contents (Elt F) → (⟨S1024x64, .f32⟩ : BufTy).Contents (Elt F)),
    unary main_v27 main_v28 (Host.exp : (⟨S1024x64, .f32⟩ : BufTy).Contents (Elt F) → (⟨S1024x64, .f32⟩ : BufTy).Contents (Elt F)),
    nullary main_cst_3 (constant S_ .f32 0x3F800000#32),
    unary main_cst_3 main_v29 (broadcastInDim S1024x64 ![] bcast_S_S1024x64 : (⟨S_, .f32⟩ : BufTy).Contents (Elt F) → (⟨S1024x64, .f32⟩ : BufTy).Contents (Elt F)),
    binary main_v29 main_v28 main_v30 (addf : (⟨S1024x64, .f32⟩ : BufTy).Contents (Elt F) → (⟨S1024x64, .f32⟩ : BufTy).Contents (Elt F) → (⟨S1024x64, .f32⟩ : BufTy).Contents (Elt F)),
    nullary main_cst_4 (constant S_ .f32 0x3F800000#32),
    unary main_cst_4 main_v31 (broadcastInDim S1024x64 ![] bcast_S_S1024x64 : (⟨S_, .f32⟩ : BufTy).Contents (Elt F) → (⟨S1024x64, .f32⟩ : BufTy).Contents (Elt F)),
    binary main_v31 main_v30 main_v32 (Host.divf : (⟨S1024x64, .f32⟩ : BufTy).Contents (Elt F) → (⟨S1024x64, .f32⟩ : BufTy).Contents (Elt F) → (⟨S1024x64, .f32⟩ : BufTy).Contents (Elt F)),
    unary main_v26 main_v33 (Host.tanh : (⟨S1024x64, .f32⟩ : BufTy).Contents (Elt F) → (⟨S1024x64, .f32⟩ : BufTy).Contents (Elt F)),
    binary main_v32 main_v33 main_v34 (mulf : (⟨S1024x64, .f32⟩ : BufTy).Contents (Elt F) → (⟨S1024x64, .f32⟩ : BufTy).Contents (Elt F) → (⟨S1024x64, .f32⟩ : BufTy).Contents (Elt F)) ]

/-- The operations of stage B. -/
abbrev opsB : List (HloOp τ sig (Elt F)) :=
  [ unary main_arg8 main_v35 (Host.negf : (⟨S1, .f32⟩ : BufTy).Contents (Elt F) → (⟨S1, .f32⟩ : BufTy).Contents (Elt F)),
    unary main_v35 main_v36 (Host.exp : (⟨S1, .f32⟩ : BufTy).Contents (Elt F) → (⟨S1, .f32⟩ : BufTy).Contents (Elt F)),
    nullary main_cst_5 (constant S_ .f32 0x3F800000#32),
    unary main_cst_5 main_v37 (broadcastInDim S1 ![] bcast_S_S1 : (⟨S_, .f32⟩ : BufTy).Contents (Elt F) → (⟨S1, .f32⟩ : BufTy).Contents (Elt F)),
    binary main_v37 main_v36 main_v38 (addf : (⟨S1, .f32⟩ : BufTy).Contents (Elt F) → (⟨S1, .f32⟩ : BufTy).Contents (Elt F) → (⟨S1, .f32⟩ : BufTy).Contents (Elt F)),
    nullary main_cst_6 (constant S_ .f32 0x3F800000#32),
    unary main_cst_6 main_v39 (broadcastInDim S1 ![] bcast_S_S1 : (⟨S_, .f32⟩ : BufTy).Contents (Elt F) → (⟨S1, .f32⟩ : BufTy).Contents (Elt F)),
    binary main_v39 main_v38 main_v40 (Host.divf : (⟨S1, .f32⟩ : BufTy).Contents (Elt F) → (⟨S1, .f32⟩ : BufTy).Contents (Elt F) → (⟨S1, .f32⟩ : BufTy).Contents (Elt F)),
    unary main_v40 main_v41 (broadcastInDim S1x1 ![1] bcast_S1_S1x1_1 : (⟨S1, .f32⟩ : BufTy).Contents (Elt F) → (⟨S1x1, .f32⟩ : BufTy).Contents (Elt F)),
    unary main_v41 main_v42 (broadcastInDim S16384x1024 ![0, 1] bcast_S1x1_S16384x1024_0_1 : (⟨S1x1, .f32⟩ : BufTy).Contents (Elt F) → (⟨S16384x1024, .f32⟩ : BufTy).Contents (Elt F)),
    binary main_v42 main_arg5 main_v43 (mulf : (⟨S16384x1024, .f32⟩ : BufTy).Contents (Elt F) → (⟨S16384x1024, .f32⟩ : BufTy).Contents (Elt F) → (⟨S16384x1024, .f32⟩ : BufTy).Contents (Elt F)),
    nullary main_cst_7 (constant S_ .f32 0x3F800000#32),
    unary main_cst_7 main_v44 (broadcastInDim S1 ![] bcast_S_S1 : (⟨S_, .f32⟩ : BufTy).Contents (Elt F) → (⟨S1, .f32⟩ : BufTy).Contents (Elt F)),
    binary main_v44 main_v40 main_v45 (subf : (⟨S1, .f32⟩ : BufTy).Contents (Elt F) → (⟨S1, .f32⟩ : BufTy).Contents (Elt F) → (⟨S1, .f32⟩ : BufTy).Contents (Elt F)),
    unary main_v45 main_v46 (broadcastInDim S1x1 ![1] bcast_S1_S1x1_1 : (⟨S1, .f32⟩ : BufTy).Contents (Elt F) → (⟨S1x1, .f32⟩ : BufTy).Contents (Elt F)),
    unary main_v46 main_v47 (broadcastInDim S16384x1024 ![0, 1] bcast_S1x1_S16384x1024_0_1 : (⟨S1x1, .f32⟩ : BufTy).Contents (Elt F) → (⟨S16384x1024, .f32⟩ : BufTy).Contents (Elt F)),
    binary main_v43 main_v47 main_v48 (addf : (⟨S16384x1024, .f32⟩ : BufTy).Contents (Elt F) → (⟨S16384x1024, .f32⟩ : BufTy).Contents (Elt F) → (⟨S16384x1024, .f32⟩ : BufTy).Contents (Elt F)),
    binary main_v48 main_arg4 main_v49 (addf : (⟨S16384x1024, .f32⟩ : BufTy).Contents (Elt F) → (⟨S16384x1024, .f32⟩ : BufTy).Contents (Elt F) → (⟨S16384x1024, .f32⟩ : BufTy).Contents (Elt F)) ]

/-- The operations of stage C1. -/
abbrev opsC1 : List (HloOp τ sig (Elt F)) :=
  [ binary main_v34 main_v34 main_v50 (mulf : (⟨S1024x64, .f32⟩ : BufTy).Contents (Elt F) → (⟨S1024x64, .f32⟩ : BufTy).Contents (Elt F) → (⟨S1024x64, .f32⟩ : BufTy).Contents (Elt F)) ]

/-- The operations of stage C2. -/
abbrev opsC2 : List (HloOp τ sig (Elt F)) :=
  [ nullary main_cst_8 (constant S_ .f32 0x00000000#32),
    binary main_v50 main_cst_8 main_v51 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v51 main_v52 (broadcastInDim S1024x1 ![0] bcast_S1024_S1024x1_0 : (⟨S1024, .f32⟩ : BufTy).Contents (Elt F) → (⟨S1024x1, .f32⟩ : BufTy).Contents (Elt F)),
    nullary main_cst_9 (constant S_ .f32 0x2B8CBCCC#32),
    unary main_cst_9 main_v53 (broadcastInDim S1024x1 ![] bcast_S_S1024x1 : (⟨S_, .f32⟩ : BufTy).Contents (Elt F) → (⟨S1024x1, .f32⟩ : BufTy).Contents (Elt F)),
    binary main_v52 main_v53 main_v54 (maximumf : (⟨S1024x1, .f32⟩ : BufTy).Contents (Elt F) → (⟨S1024x1, .f32⟩ : BufTy).Contents (Elt F) → (⟨S1024x1, .f32⟩ : BufTy).Contents (Elt F)),
    unary main_v54 main_v55 (Host.sqrt : (⟨S1024x1, .f32⟩ : BufTy).Contents (Elt F) → (⟨S1024x1, .f32⟩ : BufTy).Contents (Elt F)),
    unary main_v55 main_v56 (broadcastInDim S1024x64 ![0, 1] bcast_S1024x1_S1024x64_0_1 : (⟨S1024x1, .f32⟩ : BufTy).Contents (Elt F) → (⟨S1024x64, .f32⟩ : BufTy).Contents (Elt F)),
    binary main_v34 main_v56 main_v57 (Host.divf : (⟨S1024x64, .f32⟩ : BufTy).Contents (Elt F) → (⟨S1024x64, .f32⟩ : BufTy).Contents (Elt F) → (⟨S1024x64, .f32⟩ : BufTy).Contents (Elt F)),
    binary main_arg2 main_arg2 main_v58 (mulf : (⟨S16384x64, .f32⟩ : BufTy).Contents (Elt F) → (⟨S16384x64, .f32⟩ : BufTy).Contents (Elt F) → (⟨S16384x64, .f32⟩ : BufTy).Contents (Elt F)),
    nullary main_cst_10 (constant S_ .f32 0x00000000#32),
    binary main_v58 main_cst_10 main_v59 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v59 main_v60 (broadcastInDim S16384x1 ![0] bcast_S16384_S16384x1_0 : (⟨S16384, .f32⟩ : BufTy).Contents (Elt F) → (⟨S16384x1, .f32⟩ : BufTy).Contents (Elt F)),
    nullary main_cst_11 (constant S_ .f32 0x2B8CBCCC#32),
    unary main_cst_11 main_v61 (broadcastInDim S16384x1 ![] bcast_S_S16384x1 : (⟨S_, .f32⟩ : BufTy).Contents (Elt F) → (⟨S16384x1, .f32⟩ : BufTy).Contents (Elt F)),
    binary main_v60 main_v61 main_v62 (maximumf : (⟨S16384x1, .f32⟩ : BufTy).Contents (Elt F) → (⟨S16384x1, .f32⟩ : BufTy).Contents (Elt F) → (⟨S16384x1, .f32⟩ : BufTy).Contents (Elt F)),
    unary main_v62 main_v63 (Host.sqrt : (⟨S16384x1, .f32⟩ : BufTy).Contents (Elt F) → (⟨S16384x1, .f32⟩ : BufTy).Contents (Elt F)),
    unary main_v63 main_v64 (broadcastInDim S16384x64 ![0, 1] bcast_S16384x1_S16384x64_0_1 : (⟨S16384x1, .f32⟩ : BufTy).Contents (Elt F) → (⟨S16384x64, .f32⟩ : BufTy).Contents (Elt F)),
    binary main_arg2 main_v64 main_v65 (Host.divf : (⟨S16384x64, .f32⟩ : BufTy).Contents (Elt F) → (⟨S16384x64, .f32⟩ : BufTy).Contents (Elt F) → (⟨S16384x64, .f32⟩ : BufTy).Contents (Elt F)),
    unary main_v65 main_v66 ((transpose S64x16384 [1, 0] · transposes_S16384x64_S64x16384_1_0) : (⟨S16384x64, .f32⟩ : BufTy).Contents (Elt F) → (⟨S64x16384, .f32⟩ : BufTy).Contents (Elt F)),
    binary main_v57 main_v66 main_v67 ((fun l r => Host.dotGeneral dot_S1024x64_S64x16384_S1024x16384_1_0_0_1_n_n none l r) : (⟨S1024x64, .f32⟩ : BufTy).Contents (Elt F) → (⟨S64x16384, .f32⟩ : BufTy).Contents (Elt F) → (⟨S1024x16384, .f32⟩ : BufTy).Contents (Elt F)),
    unary main_v67 main_v68 ((transpose S16384x1024 [1, 0] · transposes_S1024x16384_S16384x1024_1_0) : (⟨S1024x16384, .f32⟩ : BufTy).Contents (Elt F) → (⟨S16384x1024, .f32⟩ : BufTy).Contents (Elt F)),
    nullary main_cst_12 (constant S_ .f32 0xFF800000#32),
    binary main_v68 main_cst_12 main_v69 ((fun x v => Host.reduce FloatOps.maximumf x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    nullary main_cst_13 (constant S_ .f32 0xFF800000#32),
    unary main_cst_13 main_v70 (broadcastInDim S16384 ![] bcast_S_S16384 : (⟨S_, .f32⟩ : BufTy).Contents (Elt F) → (⟨S16384, .f32⟩ : BufTy).Contents (Elt F)),
    binary main_v70 main_v69 main_v71 (maximumf : (⟨S16384, .f32⟩ : BufTy).Contents (Elt F) → (⟨S16384, .f32⟩ : BufTy).Contents (Elt F) → (⟨S16384, .f32⟩ : BufTy).Contents (Elt F)),
    unary main_v71 main_v72 (broadcastInDim S16384x1 ![0] bcast_S16384_S16384x1_0 : (⟨S16384, .f32⟩ : BufTy).Contents (Elt F) → (⟨S16384x1, .f32⟩ : BufTy).Contents (Elt F)),
    unary main_v72 main_v73 (broadcastInDim S16384x1024 ![0, 1] bcast_S16384x1_S16384x1024_0_1 : (⟨S16384x1, .f32⟩ : BufTy).Contents (Elt F) → (⟨S16384x1024, .f32⟩ : BufTy).Contents (Elt F)),
    binary main_v68 main_v73 main_v74 (subf : (⟨S16384x1024, .f32⟩ : BufTy).Contents (Elt F) → (⟨S16384x1024, .f32⟩ : BufTy).Contents (Elt F) → (⟨S16384x1024, .f32⟩ : BufTy).Contents (Elt F)),
    unary main_v74 main_v75 (Host.exp : (⟨S16384x1024, .f32⟩ : BufTy).Contents (Elt F) → (⟨S16384x1024, .f32⟩ : BufTy).Contents (Elt F)),
    nullary main_cst_14 (constant S_ .f32 0x00000000#32),
    binary main_v75 main_cst_14 main_v76 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v76 main_v77 (broadcastInDim S16384x1 ![0] bcast_S16384_S16384x1_0 : (⟨S16384, .f32⟩ : BufTy).Contents (Elt F) → (⟨S16384x1, .f32⟩ : BufTy).Contents (Elt F)),
    unary main_v77 main_v78 (broadcastInDim S16384x1024 ![0, 1] bcast_S16384x1_S16384x1024_0_1 : (⟨S16384x1, .f32⟩ : BufTy).Contents (Elt F) → (⟨S16384x1024, .f32⟩ : BufTy).Contents (Elt F)),
    binary main_v75 main_v78 main_v79 (Host.divf : (⟨S16384x1024, .f32⟩ : BufTy).Contents (Elt F) → (⟨S16384x1024, .f32⟩ : BufTy).Contents (Elt F) → (⟨S16384x1024, .f32⟩ : BufTy).Contents (Elt F)) ]

/-- The operations of stage D. -/
abbrev opsD : List (HloOp τ sig (Elt F)) :=
  [ unary main_v79 main_v80 ((transpose S1024x16384 [1, 0] · transposes_S16384x1024_S1024x16384_1_0) : (⟨S16384x1024, .f32⟩ : BufTy).Contents (Elt F) → (⟨S1024x16384, .f32⟩ : BufTy).Contents (Elt F)),
    binary main_v80 main_arg2 main_v81 ((fun l r => Host.dotGeneral dot_S1024x16384_S16384x64_S1024x64_1_0_0_1_n_n none l r) : (⟨S1024x16384, .f32⟩ : BufTy).Contents (Elt F) → (⟨S16384x64, .f32⟩ : BufTy).Contents (Elt F) → (⟨S1024x64, .f32⟩ : BufTy).Contents (Elt F)),
    nullary main_cst_15 (constant S_ .f32 0x3F733333#32),
    unary main_cst_15 main_v82 (broadcastInDim S16384x1024 ![] bcast_S_S16384x1024 : (⟨S_, .f32⟩ : BufTy).Contents (Elt F) → (⟨S16384x1024, .f32⟩ : BufTy).Contents (Elt F)),
    binary main_v82 main_arg3 main_v83 (mulf : (⟨S16384x1024, .f32⟩ : BufTy).Contents (Elt F) → (⟨S16384x1024, .f32⟩ : BufTy).Contents (Elt F) → (⟨S16384x1024, .f32⟩ : BufTy).Contents (Elt F)),
    binary main_v83 main_v79 main_v84 (addf : (⟨S16384x1024, .f32⟩ : BufTy).Contents (Elt F) → (⟨S16384x1024, .f32⟩ : BufTy).Contents (Elt F) → (⟨S16384x1024, .f32⟩ : BufTy).Contents (Elt F)),
    binary main_v84 main_v49 main_v85 (addf : (⟨S16384x1024, .f32⟩ : BufTy).Contents (Elt F) → (⟨S16384x1024, .f32⟩ : BufTy).Contents (Elt F) → (⟨S16384x1024, .f32⟩ : BufTy).Contents (Elt F)) ]

/-- The operations of stage E1. -/
abbrev opsE1 : List (HloOp τ sig (Elt F)) :=
  [ unary main_v85 main_v86 ((transpose S1024x16384 [1, 0] · transposes_S16384x1024_S1024x16384_1_0) : (⟨S16384x1024, .f32⟩ : BufTy).Contents (Elt F) → (⟨S1024x16384, .f32⟩ : BufTy).Contents (Elt F)),
    unary main_v86 main_values ((fun x => (Host.topK S1024x16384 1 (FloatOps.cmpfTotal .gt) x sliceFits_S1024x16384_S1024x16384).1) : (⟨S1024x16384, .f32⟩ : BufTy).Contents (Elt F) → (⟨S1024x16384, .f32⟩ : BufTy).Contents (Elt F)),
    unary main_v86 main_indices ((fun x => (Host.topK S1024x16384 1 (FloatOps.cmpfTotal .gt) x sliceFits_S1024x16384_S1024x16384).2) : (⟨S1024x16384, .f32⟩ : BufTy).Contents (Elt F) → (⟨S1024x16384, .i32⟩ : BufTy).Contents (Elt F)),
    unary main_values main_v87 ((transpose S16384x1024 [1, 0] · transposes_S1024x16384_S16384x1024_1_0) : (⟨S1024x16384, .f32⟩ : BufTy).Contents (Elt F) → (⟨S16384x1024, .f32⟩ : BufTy).Contents (Elt F)),
    unary main_v87 main_v88 ((extractStridedSlice S1x1024 ![16383, 0] · slices_S16384x1024_S1x1024_16383_0) : (⟨S16384x1024, .f32⟩ : BufTy).Contents (Elt F) → (⟨S1x1024, .f32⟩ : BufTy).Contents (Elt F)),
    reshape main_v88 main_v89 (rfl : (.f32 : EltTy) = .f32) shapeCasts_S1x1024_S1024,
    nullary main_call0_v0 (iotaInDim S1024 32 0),
    nullary main_call0_cst (constant S_ .f32 0x7F800000#32),
    nullary main_call0_c (constantI S_ 32 0#32),
    quaternary main_v89 main_call0_v0 main_call0_cst main_call0_c main_call0_v1_0 (fun x y u v j => (Host.argReduce reducer_argmin_f32_i32 x y u v reducesTo_S1024_S_d0 h_S_ j).1),
    quaternary main_v89 main_call0_v0 main_call0_cst main_call0_c main_v90 (fun x y u v j => (Host.argReduce reducer_argmin_f32_i32 x y u v reducesTo_S1024_S_d0 h_S_ j).2),
    unary main_v89 main_v91 (broadcastInDim S1024x1 ![0] bcast_S1024_S1024x1_0 : (⟨S1024, .f32⟩ : BufTy).Contents (Elt F) → (⟨S1024x1, .f32⟩ : BufTy).Contents (Elt F)),
    reshape main_v91 main_v92 (rfl : (.f32 : EltTy) = .f32) shapeCasts_S1024x1_S1x1024x1x1,
    unary main_v92 main_v93 (broadcastInDim S1x1024x16384x1 ![0, 1, 2, 3] bcast_S1x1024x1x1_S1x1024x16384x1_0_1_2_3 : (⟨S1x1024x1x1, .f32⟩ : BufTy).Contents (Elt F) → (⟨S1x1024x16384x1, .f32⟩ : BufTy).Contents (Elt F)),
    reshape main_v93 main_v94 (rfl : (.f32 : EltTy) = .f32) shapeCasts_S1x1024x16384x1_S1024x16384,
    unary main_indices main_v95 ((transpose S16384x1024 [1, 0] · transposes_S1024x16384_S16384x1024_1_0) : (⟨S1024x16384, .i32⟩ : BufTy).Contents (Elt F) → (⟨S16384x1024, .i32⟩ : BufTy).Contents (Elt F)),
    unary main_v95 main_v96 ((extractStridedSlice S1x1024 ![16383, 0] · slices_S16384x1024_S1x1024_16383_0) : (⟨S16384x1024, .i32⟩ : BufTy).Contents (Elt F) → (⟨S1x1024, .i32⟩ : BufTy).Contents (Elt F)),
    reshape main_v96 main_v97 (rfl : (.i32 : EltTy) = .i32) shapeCasts_S1x1024_S1024,
    nullary main_c (constantI S_ 32 0#32),
    binary main_v90 main_c main_v98 (cmpi .slt : (⟨S_, .i32⟩ : BufTy).Contents (Elt F) → (⟨S_, .i32⟩ : BufTy).Contents (Elt F) → (⟨S_, .i1⟩ : BufTy).Contents (Elt F)),
    nullary main_c_16 (constantI S_ 32 1024#32) ]

/-- The operations of stage E2. -/
abbrev opsE2 : List (HloOp τ sig (Elt F)) :=
  [ binary main_v90 main_c_16 main_v99 (addi : (⟨S_, .i32⟩ : BufTy).Contents (Elt F) → (⟨S_, .i32⟩ : BufTy).Contents (Elt F) → (⟨S_, .i32⟩ : BufTy).Contents (Elt F)),
    ternary main_v98 main_v99 main_v90 main_v100 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v97 ![main_v100] ⟨S_, .i32⟩ main_v101 ((fun x i => Host.dynamicSlice S1 x (fun k => (i k (Shape.Idx.first h_S_)).toInt) sliceFits_S1024_S1) : (⟨S1024, .i32⟩ : BufTy).Contents (Elt F) → (Fin 1 → (⟨S_, .i32⟩ : BufTy).Contents (Elt F)) → (⟨S1, .i32⟩ : BufTy).Contents (Elt F)),
    reshape main_v101 main_v102 (rfl : (.i32 : EltTy) = .i32) shapeCasts_S1_S_,
    nullary main_c_17 (constantI S_ 32 1#32),
    unary main_c_17 main_v103 (broadcastInDim S1024 ![] bcast_S_S1024 : (⟨S_, .i32⟩ : BufTy).Contents (Elt F) → (⟨S1024, .i32⟩ : BufTy).Contents (Elt F)),
    unary main_v102 main_v104 (broadcastInDim S1024 ![] bcast_S_S1024 : (⟨S_, .i32⟩ : BufTy).Contents (Elt F) → (⟨S1024, .i32⟩ : BufTy).Contents (Elt F)),
    binary main_v103 main_v104 main_v105 (muli : (⟨S1024, .i32⟩ : BufTy).Contents (Elt F) → (⟨S1024, .i32⟩ : BufTy).Contents (Elt F) → (⟨S1024, .i32⟩ : BufTy).Contents (Elt F)),
    unary main_v94 main_v106 ((transpose S16384x1024 [1, 0] · transposes_S1024x16384_S16384x1024_1_0) : (⟨S1024x16384, .f32⟩ : BufTy).Contents (Elt F) → (⟨S16384x1024, .f32⟩ : BufTy).Contents (Elt F)),
    binary main_v85 main_v106 main_v107 (cmpf .ole : (⟨S16384x1024, .f32⟩ : BufTy).Contents (Elt F) → (⟨S16384x1024, .f32⟩ : BufTy).Contents (Elt F) → (⟨S16384x1024, .i1⟩ : BufTy).Contents (Elt F)),
    unary main_v107 main_v108 (uitofp .f32 : (⟨S16384x1024, .i1⟩ : BufTy).Contents (Elt F) → (⟨S16384x1024, .f32⟩ : BufTy).Contents (Elt F)) ]

/-- The operations of stage G. -/
abbrev opsG : List (HloOp τ sig (Elt F)) :=
  [ unary main_v105 main_call1_v0 (broadcastInDim S1024x1 ![0] bcast_S1024_S1024x1_0),
    nullary main_call1_v1 (iotaInDim S1x16384 32 1),
    unary main_call1_v0 main_call1_v2 (broadcastInDim S1024x16384 ![0, 1] bcast_S1024x1_S1024x16384_0_1),
    unary main_call1_v1 main_call1_v3 (broadcastInDim S1024x16384 ![0, 1] bcast_S1x16384_S1024x16384_0_1),
    binary main_call1_v2 main_call1_v3 main_call1_v4 (cmpi .eq),
    unary main_call1_v4 main_v109 (uitofp .f32),
    nullary main_cst_18 (constant S_ .f32 0x3F800000#32),
    unary main_cst_18 main_v110 (broadcastInDim S1024x16384 ![] bcast_S_S1024x16384 : (⟨S_, .f32⟩ : BufTy).Contents (Elt F) → (⟨S1024x16384, .f32⟩ : BufTy).Contents (Elt F)),
    binary main_v110 main_v109 main_v111 (subf : (⟨S1024x16384, .f32⟩ : BufTy).Contents (Elt F) → (⟨S1024x16384, .f32⟩ : BufTy).Contents (Elt F) → (⟨S1024x16384, .f32⟩ : BufTy).Contents (Elt F)),
    unary main_v111 main_v112 ((transpose S16384x1024 [1, 0] · transposes_S1024x16384_S16384x1024_1_0) : (⟨S1024x16384, .f32⟩ : BufTy).Contents (Elt F) → (⟨S16384x1024, .f32⟩ : BufTy).Contents (Elt F)),
    nullary main_cst_19 (constant S_ .f32 0x3F800000#32),
    unary main_cst_19 main_v113 (broadcastInDim S1024x64 ![] bcast_S_S1024x64 : (⟨S_, .f32⟩ : BufTy).Contents (Elt F) → (⟨S1024x64, .f32⟩ : BufTy).Contents (Elt F)),
    binary main_v112 main_v113 main_v114 ((fun l r => Host.dotGeneral dot_S16384x1024_S1024x64_S16384x64_1_0_0_1_n_n none l r) : (⟨S16384x1024, .f32⟩ : BufTy).Contents (Elt F) → (⟨S1024x64, .f32⟩ : BufTy).Contents (Elt F) → (⟨S16384x64, .f32⟩ : BufTy).Contents (Elt F)),
    binary main_v114 main_arg2 main_v115 (mulf : (⟨S16384x64, .f32⟩ : BufTy).Contents (Elt F) → (⟨S16384x64, .f32⟩ : BufTy).Contents (Elt F) → (⟨S16384x64, .f32⟩ : BufTy).Contents (Elt F)),
    binary main_v49 main_v34 main_v116 ((fun l r => Host.dotGeneral dot_S16384x1024_S1024x64_S16384x64_1_0_0_1_n_n none l r) : (⟨S16384x1024, .f32⟩ : BufTy).Contents (Elt F) → (⟨S1024x64, .f32⟩ : BufTy).Contents (Elt F) → (⟨S16384x64, .f32⟩ : BufTy).Contents (Elt F)),
    binary main_v116 main_v115 main_v117 (addf : (⟨S16384x64, .f32⟩ : BufTy).Contents (Elt F) → (⟨S16384x64, .f32⟩ : BufTy).Contents (Elt F) → (⟨S16384x64, .f32⟩ : BufTy).Contents (Elt F)) ]

/-- What `main_v0` holds after stage A. -/
def A_v0 (W : Valuation τ sig (Elt F)) : FVec F S1024x192 .f32 :=
  ((fun a b => concatenate S1024x192 1 [⟨S1024x128, a⟩, ⟨S1024x64, b⟩] concatenates_S1024x128_S1024x64_S1024x192_d1) : (⟨S1024x128, .f32⟩ : BufTy).Contents (Elt F) → (⟨S1024x64, .f32⟩ : BufTy).Contents (Elt F) → (⟨S1024x192, .f32⟩ : BufTy).Contents (Elt F)) (W (Proc.devRef .tc main_arg0)) (W (Proc.devRef .tc main_arg1))

/-- What `main_v1` holds after stage A. -/
def A_v1 (W : Valuation τ sig (Elt F)) : FVec F S1024x256 .f32 :=
  ((fun l r => Host.dotGeneral dot_S1024x192_S192x256_S1024x256_1_0_0_1_n_n none l r) : (⟨S1024x192, .f32⟩ : BufTy).Contents (Elt F) → (⟨S192x256, .f32⟩ : BufTy).Contents (Elt F) → (⟨S1024x256, .f32⟩ : BufTy).Contents (Elt F)) (A_v0 W) (W (Proc.devRef .tc main_arg9))

/-- What `main_v2` holds after stage A. -/
def A_v2 (W : Valuation τ sig (Elt F)) : FVec F S1024x256 .f32 :=
  ((fun l r => Host.dotGeneral dot_S1024x64_S64x256_S1024x256_1_0_0_1_n_n none l r) : (⟨S1024x64, .f32⟩ : BufTy).Contents (Elt F) → (⟨S64x256, .f32⟩ : BufTy).Contents (Elt F) → (⟨S1024x256, .f32⟩ : BufTy).Contents (Elt F)) (W (Proc.devRef .tc main_arg6)) (W (Proc.devRef .tc main_arg10))

/-- What `main_v3` holds after stage A. -/
def A_v3 (W : Valuation τ sig (Elt F)) : FVec F S1024x256 .f32 :=
  (addf : (⟨S1024x256, .f32⟩ : BufTy).Contents (Elt F) → (⟨S1024x256, .f32⟩ : BufTy).Contents (Elt F) → (⟨S1024x256, .f32⟩ : BufTy).Contents (Elt F)) (A_v1 W) (A_v2 W)

/-- What `main_v4` holds after stage A. -/
def A_v4 (W : Valuation τ sig (Elt F)) : FVec F S1x256 .f32 :=
  (broadcastInDim S1x256 ![1] bcast_S256_S1x256_1 : (⟨S256, .f32⟩ : BufTy).Contents (Elt F) → (⟨S1x256, .f32⟩ : BufTy).Contents (Elt F)) (W (Proc.devRef .tc main_arg11))

/-- What `main_v5` holds after stage A. -/
def A_v5 (W : Valuation τ sig (Elt F)) : FVec F S1024x256 .f32 :=
  (broadcastInDim S1024x256 ![0, 1] bcast_S1x256_S1024x256_0_1 : (⟨S1x256, .f32⟩ : BufTy).Contents (Elt F) → (⟨S1024x256, .f32⟩ : BufTy).Contents (Elt F)) (A_v4 W)

/-- What `main_v6` holds after stage A. -/
def A_v6 (W : Valuation τ sig (Elt F)) : FVec F S1024x256 .f32 :=
  (addf : (⟨S1024x256, .f32⟩ : BufTy).Contents (Elt F) → (⟨S1024x256, .f32⟩ : BufTy).Contents (Elt F) → (⟨S1024x256, .f32⟩ : BufTy).Contents (Elt F)) (A_v3 W) (A_v5 W)

/-- What `main_v7` holds after stage A. -/
def A_v7 (W : Valuation τ sig (Elt F)) : FVec F S1024x64 .f32 :=
  ((extractStridedSlice S1024x64 ![0, 0] · slices_S1024x256_S1024x64_0_0) : (⟨S1024x256, .f32⟩ : BufTy).Contents (Elt F) → (⟨S1024x64, .f32⟩ : BufTy).Contents (Elt F)) (A_v6 W)

/-- What `main_v8` holds after stage A. -/
def A_v8 (W : Valuation τ sig (Elt F)) : FVec F S1024x64 .f32 :=
  ((extractStridedSlice S1024x64 ![0, 64] · slices_S1024x256_S1024x64_0_64) : (⟨S1024x256, .f32⟩ : BufTy).Contents (Elt F) → (⟨S1024x64, .f32⟩ : BufTy).Contents (Elt F)) (A_v6 W)

/-- What `main_v9` holds after stage A. -/
def A_v9 (W : Valuation τ sig (Elt F)) : FVec F S1024x64 .f32 :=
  ((extractStridedSlice S1024x64 ![0, 128] · slices_S1024x256_S1024x64_0_128) : (⟨S1024x256, .f32⟩ : BufTy).Contents (Elt F) → (⟨S1024x64, .f32⟩ : BufTy).Contents (Elt F)) (A_v6 W)

/-- What `main_v10` holds after stage A. -/
def A_v10 (W : Valuation τ sig (Elt F)) : FVec F S1024x64 .f32 :=
  ((extractStridedSlice S1024x64 ![0, 192] · slices_S1024x256_S1024x64_0_192) : (⟨S1024x256, .f32⟩ : BufTy).Contents (Elt F) → (⟨S1024x64, .f32⟩ : BufTy).Contents (Elt F)) (A_v6 W)

/-- What `main_v11` holds after stage A. -/
def A_v11 (W : Valuation τ sig (Elt F)) : FVec F S1024x64 .f32 :=
  (Host.negf : (⟨S1024x64, .f32⟩ : BufTy).Contents (Elt F) → (⟨S1024x64, .f32⟩ : BufTy).Contents (Elt F)) (A_v7 W)

/-- What `main_v12` holds after stage A. -/
def A_v12 (W : Valuation τ sig (Elt F)) : FVec F S1024x64 .f32 :=
  (Host.exp : (⟨S1024x64, .f32⟩ : BufTy).Contents (Elt F) → (⟨S1024x64, .f32⟩ : BufTy).Contents (Elt F)) (A_v11 W)

/-- What `main_cst` holds after stage A. -/
def A_cst (W : Valuation τ sig (Elt F)) : FVec F S_ .f32 :=
  (constant S_ .f32 0x3F800000#32)

/-- What `main_v13` holds after stage A. -/
def A_v13 (W : Valuation τ sig (Elt F)) : FVec F S1024x64 .f32 :=
  (broadcastInDim S1024x64 ![] bcast_S_S1024x64 : (⟨S_, .f32⟩ : BufTy).Contents (Elt F) → (⟨S1024x64, .f32⟩ : BufTy).Contents (Elt F)) (A_cst W)

/-- What `main_v14` holds after stage A. -/
def A_v14 (W : Valuation τ sig (Elt F)) : FVec F S1024x64 .f32 :=
  (addf : (⟨S1024x64, .f32⟩ : BufTy).Contents (Elt F) → (⟨S1024x64, .f32⟩ : BufTy).Contents (Elt F) → (⟨S1024x64, .f32⟩ : BufTy).Contents (Elt F)) (A_v13 W) (A_v12 W)

/-- What `main_cst_0` holds after stage A. -/
def A_cst_0 (W : Valuation τ sig (Elt F)) : FVec F S_ .f32 :=
  (constant S_ .f32 0x3F800000#32)

/-- What `main_v15` holds after stage A. -/
def A_v15 (W : Valuation τ sig (Elt F)) : FVec F S1024x64 .f32 :=
  (broadcastInDim S1024x64 ![] bcast_S_S1024x64 : (⟨S_, .f32⟩ : BufTy).Contents (Elt F) → (⟨S1024x64, .f32⟩ : BufTy).Contents (Elt F)) (A_cst_0 W)

/-- What `main_v16` holds after stage A. -/
def A_v16 (W : Valuation τ sig (Elt F)) : FVec F S1024x64 .f32 :=
  (Host.divf : (⟨S1024x64, .f32⟩ : BufTy).Contents (Elt F) → (⟨S1024x64, .f32⟩ : BufTy).Contents (Elt F) → (⟨S1024x64, .f32⟩ : BufTy).Contents (Elt F)) (A_v15 W) (A_v14 W)

/-- What `main_v17` holds after stage A. -/
def A_v17 (W : Valuation τ sig (Elt F)) : FVec F S1024x64 .f32 :=
  (Host.negf : (⟨S1024x64, .f32⟩ : BufTy).Contents (Elt F) → (⟨S1024x64, .f32⟩ : BufTy).Contents (Elt F)) (A_v8 W)

/-- What `main_v18` holds after stage A. -/
def A_v18 (W : Valuation τ sig (Elt F)) : FVec F S1024x64 .f32 :=
  (Host.exp : (⟨S1024x64, .f32⟩ : BufTy).Contents (Elt F) → (⟨S1024x64, .f32⟩ : BufTy).Contents (Elt F)) (A_v17 W)

/-- What `main_cst_1` holds after stage A. -/
def A_cst_1 (W : Valuation τ sig (Elt F)) : FVec F S_ .f32 :=
  (constant S_ .f32 0x3F800000#32)

/-- What `main_v19` holds after stage A. -/
def A_v19 (W : Valuation τ sig (Elt F)) : FVec F S1024x64 .f32 :=
  (broadcastInDim S1024x64 ![] bcast_S_S1024x64 : (⟨S_, .f32⟩ : BufTy).Contents (Elt F) → (⟨S1024x64, .f32⟩ : BufTy).Contents (Elt F)) (A_cst_1 W)

/-- What `main_v20` holds after stage A. -/
def A_v20 (W : Valuation τ sig (Elt F)) : FVec F S1024x64 .f32 :=
  (addf : (⟨S1024x64, .f32⟩ : BufTy).Contents (Elt F) → (⟨S1024x64, .f32⟩ : BufTy).Contents (Elt F) → (⟨S1024x64, .f32⟩ : BufTy).Contents (Elt F)) (A_v19 W) (A_v18 W)

/-- What `main_cst_2` holds after stage A. -/
def A_cst_2 (W : Valuation τ sig (Elt F)) : FVec F S_ .f32 :=
  (constant S_ .f32 0x3F800000#32)

/-- What `main_v21` holds after stage A. -/
def A_v21 (W : Valuation τ sig (Elt F)) : FVec F S1024x64 .f32 :=
  (broadcastInDim S1024x64 ![] bcast_S_S1024x64 : (⟨S_, .f32⟩ : BufTy).Contents (Elt F) → (⟨S1024x64, .f32⟩ : BufTy).Contents (Elt F)) (A_cst_2 W)

/-- What `main_v22` holds after stage A. -/
def A_v22 (W : Valuation τ sig (Elt F)) : FVec F S1024x64 .f32 :=
  (Host.divf : (⟨S1024x64, .f32⟩ : BufTy).Contents (Elt F) → (⟨S1024x64, .f32⟩ : BufTy).Contents (Elt F) → (⟨S1024x64, .f32⟩ : BufTy).Contents (Elt F)) (A_v21 W) (A_v20 W)

/-- What `main_v23` holds after stage A. -/
def A_v23 (W : Valuation τ sig (Elt F)) : FVec F S1024x64 .f32 :=
  (mulf : (⟨S1024x64, .f32⟩ : BufTy).Contents (Elt F) → (⟨S1024x64, .f32⟩ : BufTy).Contents (Elt F) → (⟨S1024x64, .f32⟩ : BufTy).Contents (Elt F)) (A_v22 W) (W (Proc.devRef .tc main_arg7))

/-- What `main_v24` holds after stage A. -/
def A_v24 (W : Valuation τ sig (Elt F)) : FVec F S1024x64 .f32 :=
  (Host.tanh : (⟨S1024x64, .f32⟩ : BufTy).Contents (Elt F) → (⟨S1024x64, .f32⟩ : BufTy).Contents (Elt F)) (A_v9 W)

/-- What `main_v25` holds after stage A. -/
def A_v25 (W : Valuation τ sig (Elt F)) : FVec F S1024x64 .f32 :=
  (mulf : (⟨S1024x64, .f32⟩ : BufTy).Contents (Elt F) → (⟨S1024x64, .f32⟩ : BufTy).Contents (Elt F) → (⟨S1024x64, .f32⟩ : BufTy).Contents (Elt F)) (A_v16 W) (A_v24 W)

/-- What `main_v26` holds after stage A. -/
def A_v26 (W : Valuation τ sig (Elt F)) : FVec F S1024x64 .f32 :=
  (addf : (⟨S1024x64, .f32⟩ : BufTy).Contents (Elt F) → (⟨S1024x64, .f32⟩ : BufTy).Contents (Elt F) → (⟨S1024x64, .f32⟩ : BufTy).Contents (Elt F)) (A_v23 W) (A_v25 W)

/-- What `main_v27` holds after stage A. -/
def A_v27 (W : Valuation τ sig (Elt F)) : FVec F S1024x64 .f32 :=
  (Host.negf : (⟨S1024x64, .f32⟩ : BufTy).Contents (Elt F) → (⟨S1024x64, .f32⟩ : BufTy).Contents (Elt F)) (A_v10 W)

/-- What `main_v28` holds after stage A. -/
def A_v28 (W : Valuation τ sig (Elt F)) : FVec F S1024x64 .f32 :=
  (Host.exp : (⟨S1024x64, .f32⟩ : BufTy).Contents (Elt F) → (⟨S1024x64, .f32⟩ : BufTy).Contents (Elt F)) (A_v27 W)

/-- What `main_cst_3` holds after stage A. -/
def A_cst_3 (W : Valuation τ sig (Elt F)) : FVec F S_ .f32 :=
  (constant S_ .f32 0x3F800000#32)

/-- What `main_v29` holds after stage A. -/
def A_v29 (W : Valuation τ sig (Elt F)) : FVec F S1024x64 .f32 :=
  (broadcastInDim S1024x64 ![] bcast_S_S1024x64 : (⟨S_, .f32⟩ : BufTy).Contents (Elt F) → (⟨S1024x64, .f32⟩ : BufTy).Contents (Elt F)) (A_cst_3 W)

/-- What `main_v30` holds after stage A. -/
def A_v30 (W : Valuation τ sig (Elt F)) : FVec F S1024x64 .f32 :=
  (addf : (⟨S1024x64, .f32⟩ : BufTy).Contents (Elt F) → (⟨S1024x64, .f32⟩ : BufTy).Contents (Elt F) → (⟨S1024x64, .f32⟩ : BufTy).Contents (Elt F)) (A_v29 W) (A_v28 W)

/-- What `main_cst_4` holds after stage A. -/
def A_cst_4 (W : Valuation τ sig (Elt F)) : FVec F S_ .f32 :=
  (constant S_ .f32 0x3F800000#32)

/-- What `main_v31` holds after stage A. -/
def A_v31 (W : Valuation τ sig (Elt F)) : FVec F S1024x64 .f32 :=
  (broadcastInDim S1024x64 ![] bcast_S_S1024x64 : (⟨S_, .f32⟩ : BufTy).Contents (Elt F) → (⟨S1024x64, .f32⟩ : BufTy).Contents (Elt F)) (A_cst_4 W)

/-- What `main_v32` holds after stage A. -/
def A_v32 (W : Valuation τ sig (Elt F)) : FVec F S1024x64 .f32 :=
  (Host.divf : (⟨S1024x64, .f32⟩ : BufTy).Contents (Elt F) → (⟨S1024x64, .f32⟩ : BufTy).Contents (Elt F) → (⟨S1024x64, .f32⟩ : BufTy).Contents (Elt F)) (A_v31 W) (A_v30 W)

/-- What `main_v33` holds after stage A. -/
def A_v33 (W : Valuation τ sig (Elt F)) : FVec F S1024x64 .f32 :=
  (Host.tanh : (⟨S1024x64, .f32⟩ : BufTy).Contents (Elt F) → (⟨S1024x64, .f32⟩ : BufTy).Contents (Elt F)) (A_v26 W)

/-- What `main_v34` holds after stage A. -/
def A_v34 (W : Valuation τ sig (Elt F)) : FVec F S1024x64 .f32 :=
  (mulf : (⟨S1024x64, .f32⟩ : BufTy).Contents (Elt F) → (⟨S1024x64, .f32⟩ : BufTy).Contents (Elt F) → (⟨S1024x64, .f32⟩ : BufTy).Contents (Elt F)) (A_v32 W) (A_v33 W)

/-- What `main_v35` holds after stage B. -/
def B_v35 (W : Valuation τ sig (Elt F)) : FVec F S1 .f32 :=
  (Host.negf : (⟨S1, .f32⟩ : BufTy).Contents (Elt F) → (⟨S1, .f32⟩ : BufTy).Contents (Elt F)) (W (Proc.devRef .tc main_arg8))

/-- What `main_v36` holds after stage B. -/
def B_v36 (W : Valuation τ sig (Elt F)) : FVec F S1 .f32 :=
  (Host.exp : (⟨S1, .f32⟩ : BufTy).Contents (Elt F) → (⟨S1, .f32⟩ : BufTy).Contents (Elt F)) (B_v35 W)

/-- What `main_cst_5` holds after stage B. -/
def B_cst_5 (W : Valuation τ sig (Elt F)) : FVec F S_ .f32 :=
  (constant S_ .f32 0x3F800000#32)

/-- What `main_v37` holds after stage B. -/
def B_v37 (W : Valuation τ sig (Elt F)) : FVec F S1 .f32 :=
  (broadcastInDim S1 ![] bcast_S_S1 : (⟨S_, .f32⟩ : BufTy).Contents (Elt F) → (⟨S1, .f32⟩ : BufTy).Contents (Elt F)) (B_cst_5 W)

/-- What `main_v38` holds after stage B. -/
def B_v38 (W : Valuation τ sig (Elt F)) : FVec F S1 .f32 :=
  (addf : (⟨S1, .f32⟩ : BufTy).Contents (Elt F) → (⟨S1, .f32⟩ : BufTy).Contents (Elt F) → (⟨S1, .f32⟩ : BufTy).Contents (Elt F)) (B_v37 W) (B_v36 W)

/-- What `main_cst_6` holds after stage B. -/
def B_cst_6 (W : Valuation τ sig (Elt F)) : FVec F S_ .f32 :=
  (constant S_ .f32 0x3F800000#32)

/-- What `main_v39` holds after stage B. -/
def B_v39 (W : Valuation τ sig (Elt F)) : FVec F S1 .f32 :=
  (broadcastInDim S1 ![] bcast_S_S1 : (⟨S_, .f32⟩ : BufTy).Contents (Elt F) → (⟨S1, .f32⟩ : BufTy).Contents (Elt F)) (B_cst_6 W)

/-- What `main_v40` holds after stage B. -/
def B_v40 (W : Valuation τ sig (Elt F)) : FVec F S1 .f32 :=
  (Host.divf : (⟨S1, .f32⟩ : BufTy).Contents (Elt F) → (⟨S1, .f32⟩ : BufTy).Contents (Elt F) → (⟨S1, .f32⟩ : BufTy).Contents (Elt F)) (B_v39 W) (B_v38 W)

/-- What `main_v41` holds after stage B. -/
def B_v41 (W : Valuation τ sig (Elt F)) : FVec F S1x1 .f32 :=
  (broadcastInDim S1x1 ![1] bcast_S1_S1x1_1 : (⟨S1, .f32⟩ : BufTy).Contents (Elt F) → (⟨S1x1, .f32⟩ : BufTy).Contents (Elt F)) (B_v40 W)

/-- What `main_v42` holds after stage B. -/
def B_v42 (W : Valuation τ sig (Elt F)) : FVec F S16384x1024 .f32 :=
  (broadcastInDim S16384x1024 ![0, 1] bcast_S1x1_S16384x1024_0_1 : (⟨S1x1, .f32⟩ : BufTy).Contents (Elt F) → (⟨S16384x1024, .f32⟩ : BufTy).Contents (Elt F)) (B_v41 W)

/-- What `main_v43` holds after stage B. -/
def B_v43 (W : Valuation τ sig (Elt F)) : FVec F S16384x1024 .f32 :=
  (mulf : (⟨S16384x1024, .f32⟩ : BufTy).Contents (Elt F) → (⟨S16384x1024, .f32⟩ : BufTy).Contents (Elt F) → (⟨S16384x1024, .f32⟩ : BufTy).Contents (Elt F)) (B_v42 W) (W (Proc.devRef .tc main_arg5))

/-- What `main_cst_7` holds after stage B. -/
def B_cst_7 (W : Valuation τ sig (Elt F)) : FVec F S_ .f32 :=
  (constant S_ .f32 0x3F800000#32)

/-- What `main_v44` holds after stage B. -/
def B_v44 (W : Valuation τ sig (Elt F)) : FVec F S1 .f32 :=
  (broadcastInDim S1 ![] bcast_S_S1 : (⟨S_, .f32⟩ : BufTy).Contents (Elt F) → (⟨S1, .f32⟩ : BufTy).Contents (Elt F)) (B_cst_7 W)

/-- What `main_v45` holds after stage B. -/
def B_v45 (W : Valuation τ sig (Elt F)) : FVec F S1 .f32 :=
  (subf : (⟨S1, .f32⟩ : BufTy).Contents (Elt F) → (⟨S1, .f32⟩ : BufTy).Contents (Elt F) → (⟨S1, .f32⟩ : BufTy).Contents (Elt F)) (B_v44 W) (B_v40 W)

/-- What `main_v46` holds after stage B. -/
def B_v46 (W : Valuation τ sig (Elt F)) : FVec F S1x1 .f32 :=
  (broadcastInDim S1x1 ![1] bcast_S1_S1x1_1 : (⟨S1, .f32⟩ : BufTy).Contents (Elt F) → (⟨S1x1, .f32⟩ : BufTy).Contents (Elt F)) (B_v45 W)

/-- What `main_v47` holds after stage B. -/
def B_v47 (W : Valuation τ sig (Elt F)) : FVec F S16384x1024 .f32 :=
  (broadcastInDim S16384x1024 ![0, 1] bcast_S1x1_S16384x1024_0_1 : (⟨S1x1, .f32⟩ : BufTy).Contents (Elt F) → (⟨S16384x1024, .f32⟩ : BufTy).Contents (Elt F)) (B_v46 W)

/-- What `main_v48` holds after stage B. -/
def B_v48 (W : Valuation τ sig (Elt F)) : FVec F S16384x1024 .f32 :=
  (addf : (⟨S16384x1024, .f32⟩ : BufTy).Contents (Elt F) → (⟨S16384x1024, .f32⟩ : BufTy).Contents (Elt F) → (⟨S16384x1024, .f32⟩ : BufTy).Contents (Elt F)) (B_v43 W) (B_v47 W)

/-- What `main_v49` holds after stage B. -/
def B_v49 (W : Valuation τ sig (Elt F)) : FVec F S16384x1024 .f32 :=
  (addf : (⟨S16384x1024, .f32⟩ : BufTy).Contents (Elt F) → (⟨S16384x1024, .f32⟩ : BufTy).Contents (Elt F) → (⟨S16384x1024, .f32⟩ : BufTy).Contents (Elt F)) (B_v48 W) (W (Proc.devRef .tc main_arg4))

/-- What `main_v50` holds after stage C. -/
def C_v50 (W : Valuation τ sig (Elt F)) : FVec F S1024x64 .f32 :=
  (mulf : (⟨S1024x64, .f32⟩ : BufTy).Contents (Elt F) → (⟨S1024x64, .f32⟩ : BufTy).Contents (Elt F) → (⟨S1024x64, .f32⟩ : BufTy).Contents (Elt F)) (W (Proc.devRef .tc main_v34)) (W (Proc.devRef .tc main_v34))

/-- What `main_cst_8` holds after stage C. -/
def C_cst_8 (W : Valuation τ sig (Elt F)) : FVec F S_ .f32 :=
  (constant S_ .f32 0x00000000#32)

/-- What `main_v51` holds after stage C. -/
def C_v51 (W : Valuation τ sig (Elt F)) : FVec F S1024 .f32 :=
  ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)) (C_v50 W) (C_cst_8 W)

/-- What `main_v52` holds after stage C. -/
def C_v52 (W : Valuation τ sig (Elt F)) : FVec F S1024x1 .f32 :=
  (broadcastInDim S1024x1 ![0] bcast_S1024_S1024x1_0 : (⟨S1024, .f32⟩ : BufTy).Contents (Elt F) → (⟨S1024x1, .f32⟩ : BufTy).Contents (Elt F)) (C_v51 W)

/-- What `main_cst_9` holds after stage C. -/
def C_cst_9 (W : Valuation τ sig (Elt F)) : FVec F S_ .f32 :=
  (constant S_ .f32 0x2B8CBCCC#32)

/-- What `main_v53` holds after stage C. -/
def C_v53 (W : Valuation τ sig (Elt F)) : FVec F S1024x1 .f32 :=
  (broadcastInDim S1024x1 ![] bcast_S_S1024x1 : (⟨S_, .f32⟩ : BufTy).Contents (Elt F) → (⟨S1024x1, .f32⟩ : BufTy).Contents (Elt F)) (C_cst_9 W)

/-- What `main_v54` holds after stage C. -/
def C_v54 (W : Valuation τ sig (Elt F)) : FVec F S1024x1 .f32 :=
  (maximumf : (⟨S1024x1, .f32⟩ : BufTy).Contents (Elt F) → (⟨S1024x1, .f32⟩ : BufTy).Contents (Elt F) → (⟨S1024x1, .f32⟩ : BufTy).Contents (Elt F)) (C_v52 W) (C_v53 W)

/-- What `main_v55` holds after stage C. -/
def C_v55 (W : Valuation τ sig (Elt F)) : FVec F S1024x1 .f32 :=
  (Host.sqrt : (⟨S1024x1, .f32⟩ : BufTy).Contents (Elt F) → (⟨S1024x1, .f32⟩ : BufTy).Contents (Elt F)) (C_v54 W)

/-- What `main_v56` holds after stage C. -/
def C_v56 (W : Valuation τ sig (Elt F)) : FVec F S1024x64 .f32 :=
  (broadcastInDim S1024x64 ![0, 1] bcast_S1024x1_S1024x64_0_1 : (⟨S1024x1, .f32⟩ : BufTy).Contents (Elt F) → (⟨S1024x64, .f32⟩ : BufTy).Contents (Elt F)) (C_v55 W)

/-- What `main_v57` holds after stage C. -/
def C_v57 (W : Valuation τ sig (Elt F)) : FVec F S1024x64 .f32 :=
  (Host.divf : (⟨S1024x64, .f32⟩ : BufTy).Contents (Elt F) → (⟨S1024x64, .f32⟩ : BufTy).Contents (Elt F) → (⟨S1024x64, .f32⟩ : BufTy).Contents (Elt F)) (W (Proc.devRef .tc main_v34)) (C_v56 W)

/-- What `main_v58` holds after stage C. -/
def C_v58 (W : Valuation τ sig (Elt F)) : FVec F S16384x64 .f32 :=
  (mulf : (⟨S16384x64, .f32⟩ : BufTy).Contents (Elt F) → (⟨S16384x64, .f32⟩ : BufTy).Contents (Elt F) → (⟨S16384x64, .f32⟩ : BufTy).Contents (Elt F)) (W (Proc.devRef .tc main_arg2)) (W (Proc.devRef .tc main_arg2))

/-- What `main_cst_10` holds after stage C. -/
def C_cst_10 (W : Valuation τ sig (Elt F)) : FVec F S_ .f32 :=
  (constant S_ .f32 0x00000000#32)

/-- What `main_v59` holds after stage C. -/
def C_v59 (W : Valuation τ sig (Elt F)) : FVec F S16384 .f32 :=
  ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)) (C_v58 W) (C_cst_10 W)

/-- What `main_v60` holds after stage C. -/
def C_v60 (W : Valuation τ sig (Elt F)) : FVec F S16384x1 .f32 :=
  (broadcastInDim S16384x1 ![0] bcast_S16384_S16384x1_0 : (⟨S16384, .f32⟩ : BufTy).Contents (Elt F) → (⟨S16384x1, .f32⟩ : BufTy).Contents (Elt F)) (C_v59 W)

/-- What `main_cst_11` holds after stage C. -/
def C_cst_11 (W : Valuation τ sig (Elt F)) : FVec F S_ .f32 :=
  (constant S_ .f32 0x2B8CBCCC#32)

/-- What `main_v61` holds after stage C. -/
def C_v61 (W : Valuation τ sig (Elt F)) : FVec F S16384x1 .f32 :=
  (broadcastInDim S16384x1 ![] bcast_S_S16384x1 : (⟨S_, .f32⟩ : BufTy).Contents (Elt F) → (⟨S16384x1, .f32⟩ : BufTy).Contents (Elt F)) (C_cst_11 W)

/-- What `main_v62` holds after stage C. -/
def C_v62 (W : Valuation τ sig (Elt F)) : FVec F S16384x1 .f32 :=
  (maximumf : (⟨S16384x1, .f32⟩ : BufTy).Contents (Elt F) → (⟨S16384x1, .f32⟩ : BufTy).Contents (Elt F) → (⟨S16384x1, .f32⟩ : BufTy).Contents (Elt F)) (C_v60 W) (C_v61 W)

/-- What `main_v63` holds after stage C. -/
def C_v63 (W : Valuation τ sig (Elt F)) : FVec F S16384x1 .f32 :=
  (Host.sqrt : (⟨S16384x1, .f32⟩ : BufTy).Contents (Elt F) → (⟨S16384x1, .f32⟩ : BufTy).Contents (Elt F)) (C_v62 W)

/-- What `main_v64` holds after stage C. -/
def C_v64 (W : Valuation τ sig (Elt F)) : FVec F S16384x64 .f32 :=
  (broadcastInDim S16384x64 ![0, 1] bcast_S16384x1_S16384x64_0_1 : (⟨S16384x1, .f32⟩ : BufTy).Contents (Elt F) → (⟨S16384x64, .f32⟩ : BufTy).Contents (Elt F)) (C_v63 W)

/-- What `main_v65` holds after stage C. -/
def C_v65 (W : Valuation τ sig (Elt F)) : FVec F S16384x64 .f32 :=
  (Host.divf : (⟨S16384x64, .f32⟩ : BufTy).Contents (Elt F) → (⟨S16384x64, .f32⟩ : BufTy).Contents (Elt F) → (⟨S16384x64, .f32⟩ : BufTy).Contents (Elt F)) (W (Proc.devRef .tc main_arg2)) (C_v64 W)

/-- What `main_v66` holds after stage C. -/
def C_v66 (W : Valuation τ sig (Elt F)) : FVec F S64x16384 .f32 :=
  ((transpose S64x16384 [1, 0] · transposes_S16384x64_S64x16384_1_0) : (⟨S16384x64, .f32⟩ : BufTy).Contents (Elt F) → (⟨S64x16384, .f32⟩ : BufTy).Contents (Elt F)) (C_v65 W)

/-- What `main_v67` holds after stage C. -/
def C_v67 (W : Valuation τ sig (Elt F)) : FVec F S1024x16384 .f32 :=
  ((fun l r => Host.dotGeneral dot_S1024x64_S64x16384_S1024x16384_1_0_0_1_n_n none l r) : (⟨S1024x64, .f32⟩ : BufTy).Contents (Elt F) → (⟨S64x16384, .f32⟩ : BufTy).Contents (Elt F) → (⟨S1024x16384, .f32⟩ : BufTy).Contents (Elt F)) (C_v57 W) (C_v66 W)

/-- What `main_v68` holds after stage C. -/
def C_v68 (W : Valuation τ sig (Elt F)) : FVec F S16384x1024 .f32 :=
  ((transpose S16384x1024 [1, 0] · transposes_S1024x16384_S16384x1024_1_0) : (⟨S1024x16384, .f32⟩ : BufTy).Contents (Elt F) → (⟨S16384x1024, .f32⟩ : BufTy).Contents (Elt F)) (C_v67 W)

/-- What `main_cst_12` holds after stage C. -/
def C_cst_12 (W : Valuation τ sig (Elt F)) : FVec F S_ .f32 :=
  (constant S_ .f32 0xFF800000#32)

/-- What `main_v69` holds after stage C. -/
def C_v69 (W : Valuation τ sig (Elt F)) : FVec F S16384 .f32 :=
  ((fun x v => Host.reduce FloatOps.maximumf x v reducesTo_S16384x1024_S16384_d1 h_S_) : (⟨S16384x1024, .f32⟩ : BufTy).Contents (Elt F) → (⟨S_, .f32⟩ : BufTy).Contents (Elt F) → (⟨S16384, .f32⟩ : BufTy).Contents (Elt F)) (C_v68 W) (C_cst_12 W)

/-- What `main_cst_13` holds after stage C. -/
def C_cst_13 (W : Valuation τ sig (Elt F)) : FVec F S_ .f32 :=
  (constant S_ .f32 0xFF800000#32)

/-- What `main_v70` holds after stage C. -/
def C_v70 (W : Valuation τ sig (Elt F)) : FVec F S16384 .f32 :=
  (broadcastInDim S16384 ![] bcast_S_S16384 : (⟨S_, .f32⟩ : BufTy).Contents (Elt F) → (⟨S16384, .f32⟩ : BufTy).Contents (Elt F)) (C_cst_13 W)

/-- What `main_v71` holds after stage C. -/
def C_v71 (W : Valuation τ sig (Elt F)) : FVec F S16384 .f32 :=
  (maximumf : (⟨S16384, .f32⟩ : BufTy).Contents (Elt F) → (⟨S16384, .f32⟩ : BufTy).Contents (Elt F) → (⟨S16384, .f32⟩ : BufTy).Contents (Elt F)) (C_v70 W) (C_v69 W)

/-- What `main_v72` holds after stage C. -/
def C_v72 (W : Valuation τ sig (Elt F)) : FVec F S16384x1 .f32 :=
  (broadcastInDim S16384x1 ![0] bcast_S16384_S16384x1_0 : (⟨S16384, .f32⟩ : BufTy).Contents (Elt F) → (⟨S16384x1, .f32⟩ : BufTy).Contents (Elt F)) (C_v71 W)

/-- What `main_v73` holds after stage C. -/
def C_v73 (W : Valuation τ sig (Elt F)) : FVec F S16384x1024 .f32 :=
  (broadcastInDim S16384x1024 ![0, 1] bcast_S16384x1_S16384x1024_0_1 : (⟨S16384x1, .f32⟩ : BufTy).Contents (Elt F) → (⟨S16384x1024, .f32⟩ : BufTy).Contents (Elt F)) (C_v72 W)

/-- What `main_v74` holds after stage C. -/
def C_v74 (W : Valuation τ sig (Elt F)) : FVec F S16384x1024 .f32 :=
  (subf : (⟨S16384x1024, .f32⟩ : BufTy).Contents (Elt F) → (⟨S16384x1024, .f32⟩ : BufTy).Contents (Elt F) → (⟨S16384x1024, .f32⟩ : BufTy).Contents (Elt F)) (C_v68 W) (C_v73 W)

/-- What `main_v75` holds after stage C. -/
def C_v75 (W : Valuation τ sig (Elt F)) : FVec F S16384x1024 .f32 :=
  (Host.exp : (⟨S16384x1024, .f32⟩ : BufTy).Contents (Elt F) → (⟨S16384x1024, .f32⟩ : BufTy).Contents (Elt F)) (C_v74 W)

/-- What `main_cst_14` holds after stage C. -/
def C_cst_14 (W : Valuation τ sig (Elt F)) : FVec F S_ .f32 :=
  (constant S_ .f32 0x00000000#32)

/-- What `main_v76` holds after stage C. -/
def C_v76 (W : Valuation τ sig (Elt F)) : FVec F S16384 .f32 :=
  ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)) (C_v75 W) (C_cst_14 W)

/-- What `main_v77` holds after stage C. -/
def C_v77 (W : Valuation τ sig (Elt F)) : FVec F S16384x1 .f32 :=
  (broadcastInDim S16384x1 ![0] bcast_S16384_S16384x1_0 : (⟨S16384, .f32⟩ : BufTy).Contents (Elt F) → (⟨S16384x1, .f32⟩ : BufTy).Contents (Elt F)) (C_v76 W)

/-- What `main_v78` holds after stage C. -/
def C_v78 (W : Valuation τ sig (Elt F)) : FVec F S16384x1024 .f32 :=
  (broadcastInDim S16384x1024 ![0, 1] bcast_S16384x1_S16384x1024_0_1 : (⟨S16384x1, .f32⟩ : BufTy).Contents (Elt F) → (⟨S16384x1024, .f32⟩ : BufTy).Contents (Elt F)) (C_v77 W)

/-- What `main_v79` holds after stage C. -/
def C_v79 (W : Valuation τ sig (Elt F)) : FVec F S16384x1024 .f32 :=
  (Host.divf : (⟨S16384x1024, .f32⟩ : BufTy).Contents (Elt F) → (⟨S16384x1024, .f32⟩ : BufTy).Contents (Elt F) → (⟨S16384x1024, .f32⟩ : BufTy).Contents (Elt F)) (C_v75 W) (C_v78 W)

/-- What `main_v80` holds after stage D. -/
def D_v80 (W : Valuation τ sig (Elt F)) : FVec F S1024x16384 .f32 :=
  ((transpose S1024x16384 [1, 0] · transposes_S16384x1024_S1024x16384_1_0) : (⟨S16384x1024, .f32⟩ : BufTy).Contents (Elt F) → (⟨S1024x16384, .f32⟩ : BufTy).Contents (Elt F)) (W (Proc.devRef .tc main_v79))

/-- What `main_v81` holds after stage D. -/
def D_v81 (W : Valuation τ sig (Elt F)) : FVec F S1024x64 .f32 :=
  ((fun l r => Host.dotGeneral dot_S1024x16384_S16384x64_S1024x64_1_0_0_1_n_n none l r) : (⟨S1024x16384, .f32⟩ : BufTy).Contents (Elt F) → (⟨S16384x64, .f32⟩ : BufTy).Contents (Elt F) → (⟨S1024x64, .f32⟩ : BufTy).Contents (Elt F)) (D_v80 W) (W (Proc.devRef .tc main_arg2))

/-- What `main_cst_15` holds after stage D. -/
def D_cst_15 (W : Valuation τ sig (Elt F)) : FVec F S_ .f32 :=
  (constant S_ .f32 0x3F733333#32)

/-- What `main_v82` holds after stage D. -/
def D_v82 (W : Valuation τ sig (Elt F)) : FVec F S16384x1024 .f32 :=
  (broadcastInDim S16384x1024 ![] bcast_S_S16384x1024 : (⟨S_, .f32⟩ : BufTy).Contents (Elt F) → (⟨S16384x1024, .f32⟩ : BufTy).Contents (Elt F)) (D_cst_15 W)

/-- What `main_v83` holds after stage D. -/
def D_v83 (W : Valuation τ sig (Elt F)) : FVec F S16384x1024 .f32 :=
  (mulf : (⟨S16384x1024, .f32⟩ : BufTy).Contents (Elt F) → (⟨S16384x1024, .f32⟩ : BufTy).Contents (Elt F) → (⟨S16384x1024, .f32⟩ : BufTy).Contents (Elt F)) (D_v82 W) (W (Proc.devRef .tc main_arg3))

/-- What `main_v84` holds after stage D. -/
def D_v84 (W : Valuation τ sig (Elt F)) : FVec F S16384x1024 .f32 :=
  (addf : (⟨S16384x1024, .f32⟩ : BufTy).Contents (Elt F) → (⟨S16384x1024, .f32⟩ : BufTy).Contents (Elt F) → (⟨S16384x1024, .f32⟩ : BufTy).Contents (Elt F)) (D_v83 W) (W (Proc.devRef .tc main_v79))

/-- What `main_v85` holds after stage D. -/
def D_v85 (W : Valuation τ sig (Elt F)) : FVec F S16384x1024 .f32 :=
  (addf : (⟨S16384x1024, .f32⟩ : BufTy).Contents (Elt F) → (⟨S16384x1024, .f32⟩ : BufTy).Contents (Elt F) → (⟨S16384x1024, .f32⟩ : BufTy).Contents (Elt F)) (D_v84 W) (W (Proc.devRef .tc main_v49))

/-- What `main_v86` holds after stage E. -/
def E_v86 (W : Valuation τ sig (Elt F)) : FVec F S1024x16384 .f32 :=
  ((transpose S1024x16384 [1, 0] · transposes_S16384x1024_S1024x16384_1_0) : (⟨S16384x1024, .f32⟩ : BufTy).Contents (Elt F) → (⟨S1024x16384, .f32⟩ : BufTy).Contents (Elt F)) (W (Proc.devRef .tc main_v85))

/-- What `main_values` holds after stage E. -/
def E_values (W : Valuation τ sig (Elt F)) : FVec F S1024x16384 .f32 :=
  ((fun x => (Host.topK S1024x16384 1 (FloatOps.cmpfTotal .gt) x sliceFits_S1024x16384_S1024x16384).1) : (⟨S1024x16384, .f32⟩ : BufTy).Contents (Elt F) → (⟨S1024x16384, .f32⟩ : BufTy).Contents (Elt F)) (E_v86 W)

/-- What `main_indices` holds after stage E. -/
def E_indices (W : Valuation τ sig (Elt F)) : IVec S1024x16384 32 :=
  ((fun x => (Host.topK S1024x16384 1 (FloatOps.cmpfTotal .gt) x sliceFits_S1024x16384_S1024x16384).2) : (⟨S1024x16384, .f32⟩ : BufTy).Contents (Elt F) → (⟨S1024x16384, .i32⟩ : BufTy).Contents (Elt F)) (E_v86 W)

/-- What `main_v87` holds after stage E. -/
def E_v87 (W : Valuation τ sig (Elt F)) : FVec F S16384x1024 .f32 :=
  ((transpose S16384x1024 [1, 0] · transposes_S1024x16384_S16384x1024_1_0) : (⟨S1024x16384, .f32⟩ : BufTy).Contents (Elt F) → (⟨S16384x1024, .f32⟩ : BufTy).Contents (Elt F)) (E_values W)

/-- What `main_v88` holds after stage E. -/
def E_v88 (W : Valuation τ sig (Elt F)) : FVec F S1x1024 .f32 :=
  ((extractStridedSlice S1x1024 ![16383, 0] · slices_S16384x1024_S1x1024_16383_0) : (⟨S16384x1024, .f32⟩ : BufTy).Contents (Elt F) → (⟨S1x1024, .f32⟩ : BufTy).Contents (Elt F)) (E_v87 W)

/-- What `main_v89` holds after stage E. -/
def E_v89 (W : Valuation τ sig (Elt F)) : FVec F S1024 .f32 :=
  shapeCast S1024 (E_v88 W) shapeCasts_S1x1024_S1024

/-- What `main_call0_v0` holds after stage E. -/
def E_call0_v0 (W : Valuation τ sig (Elt F)) : IVec S1024 32 :=
  (iotaInDim S1024 32 0)

/-- What `main_call0_cst` holds after stage E. -/
def E_call0_cst (W : Valuation τ sig (Elt F)) : FVec F S_ .f32 :=
  (constant S_ .f32 0x7F800000#32)

/-- What `main_call0_c` holds after stage E. -/
def E_call0_c (W : Valuation τ sig (Elt F)) : IVec S_ 32 :=
  (constantI S_ 32 0#32)

/-- What `main_call0_v1_0` holds after stage E. -/
def E_call0_v1_0 (W : Valuation τ sig (Elt F)) : FVec F S_ .f32 :=
  (fun x y u v j => (Host.argReduce reducer_argmin_f32_i32 x y u v reducesTo_S1024_S_d0 h_S_ j).1) (E_v89 W) (E_call0_v0 W) (E_call0_cst W) (E_call0_c W)

/-- What `main_v90` holds after stage E. -/
def E_v90 (W : Valuation τ sig (Elt F)) : IVec S_ 32 :=
  (fun x y u v j => (Host.argReduce reducer_argmin_f32_i32 x y u v reducesTo_S1024_S_d0 h_S_ j).2) (E_v89 W) (E_call0_v0 W) (E_call0_cst W) (E_call0_c W)

/-- What `main_v91` holds after stage E. -/
def E_v91 (W : Valuation τ sig (Elt F)) : FVec F S1024x1 .f32 :=
  (broadcastInDim S1024x1 ![0] bcast_S1024_S1024x1_0 : (⟨S1024, .f32⟩ : BufTy).Contents (Elt F) → (⟨S1024x1, .f32⟩ : BufTy).Contents (Elt F)) (E_v89 W)

/-- What `main_v92` holds after stage E. -/
def E_v92 (W : Valuation τ sig (Elt F)) : FVec F S1x1024x1x1 .f32 :=
  shapeCast S1x1024x1x1 (E_v91 W) shapeCasts_S1024x1_S1x1024x1x1

/-- What `main_v93` holds after stage E. -/
def E_v93 (W : Valuation τ sig (Elt F)) : FVec F S1x1024x16384x1 .f32 :=
  (broadcastInDim S1x1024x16384x1 ![0, 1, 2, 3] bcast_S1x1024x1x1_S1x1024x16384x1_0_1_2_3 : (⟨S1x1024x1x1, .f32⟩ : BufTy).Contents (Elt F) → (⟨S1x1024x16384x1, .f32⟩ : BufTy).Contents (Elt F)) (E_v92 W)

/-- What `main_v94` holds after stage E. -/
def E_v94 (W : Valuation τ sig (Elt F)) : FVec F S1024x16384 .f32 :=
  shapeCast S1024x16384 (E_v93 W) shapeCasts_S1x1024x16384x1_S1024x16384

/-- What `main_v95` holds after stage E. -/
def E_v95 (W : Valuation τ sig (Elt F)) : IVec S16384x1024 32 :=
  ((transpose S16384x1024 [1, 0] · transposes_S1024x16384_S16384x1024_1_0) : (⟨S1024x16384, .i32⟩ : BufTy).Contents (Elt F) → (⟨S16384x1024, .i32⟩ : BufTy).Contents (Elt F)) (E_indices W)

/-- What `main_v96` holds after stage E. -/
def E_v96 (W : Valuation τ sig (Elt F)) : IVec S1x1024 32 :=
  ((extractStridedSlice S1x1024 ![16383, 0] · slices_S16384x1024_S1x1024_16383_0) : (⟨S16384x1024, .i32⟩ : BufTy).Contents (Elt F) → (⟨S1x1024, .i32⟩ : BufTy).Contents (Elt F)) (E_v95 W)

/-- What `main_v97` holds after stage E. -/
def E_v97 (W : Valuation τ sig (Elt F)) : IVec S1024 32 :=
  shapeCast S1024 (E_v96 W) shapeCasts_S1x1024_S1024

/-- What `main_c` holds after stage E. -/
def E_c (W : Valuation τ sig (Elt F)) : IVec S_ 32 :=
  (constantI S_ 32 0#32)

/-- What `main_v98` holds after stage E. -/
def E_v98 (W : Valuation τ sig (Elt F)) : IVec S_ 1 :=
  (cmpi .slt : (⟨S_, .i32⟩ : BufTy).Contents (Elt F) → (⟨S_, .i32⟩ : BufTy).Contents (Elt F) → (⟨S_, .i1⟩ : BufTy).Contents (Elt F)) (E_v90 W) (E_c W)

/-- What `main_c_16` holds after stage E. -/
def E_c_16 (W : Valuation τ sig (Elt F)) : IVec S_ 32 :=
  (constantI S_ 32 1024#32)

/-- What `main_v99` holds after stage E. -/
def E_v99 (W : Valuation τ sig (Elt F)) : IVec S_ 32 :=
  (addi : (⟨S_, .i32⟩ : BufTy).Contents (Elt F) → (⟨S_, .i32⟩ : BufTy).Contents (Elt F) → (⟨S_, .i32⟩ : BufTy).Contents (Elt F)) (E_v90 W) (E_c_16 W)

/-- What `main_v100` holds after stage E. -/
def E_v100 (W : Valuation τ sig (Elt F)) : IVec S_ 32 :=
  (select : (⟨S_, .i1⟩ : BufTy).Contents (Elt F) → (⟨S_, .i32⟩ : BufTy).Contents (Elt F) → (⟨S_, .i32⟩ : BufTy).Contents (Elt F) → (⟨S_, .i32⟩ : BufTy).Contents (Elt F)) (E_v98 W) (E_v99 W) (E_v90 W)

/-- What `main_v101` holds after stage E. -/
def E_v101 (W : Valuation τ sig (Elt F)) : IVec S1 32 :=
  ((fun x i => Host.dynamicSlice S1 x (fun k => (i k (Shape.Idx.first h_S_)).toInt) sliceFits_S1024_S1) : (⟨S1024, .i32⟩ : BufTy).Contents (Elt F) → (Fin 1 → (⟨S_, .i32⟩ : BufTy).Contents (Elt F)) → (⟨S1, .i32⟩ : BufTy).Contents (Elt F)) (E_v97 W) (fun _ => (E_v100 W))

/-- What `main_v102` holds after stage E. -/
def E_v102 (W : Valuation τ sig (Elt F)) : IVec S_ 32 :=
  shapeCast S_ (E_v101 W) shapeCasts_S1_S_

/-- What `main_c_17` holds after stage E. -/
def E_c_17 (W : Valuation τ sig (Elt F)) : IVec S_ 32 :=
  (constantI S_ 32 1#32)

/-- What `main_v103` holds after stage E. -/
def E_v103 (W : Valuation τ sig (Elt F)) : IVec S1024 32 :=
  (broadcastInDim S1024 ![] bcast_S_S1024 : (⟨S_, .i32⟩ : BufTy).Contents (Elt F) → (⟨S1024, .i32⟩ : BufTy).Contents (Elt F)) (E_c_17 W)

/-- What `main_v104` holds after stage E. -/
def E_v104 (W : Valuation τ sig (Elt F)) : IVec S1024 32 :=
  (broadcastInDim S1024 ![] bcast_S_S1024 : (⟨S_, .i32⟩ : BufTy).Contents (Elt F) → (⟨S1024, .i32⟩ : BufTy).Contents (Elt F)) (E_v102 W)

/-- What `main_v105` holds after stage E. -/
def E_v105 (W : Valuation τ sig (Elt F)) : IVec S1024 32 :=
  (muli : (⟨S1024, .i32⟩ : BufTy).Contents (Elt F) → (⟨S1024, .i32⟩ : BufTy).Contents (Elt F) → (⟨S1024, .i32⟩ : BufTy).Contents (Elt F)) (E_v103 W) (E_v104 W)

/-- What `main_v106` holds after stage E. -/
def E_v106 (W : Valuation τ sig (Elt F)) : FVec F S16384x1024 .f32 :=
  ((transpose S16384x1024 [1, 0] · transposes_S1024x16384_S16384x1024_1_0) : (⟨S1024x16384, .f32⟩ : BufTy).Contents (Elt F) → (⟨S16384x1024, .f32⟩ : BufTy).Contents (Elt F)) (E_v94 W)

/-- What `main_v107` holds after stage E. -/
def E_v107 (W : Valuation τ sig (Elt F)) : IVec S16384x1024 1 :=
  (cmpf .ole : (⟨S16384x1024, .f32⟩ : BufTy).Contents (Elt F) → (⟨S16384x1024, .f32⟩ : BufTy).Contents (Elt F) → (⟨S16384x1024, .i1⟩ : BufTy).Contents (Elt F)) (W (Proc.devRef .tc main_v85)) (E_v106 W)

/-- What `main_v108` holds after stage E. -/
def E_v108 (W : Valuation τ sig (Elt F)) : FVec F S16384x1024 .f32 :=
  (uitofp .f32 : (⟨S16384x1024, .i1⟩ : BufTy).Contents (Elt F) → (⟨S16384x1024, .f32⟩ : BufTy).Contents (Elt F)) (E_v107 W)

/-- What `main_call1_v0` holds after stage G. -/
def G_call1_v0 (W : Valuation τ sig (Elt F)) : IVec S1024x1 32 :=
  (broadcastInDim S1024x1 ![0] bcast_S1024_S1024x1_0) (W (Proc.devRef .tc main_v105))

/-- What `main_call1_v1` holds after stage G. -/
def G_call1_v1 (W : Valuation τ sig (Elt F)) : IVec S1x16384 32 :=
  (iotaInDim S1x16384 32 1)

/-- What `main_call1_v2` holds after stage G. -/
def G_call1_v2 (W : Valuation τ sig (Elt F)) : IVec S1024x16384 32 :=
  (broadcastInDim S1024x16384 ![0, 1] bcast_S1024x1_S1024x16384_0_1) (G_call1_v0 W)

/-- What `main_call1_v3` holds after stage G. -/
def G_call1_v3 (W : Valuation τ sig (Elt F)) : IVec S1024x16384 32 :=
  (broadcastInDim S1024x16384 ![0, 1] bcast_S1x16384_S1024x16384_0_1) (G_call1_v1 W)

/-- What `main_call1_v4` holds after stage G. -/
def G_call1_v4 (W : Valuation τ sig (Elt F)) : IVec S1024x16384 1 :=
  (cmpi .eq) (G_call1_v2 W) (G_call1_v3 W)

/-- What `main_v109` holds after stage G. -/
def G_v109 (W : Valuation τ sig (Elt F)) : FVec F S1024x16384 .f32 :=
  (uitofp .f32) (G_call1_v4 W)

/-- What `main_cst_18` holds after stage G. -/
def G_cst_18 (W : Valuation τ sig (Elt F)) : FVec F S_ .f32 :=
  (constant S_ .f32 0x3F800000#32)

/-- What `main_v110` holds after stage G. -/
def G_v110 (W : Valuation τ sig (Elt F)) : FVec F S1024x16384 .f32 :=
  (broadcastInDim S1024x16384 ![] bcast_S_S1024x16384 : (⟨S_, .f32⟩ : BufTy).Contents (Elt F) → (⟨S1024x16384, .f32⟩ : BufTy).Contents (Elt F)) (G_cst_18 W)

/-- What `main_v111` holds after stage G. -/
def G_v111 (W : Valuation τ sig (Elt F)) : FVec F S1024x16384 .f32 :=
  (subf : (⟨S1024x16384, .f32⟩ : BufTy).Contents (Elt F) → (⟨S1024x16384, .f32⟩ : BufTy).Contents (Elt F) → (⟨S1024x16384, .f32⟩ : BufTy).Contents (Elt F)) (G_v110 W) (G_v109 W)

/-- What `main_v112` holds after stage G. -/
def G_v112 (W : Valuation τ sig (Elt F)) : FVec F S16384x1024 .f32 :=
  ((transpose S16384x1024 [1, 0] · transposes_S1024x16384_S16384x1024_1_0) : (⟨S1024x16384, .f32⟩ : BufTy).Contents (Elt F) → (⟨S16384x1024, .f32⟩ : BufTy).Contents (Elt F)) (G_v111 W)

/-- What `main_cst_19` holds after stage G. -/
def G_cst_19 (W : Valuation τ sig (Elt F)) : FVec F S_ .f32 :=
  (constant S_ .f32 0x3F800000#32)

/-- What `main_v113` holds after stage G. -/
def G_v113 (W : Valuation τ sig (Elt F)) : FVec F S1024x64 .f32 :=
  (broadcastInDim S1024x64 ![] bcast_S_S1024x64 : (⟨S_, .f32⟩ : BufTy).Contents (Elt F) → (⟨S1024x64, .f32⟩ : BufTy).Contents (Elt F)) (G_cst_19 W)

/-- What `main_v114` holds after stage G. -/
def G_v114 (W : Valuation τ sig (Elt F)) : FVec F S16384x64 .f32 :=
  ((fun l r => Host.dotGeneral dot_S16384x1024_S1024x64_S16384x64_1_0_0_1_n_n none l r) : (⟨S16384x1024, .f32⟩ : BufTy).Contents (Elt F) → (⟨S1024x64, .f32⟩ : BufTy).Contents (Elt F) → (⟨S16384x64, .f32⟩ : BufTy).Contents (Elt F)) (G_v112 W) (G_v113 W)

/-- What `main_v115` holds after stage G. -/
def G_v115 (W : Valuation τ sig (Elt F)) : FVec F S16384x64 .f32 :=
  (mulf : (⟨S16384x64, .f32⟩ : BufTy).Contents (Elt F) → (⟨S16384x64, .f32⟩ : BufTy).Contents (Elt F) → (⟨S16384x64, .f32⟩ : BufTy).Contents (Elt F)) (G_v114 W) (W (Proc.devRef .tc main_arg2))

/-- What `main_v116` holds after stage G. -/
def G_v116 (W : Valuation τ sig (Elt F)) : FVec F S16384x64 .f32 :=
  ((fun l r => Host.dotGeneral dot_S16384x1024_S1024x64_S16384x64_1_0_0_1_n_n none l r) : (⟨S16384x1024, .f32⟩ : BufTy).Contents (Elt F) → (⟨S1024x64, .f32⟩ : BufTy).Contents (Elt F) → (⟨S16384x64, .f32⟩ : BufTy).Contents (Elt F)) (W (Proc.devRef .tc main_v49)) (W (Proc.devRef .tc main_v34))

/-- What `main_v117` holds after stage G. -/
def G_v117 (W : Valuation τ sig (Elt F)) : FVec F S16384x64 .f32 :=
  (addf : (⟨S16384x64, .f32⟩ : BufTy).Contents (Elt F) → (⟨S16384x64, .f32⟩ : BufTy).Contents (Elt F) → (⟨S16384x64, .f32⟩ : BufTy).Contents (Elt F)) (G_v116 W) (G_v115 W)

theorem subA : (opsA : List (HloOp τ sig (Elt F))).Forall fun op => op.bufs ⊆ tcRefs τ sig :=
  ⟨binary_bufs_sub .., binary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩

theorem subB : (opsB : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub ..⟩

theorem subC1 : (opsC1 : List (HloOp τ sig (Elt F))).Forall fun op => op.bufs ⊆ tcRefs τ sig :=
  binary_bufs_sub ..

theorem subC2 : (opsC2 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., binary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem subD : (opsD : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub ..⟩

theorem subE1 : (opsE1 : List (HloOp τ sig (Elt F))).Forall fun op => op.bufs ⊆ tcRefs τ sig :=
  ⟨unary_bufs_sub .., unary_bufs_sub .., unary_bufs_sub .., unary_bufs_sub .., unary_bufs_sub .., reshape_bufs_sub .., nullary_bufs_sub .., nullary_bufs_sub .., nullary_bufs_sub .., quaternary_bufs_sub .., quaternary_bufs_sub .., unary_bufs_sub .., reshape_bufs_sub .., unary_bufs_sub .., reshape_bufs_sub .., unary_bufs_sub .., unary_bufs_sub .., reshape_bufs_sub .., nullary_bufs_sub .., binary_bufs_sub .., nullary_bufs_sub ..⟩

theorem subE2 : (opsE2 : List (HloOp τ sig (Elt F))).Forall fun op => op.bufs ⊆ tcRefs τ sig :=
  ⟨binary_bufs_sub .., ternary_bufs_sub .., unaryIndexed_bufs_sub .., reshape_bufs_sub .., nullary_bufs_sub .., unary_bufs_sub .., unary_bufs_sub .., binary_bufs_sub .., unary_bufs_sub .., binary_bufs_sub .., unary_bufs_sub ..⟩

theorem subG : (opsG : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., binary_bufs_sub .., unary_bufs_sub .., nullary_bufs_sub .., unary_bufs_sub .., binary_bufs_sub .., binary_bufs_sub .., binary_bufs_sub .., binary_bufs_sub ..⟩

set_option maxRecDepth 8000 in
set_option maxHeartbeats 4000000 in
/-- Window 0 of the program is the straight line of its operations. -/
theorem part0_eq (c : Dev nD) : main_part0 (F := F) c = seq (opsA ++ opsB ++ opsC1) := rfl

set_option maxRecDepth 8000 in
set_option maxHeartbeats 4000000 in
/-- Window 1 of the program is the straight line of its operations. -/
theorem part1_eq (c : Dev nD) : main_part1 (F := F) c = seq (opsC2 ++ opsD ++ opsE1) := rfl

set_option maxRecDepth 8000 in
set_option maxHeartbeats 4000000 in
/-- Window 2 of the program is the straight line of its operations. -/
theorem part2_eq (c : Dev nD) : main_part2 (F := F) c = seq (opsE2 ++ opsG) := rfl

/-- All operations of the program, in order. -/
abbrev opsAll : List (HloOp τ sig (Elt F)) := ((opsA ++ opsB ++ opsC1)++(opsC2 ++ opsD ++ opsE1)) ++ (opsE2 ++ opsG)

/-- The program is that straight line. -/
theorem main_eq (c : Dev nD) : main (F := F) c = seq opsAll := by
  show (main_part0 c >>= fun _ => main_part1 c >>= fun _ => main_part2 c) = _
  rw [part0_eq, part1_eq, part2_eq, seq_append, seq_append (nD := nD) (_ ++ _)]
  first | rfl | simp only [bind_assoc]

/-- Every operation touches references of the core only. -/
theorem ops_sub : (opsAll : List (HloOp τ sig (Elt F))).Forall fun op => op.bufs ⊆ tcRefs τ sig := by
  simp only [opsAll, List.forall_append]
  exact ⟨⟨⟨⟨subA, subB⟩, subC1⟩, ⟨⟨subC2, subD⟩, subE1⟩⟩, ⟨subE2, subG⟩⟩

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand
-- ==== Proof.RefRead.lean ====
/-
  What the reference program's run leaves in each result buffer, as the stages' named values, one stage over the other.
-/
module

public import proofs.«01_k».proof.Proof.RefRun

@[expose] public section

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- The buffers that stage A writes. -/
abbrev outsA : List (Ref sig .tc) := [main_v0, main_v1, main_v2, main_v3, main_v4, main_v5, main_v6, main_v7, main_v8, main_v9, main_v10, main_v11, main_v12, main_cst, main_v13, main_v14, main_cst_0, main_v15, main_v16, main_v17, main_v18, main_cst_1, main_v19, main_v20, main_cst_2, main_v21, main_v22, main_v23, main_v24, main_v25, main_v26, main_v27, main_v28, main_cst_3, main_v29, main_v30, main_cst_4, main_v31, main_v32, main_v33, main_v34]

/-- A buffer that stage A does not write keeps its contents. -/
theorem keepA {r : Ref sig .tc} (h : r ∉ outsA) (W : Valuation τ sig (Elt F)) :
    after opsA W (Proc.devRef .tc r) = W (Proc.devRef .tc r) := after_unwritten outsA rfl h W

/-- The buffers that stage B writes. -/
abbrev outsB : List (Ref sig .tc) := [main_v35, main_v36, main_cst_5, main_v37, main_v38, main_cst_6, main_v39, main_v40, main_v41, main_v42, main_v43, main_cst_7, main_v44, main_v45, main_v46, main_v47, main_v48, main_v49]

/-- A buffer that stage B does not write keeps its contents. -/
theorem keepB {r : Ref sig .tc} (h : r ∉ outsB) (W : Valuation τ sig (Elt F)) :
    after opsB W (Proc.devRef .tc r) = W (Proc.devRef .tc r) := after_unwritten outsB rfl h W

/-- The buffers that stage C1 writes. -/
abbrev outsC1 : List (Ref sig .tc) := [main_v50]

/-- A buffer that stage C1 does not write keeps its contents. -/
theorem keepC1 {r : Ref sig .tc} (h : r ∉ outsC1) (W : Valuation τ sig (Elt F)) :
    after opsC1 W (Proc.devRef .tc r) = W (Proc.devRef .tc r) := after_unwritten outsC1 rfl h W

/-- The buffers that stage C2 writes. -/
abbrev outsC2 : List (Ref sig .tc) := [main_cst_8, main_v51, main_v52, main_cst_9, main_v53, main_v54, main_v55, main_v56, main_v57, main_v58, main_cst_10, main_v59, main_v60, main_cst_11, main_v61, main_v62, main_v63, main_v64, main_v65, main_v66, main_v67, main_v68, main_cst_12, main_v69, main_cst_13, main_v70, main_v71, main_v72, main_v73, main_v74, main_v75, main_cst_14, main_v76, main_v77, main_v78, main_v79]

/-- A buffer that stage C2 does not write keeps its contents. -/
theorem keepC2 {r : Ref sig .tc} (h : r ∉ outsC2) (W : Valuation τ sig (Elt F)) :
    after opsC2 W (Proc.devRef .tc r) = W (Proc.devRef .tc r) := after_unwritten outsC2 rfl h W

/-- The buffers that stage D writes. -/
abbrev outsD : List (Ref sig .tc) := [main_v80, main_v81, main_cst_15, main_v82, main_v83, main_v84, main_v85]

/-- A buffer that stage D does not write keeps its contents. -/
theorem keepD {r : Ref sig .tc} (h : r ∉ outsD) (W : Valuation τ sig (Elt F)) :
    after opsD W (Proc.devRef .tc r) = W (Proc.devRef .tc r) := after_unwritten outsD rfl h W

/-- The buffers that stage E1 writes. -/
abbrev outsE1 : List (Ref sig .tc) := [main_v86, main_values, main_indices, main_v87, main_v88, main_v89, main_call0_v0, main_call0_cst, main_call0_c, main_call0_v1_0, main_v90, main_v91, main_v92, main_v93, main_v94, main_v95, main_v96, main_v97, main_c, main_v98, main_c_16]

/-- A buffer that stage E1 does not write keeps its contents. -/
theorem keepE1 {r : Ref sig .tc} (h : r ∉ outsE1) (W : Valuation τ sig (Elt F)) :
    after opsE1 W (Proc.devRef .tc r) = W (Proc.devRef .tc r) := after_unwritten outsE1 rfl h W

/-- The buffers that stage E2 writes. -/
abbrev outsE2 : List (Ref sig .tc) := [main_v99, main_v100, main_v101, main_v102, main_c_17, main_v103, main_v104, main_v105, main_v106, main_v107, main_v108]

/-- A buffer that stage E2 does not write keeps its contents. -/
theorem keepE2 {r : Ref sig .tc} (h : r ∉ outsE2) (W : Valuation τ sig (Elt F)) :
    after opsE2 W (Proc.devRef .tc r) = W (Proc.devRef .tc r) := after_unwritten outsE2 rfl h W

/-- The buffers that stage G writes. -/
abbrev outsG : List (Ref sig .tc) := [main_call1_v0, main_call1_v1, main_call1_v2, main_call1_v3, main_call1_v4, main_v109, main_cst_18, main_v110, main_v111, main_v112, main_cst_19, main_v113, main_v114, main_v115, main_v116, main_v117]

/-- A buffer that stage G does not write keeps its contents. -/
theorem keepG {r : Ref sig .tc} (h : r ∉ outsG) (W : Valuation τ sig (Elt F)) :
    after opsG W (Proc.devRef .tc r) = W (Proc.devRef .tc r) := after_unwritten outsG rfl h W

theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- The contents at the start of stage B, C, D, E, G, and at the end. -/
def WB (V : Valuation τ sig (Elt F)) : Valuation τ sig (Elt F) := after opsA V
def WC (V : Valuation τ sig (Elt F)) : Valuation τ sig (Elt F) := after opsB (WB V)
def WD (V : Valuation τ sig (Elt F)) : Valuation τ sig (Elt F) := after opsC2 (after opsC1 (WC V))
def WE (V : Valuation τ sig (Elt F)) : Valuation τ sig (Elt F) := after opsD (WD V)
def WG (V : Valuation τ sig (Elt F)) : Valuation τ sig (Elt F) := after opsE2 (after opsE1 (WE V))
def WZ (V : Valuation τ sig (Elt F)) : Valuation τ sig (Elt F) := after opsG (WG V)

theorem after_opsAll (V : Valuation τ sig (Elt F)) : after opsAll V = WZ V := by
  simp only [opsAll, after_app, WZ, WG, WE, WD, WC, WB]

theorem keepSA {r : Ref sig .tc} (hA : r ∉ outsA) (V : Valuation τ sig (Elt F)) :
    WB V (Proc.devRef .tc r) = V (Proc.devRef .tc r) := (keepA hA _)

theorem keepSB {r : Ref sig .tc} (hB : r ∉ outsB) (V : Valuation τ sig (Elt F)) :
    WC V (Proc.devRef .tc r) = (WB V) (Proc.devRef .tc r) := (keepB hB _)

theorem keepSC {r : Ref sig .tc} (hC1 : r ∉ outsC1) (hC2 : r ∉ outsC2) (V : Valuation τ sig (Elt F)) :
    WD V (Proc.devRef .tc r) = (WC V) (Proc.devRef .tc r) := (keepC2 hC2 _).trans (keepC1 hC1 _)

theorem keepSD {r : Ref sig .tc} (hD : r ∉ outsD) (V : Valuation τ sig (Elt F)) :
    WE V (Proc.devRef .tc r) = (WD V) (Proc.devRef .tc r) := (keepD hD _)

theorem keepSE {r : Ref sig .tc} (hE1 : r ∉ outsE1) (hE2 : r ∉ outsE2) (V : Valuation τ sig (Elt F)) :
    WG V (Proc.devRef .tc r) = (WE V) (Proc.devRef .tc r) := (keepE2 hE2 _).trans (keepE1 hE1 _)

theorem keepSG {r : Ref sig .tc} (hG : r ∉ outsG) (V : Valuation τ sig (Elt F)) :
    WZ V (Proc.devRef .tc r) = (WG V) (Proc.devRef .tc r) := (keepG hG _)

set_option maxHeartbeats 4000000 in
/-- Stage A leaves its named value in `main_v34`. -/
theorem read_v34 (W : Valuation τ sig (Elt F)) : (after opsA W) (Proc.devRef .tc main_v34) = A_v34 W := by
  after_reads_simp
  rfl

set_option maxHeartbeats 4000000 in
/-- Stage A leaves its named value in `main_v26`. -/
theorem read_v26 (W : Valuation τ sig (Elt F)) : (after opsA W) (Proc.devRef .tc main_v26) = A_v26 W := by
  after_reads_simp
  rfl

set_option maxHeartbeats 4000000 in
/-- Stage B leaves its named value in `main_v49`. -/
theorem read_v49 (W : Valuation τ sig (Elt F)) : (after opsB W) (Proc.devRef .tc main_v49) = B_v49 W := by
  after_reads_simp
  rfl

set_option maxHeartbeats 4000000 in
/-- Stage C leaves its named value in `main_v79`. -/
theorem read_v79 (W : Valuation τ sig (Elt F)) : (after opsC2 (after opsC1 W)) (Proc.devRef .tc main_v79) = C_v79 W := by
  after_reads_simp
  rfl

set_option maxHeartbeats 4000000 in
/-- Stage D leaves its named value in `main_v81`. -/
theorem read_v81 (W : Valuation τ sig (Elt F)) : (after opsD W) (Proc.devRef .tc main_v81) = D_v81 W := by
  after_reads_simp
  rfl

set_option maxHeartbeats 4000000 in
/-- Stage D leaves its named value in `main_v85`. -/
theorem read_v85 (W : Valuation τ sig (Elt F)) : (after opsD W) (Proc.devRef .tc main_v85) = D_v85 W := by
  after_reads_simp
  rfl

set_option maxHeartbeats 4000000 in
/-- Stage E leaves its named value in `main_v108`. -/
theorem read_v108 (W : Valuation τ sig (Elt F)) : (after opsE2 (after opsE1 W)) (Proc.devRef .tc main_v108) = E_v108 W := by
  after_reads_simp
  rfl

set_option maxHeartbeats 4000000 in
/-- Stage E leaves its named value in `main_v105`. -/
theorem read_v105 (W : Valuation τ sig (Elt F)) : (after opsE2 (after opsE1 W)) (Proc.devRef .tc main_v105) = E_v105 W := by
  after_reads_simp
  refine congrArg (muli (broadcastInDim S1024 ![] bcast_S_S1024 (constantI S_ 32 1#32))) ?_
  refine congrArg (broadcastInDim S1024 ![] bcast_S_S1024 : IVec S_ 32 → IVec S1024 32) ?_
  refine congrArg (fun q => (fun i : S_.Idx => shapeCast S_ (Host.dynamicSlice S1 (E_v97 W) q sliceFits_S1024_S1) shapeCasts_S1_S_ i)) ?_
  funext k
  obtain rfl : k = 0 := Subsingleton.elim _ _
  show BitVec.toInt ((upto opsE2 (after opsE1 W) 2 (Proc.devRef .tc main_v100)) (Shape.Idx.first h_S_)) = _
  after_reads_simp
  rfl

set_option maxHeartbeats 4000000 in
/-- Stage G leaves its named value in `main_v117`. -/
theorem read_v117 (W : Valuation τ sig (Elt F)) : (after opsG W) (Proc.devRef .tc main_v117) = G_v117 W := by
  after_reads_simp
  rfl

/-- At the end `main_v34` holds the named value of stage A. -/
theorem fin_v34 (V : Valuation τ sig (Elt F)) : WZ V (Proc.devRef .tc main_v34) = A_v34 V := by
  rw [keepSG (by decide), keepSE (by decide) (by decide), keepSD (by decide), keepSC (by decide) (by decide), keepSB (by decide)]
  exact read_v34 _

/-- At the end `main_v26` holds the named value of stage A. -/
theorem fin_v26 (V : Valuation τ sig (Elt F)) : WZ V (Proc.devRef .tc main_v26) = A_v26 V := by
  rw [keepSG (by decide), keepSE (by decide) (by decide), keepSD (by decide), keepSC (by decide) (by decide), keepSB (by decide)]
  exact read_v26 _

/-- At the end `main_v49` holds the named value of stage B. -/
theorem fin_v49 (V : Valuation τ sig (Elt F)) : WZ V (Proc.devRef .tc main_v49) = B_v49 (WB V) := by
  rw [keepSG (by decide), keepSE (by decide) (by decide), keepSD (by decide), keepSC (by decide) (by decide)]
  exact read_v49 _

/-- At the end `main_v79` holds the named value of stage C. -/
theorem fin_v79 (V : Valuation τ sig (Elt F)) : WZ V (Proc.devRef .tc main_v79) = C_v79 (WC V) := by
  rw [keepSG (by decide), keepSE (by decide) (by decide), keepSD (by decide)]
  exact read_v79 _

/-- At the end `main_v81` holds the named value of stage D. -/
theorem fin_v81 (V : Valuation τ sig (Elt F)) : WZ V (Proc.devRef .tc main_v81) = D_v81 (WD V) := by
  rw [keepSG (by decide), keepSE (by decide) (by decide)]
  exact read_v81 _

/-- At the end `main_v85` holds the named value of stage D. -/
theorem fin_v85 (V : Valuation τ sig (Elt F)) : WZ V (Proc.devRef .tc main_v85) = D_v85 (WD V) := by
  rw [keepSG (by decide), keepSE (by decide) (by decide)]
  exact read_v85 _

/-- At the end `main_v108` holds the named value of stage E. -/
theorem fin_v108 (V : Valuation τ sig (Elt F)) : WZ V (Proc.devRef .tc main_v108) = E_v108 (WE V) := by
  rw [keepSG (by decide)]
  exact read_v108 _

/-- At the end `main_v105` holds the named value of stage E. -/
theorem fin_v105 (V : Valuation τ sig (Elt F)) : WZ V (Proc.devRef .tc main_v105) = E_v105 (WE V) := by
  rw [keepSG (by decide)]
  exact read_v105 _

/-- At the end `main_v117` holds the named value of stage G. -/
theorem fin_v117 (V : Valuation τ sig (Elt F)) : WZ V (Proc.devRef .tc main_v117) = G_v117 (WG V) := by
  skip
  exact read_v117 _

/-- No stage writes an argument. -/
theorem fin_arg {r : Ref sig .tc} (hA : r ∉ outsA) (hB : r ∉ outsB) (hC1 : r ∉ outsC1) (hC2 : r ∉ outsC2) (hD : r ∉ outsD)
    (hE1 : r ∉ outsE1) (hE2 : r ∉ outsE2) (hG : r ∉ outsG) (V : Valuation τ sig (Elt F)) :
    WZ V (Proc.devRef .tc r) = V (Proc.devRef .tc r) := by
  rw [keepSG hG, keepSE hE1 hE2, keepSD hD, keepSC hC1 hC2, keepSB hB, keepSA hA]

/-- From any memory with counters at zero every fair execution of the reference ends, with every buffer at the contents that
    the stages compute and every counter at zero. -/
theorem run_ref (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = WZ (launchContents m c) (Proc.devRef .tc b) :=
  (θ_run defs _ _).mono (fun _ h c b => (h c b).trans (congrFun (after_opsAll _) _))
    (run_seq scopedRefs_eq scopedSems_eq defs main (fun _ => opsAll) main_eq (fun _ => ops_sub) m ρ)

end Cert.ReferenceIdeal.Hand
-- ==== Proof.Frames.lean ====
/-
  The two frame claims: each program runs, leaves its arguments as they were, and ends with every counter at zero.
-/
module

public import proofs.«01_k».proof.Defs
public import proofs.«01_k».proof.Proof.Run
public import proofs.«01_k».proof.Proof.RefRead
public import proofs.«01_k».proof.Proof.MA
public import proofs.«01_k».proof.Proof.Gen.ReferenceIdeal
public import Idealize.ShloMosaic.Lib.Quiescent
public import Idealize.ShloMosaic.Lib.Claim

@[expose] public section

noncomputable section

namespace Cert.Proof

open Idealize.ShloMosaic Idealize.SL.Sem

/-- The kernel's run at the extended reals. -/
theorem run_kernel (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r =>
      Pipeline.FramePost Cert.KernelIdeal.cfgs (Cert.KernelIdeal.Hand.dats m (Cert.KernelIdeal.Val.chk m)) 0
        (Pipeline.afterTail₀ Cert.KernelIdeal.cfgs (Cert.KernelIdeal.Hand.dats m (Cert.KernelIdeal.Val.chk m)) 0 (Cert.KernelIdeal.Gen.V0 m) [Cert.KernelIdeal.Gen.hostOps1]) r ∧ r.2.sem = fun _ => 0) :=
  Cert.KernelIdeal.Hand.run_main (F := Ideal) m ρ (Cert.KernelIdeal.Val.chk m)

/-- The kernel's frame. -/
theorem frame_kernel : @Cert.quiescent_KernelIdeal Cert.KernelIdeal.Gen.facts := by
  intro m ρ _
  have h := run_kernel m ρ
  have h1 := Cert.KernelIdeal.Gen.frame_of m ρ (Cert.KernelIdeal.Hand.dats m (Cert.KernelIdeal.Val.chk m)) (fun _ _ => rfl)
    (θ_run_mono h fun _ x => x.1)
  exact θ_run_mono (θ_run_and h1 h) fun r x => ⟨x.1, x.2.2⟩

/-- The reference has no counters. -/
theorem ref_no_sems : Cert.ReferenceIdeal.sig.nSem + Cert.ReferenceIdeal.sig.nDmaSem = 0 := by decide

/-- The reference's frame. -/
theorem frame_reference : @Cert.quiescent_ReferenceIdeal Cert.ReferenceIdeal.Gen.facts := by
  intro m ρ _
  refine θ_run_mono (Cert.ReferenceIdeal.Hand.run_ref (F := Ideal) m ρ) fun r x => ⟨fun c => ?_, sem_eq_zero_of_no_sems ref_no_sems r.2⟩
  refine ⟨?_, ?_, ?_, ?_, ?_, ?_, ?_, ?_, ?_, ?_, ?_, ?_⟩
  · exact (x c _).trans (Cert.ReferenceIdeal.Hand.fin_arg (by decide) (by decide) (by decide) (by decide) (by decide) (by decide) (by decide) (by decide) _)
  · exact (x c _).trans (Cert.ReferenceIdeal.Hand.fin_arg (by decide) (by decide) (by decide) (by decide) (by decide) (by decide) (by decide) (by decide) _)
  · exact (x c _).trans (Cert.ReferenceIdeal.Hand.fin_arg (by decide) (by decide) (by decide) (by decide) (by decide) (by decide) (by decide) (by decide) _)
  · exact (x c _).trans (Cert.ReferenceIdeal.Hand.fin_arg (by decide) (by decide) (by decide) (by decide) (by decide) (by decide) (by decide) (by decide) _)
  · exact (x c _).trans (Cert.ReferenceIdeal.Hand.fin_arg (by decide) (by decide) (by decide) (by decide) (by decide) (by decide) (by decide) (by decide) _)
  · exact (x c _).trans (Cert.ReferenceIdeal.Hand.fin_arg (by decide) (by decide) (by decide) (by decide) (by decide) (by decide) (by decide) (by decide) _)
  · exact (x c _).trans (Cert.ReferenceIdeal.Hand.fin_arg (by decide) (by decide) (by decide) (by decide) (by decide) (by decide) (by decide) (by decide) _)
  · exact (x c _).trans (Cert.ReferenceIdeal.Hand.fin_arg (by decide) (by decide) (by decide) (by decide) (by decide) (by decide) (by decide) (by decide) _)
  · exact (x c _).trans (Cert.ReferenceIdeal.Hand.fin_arg (by decide) (by decide) (by decide) (by decide) (by decide) (by decide) (by decide) (by decide) _)
  · exact (x c _).trans (Cert.ReferenceIdeal.Hand.fin_arg (by decide) (by decide) (by decide) (by decide) (by decide) (by decide) (by decide) (by decide) _)
  · exact (x c _).trans (Cert.ReferenceIdeal.Hand.fin_arg (by decide) (by decide) (by decide) (by decide) (by decide) (by decide) (by decide) (by decide) _)
  · exact (x c _).trans (Cert.ReferenceIdeal.Hand.fin_arg (by decide) (by decide) (by decide) (by decide) (by decide) (by decide) (by decide) (by decide) _)

end Cert.Proof

end
-- ==== Proof.KTail.lean ====
/-
  What the kernel's result buffers hold after the whole program, as the step's mathematics.
-/
module

public import proofs.«01_k».proof.Proof.KOut
public import proofs.«01_k».proof.Proof.Frames
public import Idealize.ShloMosaic.Lib.StableHlo.RunRead

@[expose] public section

noncomputable section

namespace Cert.KernelIdeal.Val

open Cert.KernelIdeal Cert.KernelIdeal.Gen Cert.KernelIdeal.Hand
open Idealize.ShloMosaic Idealize.ShloMosaic.TcCoe Idealize.ShloMosaic.Pointwise
open Cert.Val (Args)

variable (m : (ℓ : Loc nD τ sig) → Buf (Elt Ideal) ℓ) (c : Dev nD)

local notation "ix1" => Idealize.ShloMosaic.ix1
local notation "ix2" => Idealize.ShloMosaic.ix2
local notation "ix3" => Idealize.ShloMosaic.ix3

open Idealize.ShloMosaic.Pipeline Idealize.ShloMosaic.StableHlo

variable (hc : ∀ c, ChkV m c)

/-- The arrays before the last host operations. -/
def WT : Valuation τ sig (Elt Ideal) := withArrays cfg0.spec c (V0 m c) fun w => (dats m hc 0 c).arrAt w cfg0.N

theorem arr_inj : Function.Injective (arrRef cfg0.spec) := by exact (by decide : Function.Injective (arrRef spec0))

theorem WT_v14_0 : WT m c hc (Proc.devRef .tc main_v14_0) = G12 m c :=
  (withArrays_arr cfg0.spec arr_inj c (V0 m c) (fun w => (dats m hc 0 c).arrAt w cfg0.N) 12).trans (arr_12 m c hc)
theorem WT_v14_1 : WT m c hc (Proc.devRef .tc main_v14_1) = G13 m c :=
  (withArrays_arr cfg0.spec arr_inj c (V0 m c) (fun w => (dats m hc 0 c).arrAt w cfg0.N) 13).trans (arr_13 m c hc)
theorem WT_v14_2 : WT m c hc (Proc.devRef .tc main_v14_2) = G14 m c :=
  (withArrays_arr cfg0.spec arr_inj c (V0 m c) (fun w => (dats m hc 0 c).arrAt w cfg0.N) 14).trans (arr_14 m c hc)
theorem WT_v14_6 (s : Fin 16384) (hs : selV m c (hc c) = BitVec.ofNat 32 s.val) : WT m c hc (Proc.devRef .tc main_v14_6) = G18 m c s :=
  (withArrays_arr cfg0.spec arr_inj c (V0 m c) (fun w => (dats m hc 0 c).arrAt w cfg0.N) 18).trans (arr_18 m c hc s hs)

theorem tail_v15 (W : Valuation τ sig (Elt Ideal)) : StableHlo.after hostOps1 W (Proc.devRef .tc main_v15) =
    transpose S1024x64 [1, 0] (W (Proc.devRef .tc main_v14_2) : Vec Ideal S64x1024 .f32) transposes_S64x1024_S1024x64_1_0 := by
  after_reads_simp
theorem tail_v16 (W : Valuation τ sig (Elt Ideal)) : StableHlo.after hostOps1 W (Proc.devRef .tc main_v16) =
    transpose S16384x64 [1, 0] (W (Proc.devRef .tc main_v14_6) : Vec Ideal S64x16384 .f32) transposes_S64x16384_S16384x64_1_0 := by
  after_reads_simp
theorem tail_v17 (W : Valuation τ sig (Elt Ideal)) : StableHlo.after hostOps1 W (Proc.devRef .tc main_v17) =
    transpose S1024x64 [1, 0] (W (Proc.devRef .tc main_v14_0) : Vec Ideal S64x1024 .f32) transposes_S64x1024_S1024x64_1_0 := by
  after_reads_simp
theorem tail_v18 (W : Valuation τ sig (Elt Ideal)) : StableHlo.after hostOps1 W (Proc.devRef .tc main_v18) =
    transpose S1024x64 [1, 0] (W (Proc.devRef .tc main_v14_1) : Vec Ideal S64x1024 .f32) transposes_S64x1024_S1024x64_1_0 := by
  after_reads_simp

/-- A transposed array, entry by entry. -/
theorem tr_at (x : Vec Ideal S64x1024 .f32) (b : Fin 1024) (u : Fin 64) :
    transpose S1024x64 [1, 0] x transposes_S64x1024_S1024x64_1_0 (ix2 b u) = x (ix2 u b) := by
  pointwise
theorem tr_at' (x : Vec Ideal S64x16384 .f32) (k : Fin 16384) (u : Fin 64) :
    transpose S16384x64 [1, 0] x transposes_S64x16384_S16384x64_1_0 (ix2 k u) = x (ix2 u k) := by
  pointwise

/-- The kernel's results: what each result buffer holds when the program ends. -/
structure Results (r : PUnit × MemSt nD τ sig (Elt Ideal)) (s : Fin 16384) : Prop where
  read : ∀ (b : Fin 1024) (u : Fin 64), (r.2.mem ((c.tc : Thread nD τ).loc main_v15) : Vec Ideal S1024x64 .f32) (ix2 b u) = Cert.Val.rd (args m c) b u
  memory : ∀ (k : Fin 16384) (u : Fin 64), (r.2.mem ((c.tc : Thread nD τ).loc main_v16) : Vec Ideal S16384x64 .f32) (ix2 k u) = Cert.Val.mem (args m c) s k u
  key : ∀ (b : Fin 1024) (u : Fin 64), (r.2.mem ((c.tc : Thread nD τ).loc main_v17) : Vec Ideal S1024x64 .f32) (ix2 b u) = Cert.Val.ky (args m c) b u
  cell : ∀ (b : Fin 1024) (u : Fin 64), (r.2.mem ((c.tc : Thread nD τ).loc main_v18) : Vec Ideal S1024x64 .f32) (ix2 b u) = Cert.Val.cn (args m c) b u
  rwt : ∀ (k : Fin 16384) (b : Fin 1024), (r.2.mem ((c.tc : Thread nD τ).loc main_v14_3) : Vec Ideal S16384x1024 .f32) (ix2 k b) = Cert.Val.cwr (args m c) k b
  usage : ∀ (k : Fin 16384) (b : Fin 1024), (r.2.mem ((c.tc : Thread nD τ).loc main_v14_4) : Vec Ideal S16384x1024 .f32) (ix2 k b) = Cert.Val.cwu (args m c) k b
  least : ∀ (k : Fin 16384) (b : Fin 1024), (r.2.mem ((c.tc : Thread nD τ).loc main_v14_5) : Vec Ideal S16384x1024 .f32) (ix2 k b) = Cert.Val.lwu (args m c) k b

/-- What the run leaves gives every result. -/
theorem results_of (r : PUnit × MemSt nD τ sig (Elt Ideal))
    (h : FramePost cfgs (dats m hc) 0 (afterTail₀ cfgs (dats m hc) 0 (V0 m) [hostOps1]) r) :
    ∃ s : Fin 16384, Cert.Val.IsSel (args m c) s ∧ Results m c r s := by
  obtain ⟨s, hs, hsel⟩ := selV_spec m c (hc c)
  obtain ⟨ha, hr⟩ := h c
  refine ⟨s, hsel, ?_, ?_, ?_, ?_, ?_, ?_, ?_⟩
  · intro b u
    have e : r.2.mem ((c.tc : Thread nD τ).loc main_v15) = StableHlo.after hostOps1 (WT m c hc) (Proc.devRef .tc main_v15) :=
      hr main_v15 (mem_restRefs_of main_v15 (by decide) (by decide))
    rw [e, tail_v15, WT_v14_2]
    exact tr_at _ b u
  · intro k u
    have e : r.2.mem ((c.tc : Thread nD τ).loc main_v16) = StableHlo.after hostOps1 (WT m c hc) (Proc.devRef .tc main_v16) :=
      hr main_v16 (mem_restRefs_of main_v16 (by decide) (by decide))
    rw [e, tail_v16, WT_v14_6 m c hc s hs]
    exact tr_at' _ k u
  · intro b u
    have e : r.2.mem ((c.tc : Thread nD τ).loc main_v17) = StableHlo.after hostOps1 (WT m c hc) (Proc.devRef .tc main_v17) :=
      hr main_v17 (mem_restRefs_of main_v17 (by decide) (by decide))
    rw [e, tail_v17, WT_v14_0]
    exact tr_at _ b u
  · intro b u
    have e : r.2.mem ((c.tc : Thread nD τ).loc main_v18) = StableHlo.after hostOps1 (WT m c hc) (Proc.devRef .tc main_v18) :=
      hr main_v18 (mem_restRefs_of main_v18 (by decide) (by decide))
    rw [e, tail_v18, WT_v14_1]
    exact tr_at _ b u
  · intro k b
    have e : r.2.mem ((c.tc : Thread nD τ).loc main_v14_3) = G15 m c := (ha 15).trans (arr_15 m c hc)
    rw [e]; rfl
  · intro k b
    have e : r.2.mem ((c.tc : Thread nD τ).loc main_v14_4) = G16 m c := (ha 16).trans (arr_16 m c hc)
    rw [e]; rfl
  · intro k b
    have e : r.2.mem ((c.tc : Thread nD τ).loc main_v14_5) = G17 m c := (ha 17).trans (arr_17 m c hc)
    rw [e]; rfl

end Cert.KernelIdeal.Val

end
-- ==== Proof.Soft.lean ====
/-
  The cosines are real numbers, and a softmax does not change when one real number is taken from every entry.
-/
module

public import proofs.«01_k».proof.Proof.Spec
public import Mathlib.Data.EReal.Operations
public import Mathlib.Data.EReal.Inv

@[expose] public section

noncomputable section

namespace Cert.Val

open Idealize.ShloMosaic

/-- A square is not negative. -/
theorem sq_nonneg' (x : EReal) : 0 ≤ x * x := by
  induction x using EReal.rec with
  | bot => simp
  | top => simp
  | coe r => rw [← EReal.coe_mul]; exact_mod_cast mul_self_nonneg r

/-- The square of a number that is not real is infinite. -/
theorem real_of_sq (x : EReal) (h : x * x ≠ ⊤) : ∃ r : ℝ, x = r := by
  induction x using EReal.rec with
  | bot => simp at h
  | top => simp at h
  | coe r => exact ⟨r, rfl⟩

/-- The small bound below which a length is not divided by is a positive real number. -/
theorem eps_pos : ∃ e : ℝ, 0 < e ∧ Ideal.ofBits FTy.f32 730643660#32 = e := by
  refine ⟨_, ?_, by simp [Ideal.ofBits, Ideal.ieee]; rfl⟩
  positivity

/-- An entry of a row scaled to unit length is a real number. -/
theorem unit_real (v : Fin 64 → EReal) (u : Fin 64) : ∃ r : ℝ, unit v u = r := by
  unfold unit
  obtain ⟨e, he, hee⟩ := eps_pos
  rw [hee]
  generalize hS : ∑ k, v k * v k = S
  have hS0 : v u * v u ≤ S := hS ▸ Finset.single_le_sum (f := fun k => v k * v k) (fun k _ => sq_nonneg' (v k)) (Finset.mem_univ u)
  by_cases hT : S = ⊤
  · refine ⟨0, ?_⟩
    rw [hT, max_eq_left le_top, Ideal.sqrt_top, Ideal.div, if_neg (by simp)]
    simp
  · obtain ⟨x, hx⟩ := real_of_sq (v u) (fun h => hT (top_le_iff.1 (h ▸ hS0)))
    have hb : S ≠ ⊥ := fun h => by
      have := (sq_nonneg' (v u)).trans hS0
      rw [h] at this
      exact absurd this (by simp)
    lift S to ℝ using ⟨hT, hb⟩
    have hm : max (S : EReal) (e : EReal) = ((max S e : ℝ) : EReal) := (EReal.coe_strictMono.monotone.map_max (a := S) (b := e)).symm
    have hp : 0 < max S e := lt_max_of_lt_right he
    rw [hm, hx, Ideal.sqrt_coe, if_neg (not_lt.2 hp.le), Ideal.div_coe (Real.sqrt_pos.2 hp).ne', ← EReal.coe_mul]
    exact ⟨_, rfl⟩

/-- A finite sum of real numbers is a real number. -/
theorem sum_real {ι : Type} (s : Finset ι) (f : ι → EReal) (g : ι → ℝ) (h : ∀ i, f i = g i) : ∑ i ∈ s, f i = ((∑ i ∈ s, g i : ℝ) : EReal) := by
  rw [Finset.sum_congr rfl fun i _ => h i]
  induction s using Finset.cons_induction with
  | empty => simp
  | cons a s ha ih => rw [Finset.sum_cons, Finset.sum_cons, ih, EReal.coe_add]

/-- A cosine is a real number. -/
theorem cosv_real (a : Args) (m : Fin 16384) (l : Fin 1024) : ∃ r : ℝ, cosv a m l = r := by
  choose f hf using fun k => unit_real (ky a l) k
  choose g hg using fun k => unit_real (a.M m) k
  exact ⟨_, sum_real _ _ (fun k => f k * g k) fun k => by rw [hf, hg, EReal.coe_mul]⟩

/-- A softmax of real entries, all moved by one real number, is the softmax of the entries. -/
theorem softmax_shift (x : Fin 1024 → EReal) (hx : ∀ l, ∃ r : ℝ, x l = r) (M : EReal) (hM : ∃ r : ℝ, M = r) (l : Fin 1024) :
    Ideal.div (Ideal.exp (x l - M)) (∑ k, Ideal.exp (x k - M)) = Ideal.div (Ideal.exp (x l)) (∑ k, Ideal.exp (x k)) := by
  choose y hy using hx
  obtain ⟨M', rfl⟩ := hM
  have e1 : ∀ k, Ideal.exp (x k - M') = (Real.exp (y k - M') : ℝ) := fun k => by rw [hy, ← EReal.coe_sub, Ideal.exp_coe]
  have e2 : ∀ k, Ideal.exp (x k) = (Real.exp (y k) : ℝ) := fun k => by rw [hy, Ideal.exp_coe]
  rw [sum_real _ _ _ e1, sum_real _ _ _ e2, e1, e2]
  have p : 0 < ∑ k : Fin 1024, Real.exp (y k) := Finset.sum_pos (fun k _ => Real.exp_pos _) ⟨0, Finset.mem_univ _⟩
  have p' : 0 < ∑ k : Fin 1024, Real.exp (y k - M') := Finset.sum_pos (fun k _ => Real.exp_pos _) ⟨0, Finset.mem_univ _⟩
  rw [Ideal.div_coe p.ne', Ideal.div_coe p'.ne', ← EReal.coe_mul, ← EReal.coe_mul]
  refine congrArg _ ?_
  have q : ∑ k : Fin 1024, Real.exp (y k - M') = (∑ k : Fin 1024, Real.exp (y k)) * (Real.exp M')⁻¹ := by
    rw [Finset.sum_mul]
    exact Finset.sum_congr rfl fun k _ => by rw [Real.exp_sub, div_eq_mul_inv]
  rw [q, Real.exp_sub]
  have := (Real.exp_pos M').ne'
  have := p.ne'
  field_simp

/-- The largest of finitely many real numbers is one of them. -/
theorem fold_max_real (x : Fin 1024 → EReal) (hx : ∀ l, ∃ r : ℝ, x l = r) : ∃ r : ℝ, Finset.fold max (⊥ : EReal) x Finset.univ = r := by
  have h : Finset.fold max (⊥ : EReal) x Finset.univ = Finset.univ.sup x := rfl
  obtain ⟨k, -, hk⟩ := Finset.exists_mem_eq_sup (Finset.univ : Finset (Fin 1024)) ⟨0, Finset.mem_univ _⟩ x
  rw [h, hk]
  exact hx k

end Cert.Val

end
-- ==== Proof.RVal.lean ====
/-
  What the reference computes up to the usage weights and the read vector, as the step's mathematics.
-/
module

public import proofs.«01_k».proof.Proof.RefRead
public import proofs.«01_k».proof.Proof.Soft
public import Idealize.ShloMosaic.Lib.Pointwise

@[expose] public section

noncomputable section

namespace Cert.ReferenceIdeal.Val

open Cert.ReferenceIdeal Cert.ReferenceIdeal.Gen Cert.ReferenceIdeal.Hand
open Idealize.ShloMosaic Idealize.ShloMosaic.TcCoe Idealize.ShloMosaic.Pointwise Idealize.ShloMosaic.StableHlo
open Cert.Val (Args)

variable (V : Valuation τ sig (Elt Ideal))

/-- The arguments in a valuation. -/
def args : Args where
  x i j := V (Proc.devRef .tc main_arg0) (ix2 i j)
  r i j := V (Proc.devRef .tc main_arg1) (ix2 i j)
  M i j := V (Proc.devRef .tc main_arg2) (ix2 i j)
  u i j := V (Proc.devRef .tc main_arg3) (ix2 i j)
  wl i j := V (Proc.devRef .tc main_arg4) (ix2 i j)
  wr i j := V (Proc.devRef .tc main_arg5) (ix2 i j)
  h i j := V (Proc.devRef .tc main_arg6) (ix2 i j)
  cc i j := V (Proc.devRef .tc main_arg7) (ix2 i j)
  g := V (Proc.devRef .tc main_arg8) (ix1 0)
  Wk i j := V (Proc.devRef .tc main_arg9) (ix2 i j)
  Uk i j := V (Proc.devRef .tc main_arg10) (ix2 i j)
  bi j := V (Proc.devRef .tc main_arg11) (ix1 j)

/-! ## Stage A: the cell -/

theorem v6_at (b : Fin 1024) (j : Fin 256) : A_v6 V (ix2 b j) = Cert.Val.pre (args V) b j := by
  pointwise [A_v6, A_v5, A_v4, A_v3, A_v2, A_v1, A_v0]
  rfl

theorem v26_at (b : Fin 1024) (u : Fin 64) : A_v26 V (ix2 b u) = Cert.Val.cn (args V) b u := by
  pointwise [A_v26, A_v25, A_v24, A_v23, A_v22, A_v21, A_cst_2, A_v20, A_v19, A_cst_1, A_v18, A_v17, A_v16, A_v15, A_cst_0, A_v14, A_v13, A_cst, A_v12, A_v11, A_v9, A_v8, A_v7]
  simp only [v6_at]
  rfl

theorem v34_at (b : Fin 1024) (u : Fin 64) : A_v34 V (ix2 b u) = Cert.Val.ky (args V) b u := by
  pointwise [A_v34, A_v33, A_v32, A_v31, A_cst_4, A_v30, A_v29, A_cst_3, A_v28, A_v27, A_v10]
  simp only [v6_at, v26_at]
  rfl

/-! ## Stage B: the write weights -/

theorem v49_at (m : Fin 16384) (l : Fin 1024) : B_v49 (WB V) (ix2 m l) = Cert.Val.ww (args V) m l := by
  have h : ∀ W : Valuation τ sig (Elt Ideal), B_v49 W (ix2 m l) =
      (Cert.Val.sg (W (Proc.devRef .tc main_arg8) (ix1 0)) * W (Proc.devRef .tc main_arg5) (ix2 m l) +
        (1 - Cert.Val.sg (W (Proc.devRef .tc main_arg8) (ix1 0))) + W (Proc.devRef .tc main_arg4) (ix2 m l) : EReal) := by
    intro W
    pointwise [B_v49, B_v48, B_v47, B_v46, B_v45, B_v44, B_v43, B_v42, B_v41, B_v40, B_v39, B_v38, B_v37, B_v36, B_v35, B_cst_5, B_cst_6, B_cst_7]
    rfl
  rw [h, keepSA (r := main_arg8) (by decide), keepSA (r := main_arg5) (by decide), keepSA (r := main_arg4) (by decide)]
  rfl

/-! ## Stage C: the read weights -/

theorem WC_v34 : WC V (Proc.devRef .tc main_v34) = A_v34 V := by
  rw [keepSB (by decide)]
  exact read_v34 V
theorem WC_arg2 : WC V (Proc.devRef .tc main_arg2) = V (Proc.devRef .tc main_arg2) := by
  rw [keepSB (by decide), keepSA (by decide)]

theorem v57_at (b : Fin 1024) (u : Fin 64) : C_v57 (WC V) (ix2 b u) = Cert.Val.unit (Cert.Val.ky (args V) b) u := by
  have h : ∀ W : Valuation τ sig (Elt Ideal), C_v57 W (ix2 b u) = Cert.Val.unit (fun k => W (Proc.devRef .tc main_v34) (ix2 b k)) u := by
    intro W
    pointwise [C_v57, C_v56, C_v55, C_v54, C_v53, C_cst_9, C_v52, C_v51, C_cst_8, C_v50]
    rfl
  rw [h, WC_v34]
  exact congrArg (fun v => Cert.Val.unit v u) (funext fun k => v34_at V b k)

theorem v65_at (m : Fin 16384) (u : Fin 64) : C_v65 (WC V) (ix2 m u) = Cert.Val.unit ((args V).M m) u := by
  have h : ∀ W : Valuation τ sig (Elt Ideal), C_v65 W (ix2 m u) = Cert.Val.unit (fun k => W (Proc.devRef .tc main_arg2) (ix2 m k)) u := by
    intro W
    pointwise [C_v65, C_v64, C_v63, C_v62, C_v61, C_cst_11, C_v60, C_v59, C_cst_10, C_v58]
    rfl
  rw [h, WC_arg2]
  rfl

theorem v68_at (m : Fin 16384) (l : Fin 1024) : C_v68 (WC V) (ix2 m l) = Cert.Val.cosv (args V) m l := by
  have h : ∀ W : Valuation τ sig (Elt Ideal), C_v68 W (ix2 m l) = ∑ k : Fin 64, C_v57 W (ix2 l k) * C_v65 W (ix2 m k) := by
    intro W
    pointwise [C_v68, C_v67, C_v66]
  rw [h]
  simp only [v57_at, v65_at]
  rfl

theorem v69_at (W : Valuation τ sig (Elt Ideal)) (m : Fin 16384) :
    C_v69 W (ix1 m) = Finset.fold max (C_cst_12 W (Shape.Idx.first Gen.h_S_)) (fun k => C_v68 W (ix2 m k)) Finset.univ := by
  pointwise [C_v69]

theorem cst_12_at (W : Valuation τ sig (Elt Ideal)) : C_cst_12 W (Shape.Idx.first Gen.h_S_) = (⊥ : EReal) := by
  have hb : Ideal.ofBits FTy.f32 4286578688#32 = ⊥ := by simp [Ideal.ofBits, Ideal.ieee]
  exact Eq.trans (by unfold C_cst_12; rfl) hb

theorem v70_at (W : Valuation τ sig (Elt Ideal)) (m : Fin 16384) : C_v70 W (ix1 m) = (⊥ : EReal) := by
  have hb : Ideal.ofBits FTy.f32 4286578688#32 = ⊥ := by simp [Ideal.ofBits, Ideal.ieee]
  exact Eq.trans (by pointwise [C_v70, C_cst_13]) hb

theorem maxf_at {s : Shape} (x y : FVec Ideal s .f32) (i : s.Idx) : maximumf x y i = max (x i : EReal) (y i) := rfl

theorem v71_eq (W : Valuation τ sig (Elt Ideal)) : C_v71 W = maximumf (F := Ideal) (s := S16384) (φ := .f32) (C_v70 W) (C_v69 W) := by
  unfold C_v71
  with_reducible rfl

theorem v71_at (W : Valuation τ sig (Elt Ideal)) (m : Fin 16384) : C_v71 W (ix1 m) = max (C_v70 W (ix1 m) : EReal) (C_v69 W (ix1 m)) := by
  rw [v71_eq]
  exact maxf_at (C_v70 W) (C_v69 W) (ix1 m)

theorem v71_real (m : Fin 16384) : ∃ r : ℝ, C_v71 (WC V) (ix1 m) = r := by
  have h : C_v71 (WC V) (ix1 m) = Finset.fold max (⊥ : EReal) (fun k => Cert.Val.cosv (args V) m k) Finset.univ := by
    rw [v71_at, v70_at, v69_at, cst_12_at, max_eq_right bot_le]
    exact Finset.fold_congr fun k _ => v68_at V m k
  rw [h]
  exact Cert.Val.fold_max_real _ fun l => Cert.Val.cosv_real _ _ _

theorem v79_at (m : Fin 16384) (l : Fin 1024) : C_v79 (WC V) (ix2 m l) = Cert.Val.cwr (args V) m l := by
  have h : C_v79 (WC V) (ix2 m l) = Ideal.div (C_v75 (WC V) (ix2 m l)) (∑ k : Fin 1024, C_v75 (WC V) (ix2 m k)) := by
    pointwise [C_v79, C_v78, C_v77, C_v76, C_cst_14]
  have h' : ∀ k : Fin 1024, C_v75 (WC V) (ix2 m k) = Ideal.exp (C_v68 (WC V) (ix2 m k) - C_v71 (WC V) (ix1 m)) := by
    intro k
    pointwise [C_v75, C_v74, C_v73, C_v72]
  rw [h]
  simp only [h', v68_at]
  exact Cert.Val.softmax_shift _ (fun k => Cert.Val.cosv_real _ _ _) _ (v71_real V m) l

/-! ## Stage D: the read vector and the usage weights -/

theorem WD_v79 : WD V (Proc.devRef .tc main_v79) = C_v79 (WC V) := read_v79 _
theorem WD_arg2 : WD V (Proc.devRef .tc main_arg2) = V (Proc.devRef .tc main_arg2) := by
  rw [keepSC (by decide) (by decide), WC_arg2]
theorem WD_arg3 : WD V (Proc.devRef .tc main_arg3) = V (Proc.devRef .tc main_arg3) := by
  rw [keepSC (by decide) (by decide), keepSB (by decide), keepSA (by decide)]
theorem WD_v49 : WD V (Proc.devRef .tc main_v49) = B_v49 (WB V) := by
  rw [keepSC (by decide) (by decide)]
  exact read_v49 _

/-- The product of a column of one array with a column of the other. -/
def dotCol (A : FVec Ideal S16384x1024 .f32) (B : FVec Ideal S16384x64 .f32) (b : Fin 1024) (u : Fin 64) : EReal := ∑ k : Fin 16384, A (ix2 k b) * B (ix2 k u)

theorem v81_at (b : Fin 1024) (u : Fin 64) : D_v81 (WD V) (ix2 b u) = Cert.Val.rd (args V) b u := by
  have h : ∀ W : Valuation τ sig (Elt Ideal), D_v81 W (ix2 b u) =
      dotCol (W (Proc.devRef .tc main_v79)) (W (Proc.devRef .tc main_arg2)) b u := by
    intro W
    pointwise [D_v81, D_v80]
    rfl
  rw [h, WD_v79, WD_arg2]
  unfold dotCol
  simp only [v79_at]
  rfl

theorem v85_at (m : Fin 16384) (l : Fin 1024) : D_v85 (WD V) (ix2 m l) = Cert.Val.cwu (args V) m l := by
  have h : ∀ W : Valuation τ sig (Elt Ideal), D_v85 W (ix2 m l) =
      (Ideal.ofBits FTy.f32 1064514355#32 * W (Proc.devRef .tc main_arg3) (ix2 m l) + W (Proc.devRef .tc main_v79) (ix2 m l) + W (Proc.devRef .tc main_v49) (ix2 m l) : EReal) := by
    intro W
    pointwise [D_v85, D_v84, D_v83, D_v82, D_cst_15]
  rw [h, WD_v79, WD_arg3, WD_v49, v79_at, v49_at]
  rfl

end Cert.ReferenceIdeal.Val

end
-- ==== Proof.Pick.lean ====
/-
  The reference's selection: the last position of a stable descending sort, and the first least element of a reduction over pairs.
-/
module

public import proofs.«01_k».proof.Proof.RVal
public import Idealize.ShloMosaic.Lib.SortFacts
public import Idealize.ShloMosaic.Lib.SortPrefix

@[expose] public section

noncomputable section

namespace Cert.Pick

open Idealize.ShloMosaic

/-! ## The stable descending sort -/

/-- Insertion puts the new element at the same place under two comparisons that agree against it. -/
theorem insert_agree {ι : Type} (R B : ι → ι → Bool) (a : ι) : ∀ l : List ι, (∀ b ∈ l, R b a = B b a) → insertBefore R a l = insertBefore B a l
  | [], _ => rfl
  | b :: l, h => by
    unfold insertBefore
    rw [h b (List.mem_cons_self ..), insert_agree R B a l fun c hc => h c (List.mem_cons_of_mem _ hc)]

/-- Two comparisons that agree on every later element against an earlier one sort a list alike. -/
theorem sort_agree {ι : Type} (R B : ι → ι → Bool) : ∀ l : List ι, l.Pairwise (fun a b => R b a = B b a) → stableSort R l = stableSort B l
  | [], _ => rfl
  | a :: l, h => by
    rw [List.pairwise_cons] at h
    unfold stableSort
    rw [sort_agree R B l h.2]
    exact insert_agree R B a _ fun b hb => h.1 b ((perm_stableSort B l).mem_iff.1 hb)

/-- The element that a stable descending sort puts last is a least one, and of the least ones the last. -/
theorem last_of_sort {n : ℕ} (key : Fin n → EReal) (R : Fin n → Fin n → Bool) (hR : ∀ k k', R k k' = decide (key k' < key k)) (j : Fin n)
    (hj : j.val + 1 = n) : (∀ p, key (sortedFrom R j) ≤ key p) ∧ ∀ p, key p = key (sortedFrom R j) → p ≤ sortedFrom R j := by
  have hB := StrictTotalBefore.of_key_then_position (fun a b : EReal => decide (b < a)) key (fun a => by simp)
    (fun a b d h1 h2 => by simp only [decide_eq_true_eq] at *; exact h2.trans h1)
    (fun a b => by simp only [decide_eq_true_eq]; rcases lt_trichotomy a b with h | h | h <;> simp [h])
  generalize hBd : (fun k k' : Fin n => decide (key k' < key k) || (decide (key k = key k') && decide (k < k'))) = B at hB
  have e : sortPositions n R = sortPositions n B := by
    unfold sortPositions
    refine sort_agree R B _ ?_
    refine (List.pairwise_lt_finRange n).imp fun {a b} h => ?_
    rw [hR, ← hBd]
    have : ¬ b < a := not_lt.2 h.le
    simp [this]
  have e' : sortedFrom R j = sortedFrom B j := by
    unfold sortedFrom
    exact List.get_of_eq e _
  have hno : ∀ p, B (sortedFrom B j) p = false := by
    intro p
    obtain ⟨i, rfl⟩ := sortedFrom_surjective B p
    by_cases hij : i = j
    · rw [hij]; exact hB.irrefl _
    · refine sortedFrom_noInversion B B (fun a b h => hB.asymm a b h) (fun _ _ h => h) hB.negTrans i j ?_
      have h1 := i.isLt
      have h2 : i.val ≠ j.val := fun h => hij (Fin.ext h)
      exact Fin.lt_def.2 (by omega)
  rw [e']
  generalize sortedFrom B j = s at hno
  simp only [← hBd, Bool.or_eq_false_iff, decide_eq_false_iff_not, Bool.and_eq_false_iff, not_lt] at hno
  refine ⟨fun p => (hno p).1, fun p hp => ?_⟩
  rcases (hno p).2 with h | h
  · exact absurd hp.symm h
  · exact h

/-- The shape of a matrix. -/
abbrev Mat (R n : ℕ) : Shape := ⟨2, ![R, n]⟩

/-- The last of all the elements of a row in descending order, with its position: a least element of the row, at the last position that holds it. -/
theorem topK_last {R n : ℕ} (x : FVec Ideal (Mat R n) .f32) (h : (Mat R n).Slices (fun _ => 0) (Mat R n)) (l : Fin R) (j : Fin n) (hj : j.val + 1 = n) :
    ∃ s : Fin n, (Host.topK (Mat R n) 1 (FloatOps.cmpfTotal .gt) x h).1 (ix2 l j) = x (ix2 l s) ∧
      (Host.topK (Mat R n) 1 (FloatOps.cmpfTotal .gt) x h).2 (ix2 l j) = BitVec.ofNat 32 s.val ∧
      (∀ p, (x (ix2 l s) : EReal) ≤ x (ix2 l p)) ∧ ∀ p, (x (ix2 l p) : EReal) = x (ix2 l s) → p ≤ s := by
  have hd : 1 < (Mat R n).rank := (by decide : 1 < 2)
  have hal : ∀ k : Fin n, Shape.Idx.along (s := Mat R n) (ix2 l j) ⟨1, hd⟩ k = ix2 l k := by
    intro k
    funext a
    unfold Shape.Idx.along
    match a with
    | 0 => rfl
    | 1 => rfl
  have hcut : (fun a => (⟨0 + ((ix2 l j : (Mat R n).Idx) (a.cast h.1.symm)).val, Nat.lt_of_lt_of_le (Nat.add_lt_add_left ((ix2 l j : (Mat R n).Idx) _).isLt _) (h.2 a)⟩ : Fin ((Mat R n).size a))) = (ix2 l j : (Mat R n).Idx) := by
    funext a
    refine Fin.ext ?_
    match a with
    | 0 => exact Nat.zero_add _
    | 1 => exact Nat.zero_add _
  let B : Fin n → Fin n → Bool := fun k k' => FloatOps.cmpfTotal (F := Ideal) (φ := .f32) .gt (x (Shape.Idx.along (s := Mat R n) (ix2 l j) ⟨1, hd⟩ k)) (x (Shape.Idx.along (s := Mat R n) (ix2 l j) ⟨1, hd⟩ k')) == 1#1
  have hBk : ∀ k k', B k k' = decide ((x (ix2 l k') : EReal) < x (ix2 l k)) := by
    intro k k'
    show (FloatOps.cmpfTotal (F := Ideal) (φ := .f32) .gt _ _ == 1#1) = _
    rw [hal k, hal k']
    show (BitVec.ofBool (decide ((x (ix2 l k') : EReal) < x (ix2 l k))) == 1#1) = _
    cases decide ((x (ix2 l k') : EReal) < x (ix2 l k)) <;> rfl
  obtain ⟨h1, h2⟩ := last_of_sort (fun k => (x (ix2 l k) : EReal)) B hBk j hj
  refine ⟨sortedFrom B j, ?_, ?_, h1, h2⟩
  · unfold Host.topK
    simp only [Host.sort2_eq_sortBy]
    unfold extractStridedSlice
    rw [hcut]
    unfold Host.sortBy
    rw [dif_pos hd]
    exact congrArg x (hal _)
  · unfold Host.topK
    simp only [Host.sort2_eq_sortBy]
    unfold extractStridedSlice
    rw [hcut]
    unfold Host.sortBy
    rw [dif_pos hd]
    rfl

/-! ## The first least element -/

/-- Pairs in order: by value, and of equal values by position. -/
def Le (p q : EReal × BitVec 32) : Prop := p.1 < q.1 ∨ (p.1 = q.1 ∧ p.2.toInt ≤ q.2.toInt)

theorem Le.refl (p : EReal × BitVec 32) : Le p p := .inr ⟨rfl, le_rfl⟩
theorem Le.trans {p q r : EReal × BitVec 32} (h : Le p q) (h' : Le q r) : Le p r := by
  rcases h with h | ⟨h, i⟩ <;> rcases h' with h' | ⟨h', i'⟩
  · exact .inl (h.trans h')
  · exact .inl (h' ▸ h)
  · exact .inl (h ▸ h')
  · exact .inr ⟨h.trans h', i.trans i'⟩

/-- A fold by a function that keeps the smaller of two pairs ends with a smallest one. -/
theorem foldl_least (f : EReal × BitVec 32 → EReal × BitVec 32 → EReal × BitVec 32) (hf : ∀ a b, (f a b = a ∨ f a b = b) ∧ Le (f a b) a ∧ Le (f a b) b) :
    ∀ (l : List (EReal × BitVec 32)) (i : EReal × BitVec 32), (l.foldl f i = i ∨ l.foldl f i ∈ l) ∧ Le (l.foldl f i) i ∧ ∀ p ∈ l, Le (l.foldl f i) p
  | [], i => ⟨.inl rfl, Le.refl i, fun p hp => absurd hp List.not_mem_nil⟩
  | b :: l, i => by
    obtain ⟨h1, h2, h3⟩ := foldl_least f hf l (f i b)
    obtain ⟨g1, g2, g3⟩ := hf i b
    rw [List.foldl_cons]
    refine ⟨?_, h2.trans g2, fun p hp => ?_⟩
    · rcases h1 with h1 | h1
      · rcases g1 with g1 | g1
        · exact .inl (h1.trans g1)
        · exact .inr (by rw [h1, g1]; exact List.mem_cons_self ..)
      · exact .inr (List.mem_cons_of_mem _ h1)
    · rcases List.mem_cons.1 hp with rfl | hp
      · exact h2.trans g3
      · exact h3 p hp

/-- The reference's reduction keeps the smaller of two pairs. -/
theorem reducer_least (a b : EReal × BitVec 32) :
    (Cert.ReferenceIdeal.reducer_argmin_f32_i32 (F := Ideal) a b = a ∨ Cert.ReferenceIdeal.reducer_argmin_f32_i32 (F := Ideal) a b = b) ∧
      Le (Cert.ReferenceIdeal.reducer_argmin_f32_i32 (F := Ideal) a b) a ∧ Le (Cert.ReferenceIdeal.reducer_argmin_f32_i32 (F := Ideal) a b) b := by
  obtain ⟨x, i⟩ := a
  obtain ⟨y, k⟩ := b
  have e : Cert.ReferenceIdeal.reducer_argmin_f32_i32 (F := Ideal) (x, i) (y, k) =
      (Scalar.select (IntOp.ori (BitVec.ofBool (decide (x < y))) (BitVec.ofBool (decide (x ≠ x)))) x y,
        Scalar.select (IntOp.ori (IntOp.ori (BitVec.ofBool (decide (x < y))) (BitVec.ofBool (decide (x ≠ x)))) (IntOp.andi (BitVec.ofBool (decide (x = y))) (BitVec.ofBool (i.slt k)))) i k) := rfl
  have hne : decide (x ≠ x) = false := by simp
  rw [e, hne]
  rcases lt_trichotomy x y with h | h | h
  · have h1 : decide (x < y) = true := decide_eq_true h
    have h2 : decide (x = y) = false := decide_eq_false h.ne
    rw [h1, h2]
    have : (Scalar.select (IntOp.ori (BitVec.ofBool true) (BitVec.ofBool false)) x y,
        Scalar.select (IntOp.ori (IntOp.ori (BitVec.ofBool true) (BitVec.ofBool false)) (IntOp.andi (BitVec.ofBool false) (BitVec.ofBool (i.slt k)))) i k) = (x, i) := by
      cases i.slt k <;> rfl
    rw [this]
    exact ⟨.inl rfl, Le.refl _, .inl h⟩
  · subst h
    have h1 : decide (x < x) = false := by simp
    have h2 : decide (x = x) = true := by simp
    rw [h1, h2]
    by_cases hs : i.slt k = true
    · rw [hs]
      have hlt : i.toInt < k.toInt := by simpa [BitVec.slt] using hs
      exact ⟨.inl rfl, Le.refl _, .inr ⟨rfl, hlt.le⟩⟩
    · rw [Bool.not_eq_true] at hs
      rw [hs]
      have hle : k.toInt ≤ i.toInt := by simpa [BitVec.slt] using hs
      exact ⟨.inr rfl, .inr ⟨rfl, hle⟩, Le.refl _⟩
  · have h1 : decide (x < y) = false := decide_eq_false h.le.not_gt
    have h2 : decide (x = y) = false := decide_eq_false h.ne'
    rw [h1, h2]
    have : (Scalar.select (IntOp.ori (BitVec.ofBool false) (BitVec.ofBool false)) x y,
        Scalar.select (IntOp.ori (IntOp.ori (BitVec.ofBool false) (BitVec.ofBool false)) (IntOp.andi (BitVec.ofBool false) (BitVec.ofBool (i.slt k)))) i k) = (y, k) := by
      cases i.slt k <;> rfl
    rw [this]
    exact ⟨.inr rfl, .inl h, Le.refl _⟩

/-- The reduction over the lanes, from the largest value and lane zero, ends with the first lane of the least value. -/
theorem argmin_first (x : FVec Ideal Cert.ReferenceIdeal.S1024 .f32) (y : IVec Cert.ReferenceIdeal.S1024 32) (hy : ∀ l : Fin 1024, y (ix1 l) = BitVec.ofNat 32 l.val)
    (ix : FVec Ideal Cert.ReferenceIdeal.S_ .f32) (iy : IVec Cert.ReferenceIdeal.S_ 32) (h : Cert.ReferenceIdeal.S1024.ReducesTo [0] Cert.ReferenceIdeal.S_)
    (hu : 0 < Cert.ReferenceIdeal.S_.numel) (hix : (ix (Shape.Idx.first hu) : EReal) = ⊤) (hiy : iy (Shape.Idx.first hu) = 0#32) (j : Cert.ReferenceIdeal.S_.Idx) :
    ∃ L : Fin 1024, (Host.argReduce Cert.ReferenceIdeal.reducer_argmin_f32_i32 x y ix iy h hu j).2 = BitVec.ofNat 32 L.val ∧
      (∀ l, (x (ix1 L) : EReal) ≤ x (ix1 l)) ∧ ∀ l, (x (ix1 l) : EReal) = x (ix1 L) → L ≤ l := by
  rw [Ideal.argReduce_eq_reduce2, Host.reduce2_eq_foldl_fiber, hix, hiy]
  have hmem : ∀ l : Fin 1024, ((x (ix1 l) : EReal), y (ix1 l)) ∈ Host.argReduceFiber x y h j := by
    intro l
    unfold Host.argReduceFiber
    refine List.mem_map.2 ⟨Cert.ReferenceIdeal.S1024.rowMajor (ix1 l), List.mem_filter.2 ⟨List.mem_finRange _, ?_⟩, ?_⟩
    · exact decide_eq_true (funext fun a => a.elim0)
    · rw [Equiv.symm_apply_apply]
  have hall : ∀ p ∈ Host.argReduceFiber x y h j, ∃ l : Fin 1024, p = ((x (ix1 l) : EReal), y (ix1 l)) := by
    intro p hp
    unfold Host.argReduceFiber at hp
    obtain ⟨n, -, rfl⟩ := List.mem_map.1 hp
    generalize Cert.ReferenceIdeal.S1024.rowMajor.symm n = i
    have e : i = ix1 (i 0 : Fin 1024) := funext fun a => by
      match a with
      | 0 => rfl
    exact ⟨i 0, by rw [e]; rfl⟩
  obtain ⟨h1, h2, h3⟩ := foldl_least (Cert.ReferenceIdeal.reducer_argmin_f32_i32 (F := Ideal)) reducer_least (Host.argReduceFiber x y h j) (⊤, 0#32)
  generalize List.foldl (Cert.ReferenceIdeal.reducer_argmin_f32_i32 (F := Ideal)) (⊤, 0#32) (Host.argReduceFiber x y h j) = p at h1 h2 h3
  have hint : ∀ l : Fin 1024, (BitVec.ofNat 32 l.val).toInt = l.val := fun l => by
    have := l.isLt
    rw [BitVec.toInt_ofNat']
    simp only [Int.bmod]; omega
  have key : ∃ L : Fin 1024, p = ((x (ix1 L) : EReal), BitVec.ofNat 32 L.val) := by
    rcases h1 with h1 | h1
    · refine ⟨0, ?_⟩
      have h0 := h3 _ (hmem 0)
      rw [h1] at h0 ⊢
      rcases h0 with h0 | ⟨h0, -⟩
      · exact absurd h0 not_top_lt
      · exact Prod.ext h0 rfl
    · obtain ⟨L, hL⟩ := hall p h1
      exact ⟨L, by rw [hL, hy]⟩
  obtain ⟨L, rfl⟩ := key
  refine ⟨L, rfl, fun l => ?_, fun l hl => ?_⟩
  · rcases h3 _ (hmem l) with q | ⟨q, -⟩
    · exact le_of_lt q
    · exact le_of_eq q
  · rcases h3 _ (hmem l) with q | ⟨-, q⟩
    · exact absurd (show (x (ix1 L) : EReal) < x (ix1 l) from q) (by rw [hl]; exact lt_irrefl _)
    · have q' : (BitVec.ofNat 32 L.val).toInt ≤ (y (ix1 l)).toInt := q
      rw [hy, hint, hint] at q'
      exact Fin.le_def.2 (by exact_mod_cast q')

end Cert.Pick

end
-- ==== Proof.RVal2.lean ====
/-
  The reference's selection, its least-used weights and its new memory, as the step's mathematics.
-/
module

public import proofs.«01_k».proof.Proof.Pick

@[expose] public section

noncomputable section

namespace Cert.ReferenceIdeal.Val

open Cert.ReferenceIdeal Cert.ReferenceIdeal.Gen Cert.ReferenceIdeal.Hand
open Idealize.ShloMosaic Idealize.ShloMosaic.TcCoe Idealize.ShloMosaic.Pointwise Idealize.ShloMosaic.StableHlo
open Cert.Val (Args)

/-! ## Stage E over any entry -/

variable (W : Valuation τ sig (Elt Ideal))

/-- The usage weights at the stage's entry. -/
def use : FVec Ideal S16384x1024 .f32 := W (Proc.devRef .tc main_v85)

theorem v86_at (l : Fin 1024) (k : Fin 16384) : E_v86 W (ix2 l k) = use W (ix2 k l) := by
  pointwise [E_v86]
  rfl
theorem v89_at (l : Fin 1024) : E_v89 W (ix1 l) = E_values W (ix2 l 16383) := by
  pointwise [E_v89, E_v88, E_v87]
theorem v97_at (l : Fin 1024) : E_v97 W (ix1 l) = E_indices W (ix2 l 16383) := by
  pointwise [E_v97, E_v96, E_v95]
theorem v94_at (l : Fin 1024) (k : Fin 16384) : E_v94 W (ix2 l k) = E_v89 W (ix1 l) := by
  pointwise [E_v94, E_v93, E_v92, E_v91]
theorem v108_at (k : Fin 16384) (l : Fin 1024) :
    E_v108 W (ix2 k l) = (FloatOps.uitofp (F := Ideal) FTy.f32 (BitVec.ofBool (decide ((use W (ix2 k l) : EReal) ≤ E_v94 W (ix2 l k)))) : EReal) := by
  pointwise [E_v108, E_v107, E_v106]
  rfl
theorem v105_at (l : Fin 1024) : E_v105 W (ix1 l) = IntOp.muli 1#32 (E_v101 W (ix1 0)) := by
  pointwise [E_v105, E_v104, E_v103, E_c_17, E_v102]

/-- In each lane, the last of the sorted usages is the lane's least, with the last row that holds it. -/
theorem lane_last (l : Fin 1024) : ∃ s : Fin 16384, E_v89 W (ix1 l) = use W (ix2 s l) ∧ E_v97 W (ix1 l) = BitVec.ofNat 32 s.val ∧
    (∀ p, (use W (ix2 s l) : EReal) ≤ use W (ix2 p l)) ∧ ∀ p, (use W (ix2 p l) : EReal) = use W (ix2 s l) → p ≤ s := by
  obtain ⟨s, h1, h2, h3, h4⟩ := Cert.Pick.topK_last (E_v86 W) sliceFits_S1024x16384_S1024x16384 l 16383 rfl
  simp only [v86_at] at h1 h3 h4
  exact ⟨s, (v89_at W l).trans h1, (v97_at W l).trans h2, h3, h4⟩

/-- The first lane of the least last usage. -/
theorem lane_first : ∃ L : Fin 1024, E_v90 W (Shape.Idx.first h_S_) = BitVec.ofNat 32 L.val ∧ (∀ l, (E_v89 W (ix1 L) : EReal) ≤ E_v89 W (ix1 l)) ∧
    ∀ l, (E_v89 W (ix1 l) : EReal) = E_v89 W (ix1 L) → L ≤ l := by
  have hT : Ideal.ofBits FTy.f32 0x7F800000#32 = ⊤ := by simp [Ideal.ofBits, Ideal.ieee]
  exact Cert.Pick.argmin_first (E_v89 W) (E_call0_v0 W) (fun l => rfl) (E_call0_cst W) (E_call0_c W) reducesTo_S1024_S_d0 h_S_ hT rfl _

/-- A lane's number is not negative, so the reference reads the picked rows at the lane itself. -/
theorem v100_at (L : Fin 1024) (h : E_v90 W (Shape.Idx.first h_S_) = BitVec.ofNat 32 L.val) : E_v100 W (Shape.Idx.first h_S_) = BitVec.ofNat 32 L.val := by
  have e : E_v100 W (Shape.Idx.first h_S_) =
      Scalar.select (IntOp.cmpi .slt (E_v90 W (Shape.Idx.first h_S_)) 0#32) (E_v99 W (Shape.Idx.first h_S_)) (E_v90 W (Shape.Idx.first h_S_)) := rfl
  rw [e, h]
  have hs : IntOp.cmpi .slt (BitVec.ofNat 32 L.val) 0#32 = 0#1 := by
    have h1 : (BitVec.ofNat 32 L.val).toInt = L.val := by
      have := L.isLt
      rw [BitVec.toInt_ofNat']
      simp only [Int.bmod]; omega
    have h2 : (BitVec.ofNat 32 L.val).slt 0#32 = false := by
      simp only [BitVec.slt, h1]
      simp
    show BitVec.ofBool ((BitVec.ofNat 32 L.val).slt 0#32) = 0#1
    rw [h2]; rfl
  rw [hs]; rfl

theorem slice_at (x : IVec S1024 32) (w : Fin 1 → Int) (L : Fin 1024) (h : w 0 = L.val) :
    Host.dynamicSlice S1 x w sliceFits_S1024_S1 (ix1 0) = x (ix1 L) := by
  unfold Host.dynamicSlice extractStridedSlice
  refine congrArg x (funext fun a => Fin.ext ?_)
  match a with
  | 0 =>
    show (min (max (w 0) 0) ((1024 - 1 : ℕ) : Int)).toNat + 0 = L.val
    rw [h]
    have := L.isLt
    omega

theorem v101_at (L : Fin 1024) (h : E_v100 W (Shape.Idx.first h_S_) = BitVec.ofNat 32 L.val) : E_v101 W (ix1 0) = E_v97 W (ix1 L) := by
  have h1 : (BitVec.ofNat 32 L.val).toInt = L.val := by
    have := L.isLt
    rw [BitVec.toInt_ofNat']
    simp only [Int.bmod]; omega
  unfold E_v101
  exact slice_at (E_v97 W) (fun _ => (E_v100 W (Shape.Idx.first h_S_)).toInt) L (by rw [h, h1])

/-! ## Stage G over any entry -/

/-- The row that the reference clears, one word per lane. -/
def picked : IVec S1024 32 := W (Proc.devRef .tc main_v105)

theorem v109_at (l : Fin 1024) (k : Fin 16384) :
    G_v109 W (ix2 l k) = (FloatOps.uitofp (F := Ideal) FTy.f32 (IntOp.cmpi .eq (picked W (ix1 l)) (BitVec.ofNat 32 k.val)) : EReal) := by
  pointwise [G_v109, G_call1_v4, G_call1_v3, G_call1_v2, G_call1_v1, G_call1_v0]
  rfl
theorem v112_at (k : Fin 16384) (l : Fin 1024) : G_v112 W (ix2 k l) = (1 - G_v109 W (ix2 l k) : EReal) := by
  pointwise [G_v112, G_v111, G_v110, G_cst_18]
theorem v114_at (k : Fin 16384) (u : Fin 64) : G_v114 W (ix2 k u) = ∑ l : Fin 1024, (G_v112 W (ix2 k l) : EReal) := by
  pointwise [G_v114, G_v113, G_cst_19]

/-- The new memory, from the write weights, the key, the cleared row and the memory. -/
def newMem (ww : FVec Ideal S16384x1024 .f32) (ky : FVec Ideal S1024x64 .f32) (g M : FVec Ideal S16384x64 .f32) (k : Fin 16384) (u : Fin 64) : EReal :=
  ∑ l : Fin 1024, ww (ix2 k l) * ky (ix2 l u) + g (ix2 k u) * M (ix2 k u)
theorem v117_at' (k : Fin 16384) (u : Fin 64) : G_v117 W (ix2 k u) =
    newMem (W (Proc.devRef .tc main_v49)) (W (Proc.devRef .tc main_v34)) (G_v114 W) (W (Proc.devRef .tc main_arg2)) k u := by
  pointwise [G_v117, G_v116, G_v115]
  rfl

theorem uitofp_bool (b : Bool) : (FloatOps.uitofp (F := Ideal) FTy.f32 (BitVec.ofBool b) : EReal) = if b = true then 1 else 0 := by
  cases b <;> simp [FloatOps.uitofp]

/-- Every lane keeps the rows other than the cleared one. -/
theorem kept (s : Fin 16384) (h : ∀ l, picked W (ix1 l) = BitVec.ofNat 32 s.val) (k : Fin 16384) (u : Fin 64) :
    G_v114 W (ix2 k u) = (if k = s then 0 else 1024 : EReal) := by
  have e : ∀ l : Fin 1024, G_v112 W (ix2 k l) = (if k = s then 0 else 1 : EReal) := by
    intro l
    have hb : IntOp.cmpi .eq (BitVec.ofNat 32 s.val) (BitVec.ofNat 32 k.val) = BitVec.ofBool (decide (k = s)) := by
      show BitVec.ofBool (BitVec.ofNat 32 s.val == BitVec.ofNat 32 k.val) = _
      refine congrArg BitVec.ofBool ?_
      rw [Bool.eq_iff_iff, beq_iff_eq, decide_eq_true_eq]
      refine ⟨fun q => Fin.ext ?_, fun q => by rw [q]⟩
      have q' := congrArg BitVec.toNat q
      have := k.isLt
      have := s.isLt
      simp only [BitVec.toNat_ofNat] at q'
      omega
    rw [v112_at, v109_at, h l, hb, uitofp_bool]
    by_cases q : k = s
    · simp only [q, decide_true, if_true]
      have : ((1 : ℝ) : EReal) - ((1 : ℝ) : EReal) = 0 := by rw [← EReal.coe_sub]; norm_num
      exact this
    · simp [q]
  rw [v114_at, Finset.sum_congr rfl fun l _ => e l]
  by_cases q : k = s
  · simp [q]
  · simp only [q, if_false, Finset.sum_const, Finset.card_univ, Fintype.card_fin]
    rw [EReal.nsmul_eq_mul, mul_one]
    norm_num

/-! ## The program's values -/

variable (V : Valuation τ sig (Elt Ideal))

theorem use_WE (k : Fin 16384) (l : Fin 1024) : use (WE V) (ix2 k l) = Cert.Val.cwu (args V) k l :=
  (congrFun (read_v85 (WD V)) (ix2 k l)).trans (v85_at V k l)

/-- The last of a lane's sorted usages is the lane's least usage. -/
theorem v89_cm (l : Fin 1024) : E_v89 (WE V) (ix1 l) = Cert.Val.cm (args V) l := by
  obtain ⟨s, h1, -, h3, -⟩ := lane_last (WE V) l
  simp only [use_WE] at h1 h3
  rw [h1]
  exact le_antisymm (Finset.le_inf fun p _ => h3 p) (Finset.inf_le (Finset.mem_univ s))

/-- The row that the reference picks is the step's cleared row. -/
theorem picked_spec : ∃ s : Fin 16384, Cert.Val.IsSel (args V) s ∧ ∀ l, E_v105 (WE V) (ix1 l) = BitVec.ofNat 32 s.val := by
  obtain ⟨L, g1, g2, g3⟩ := lane_first (WE V)
  obtain ⟨s, h1, h2, h3, h4⟩ := lane_last (WE V) L
  simp only [v89_cm] at g2 g3
  rw [v89_cm] at h1
  simp only [use_WE] at h1 h3 h4
  refine ⟨s, ⟨L, ⟨g2, g3⟩, h1.symm, fun p hp => h4 p (hp.trans h1)⟩, fun l => ?_⟩
  rw [v105_at, v101_at (WE V) L (v100_at (WE V) L g1), h2]
  refine BitVec.eq_of_toNat_eq ?_
  have := s.isLt
  simp only [IntOp.muli, BitVec.toNat_mul, BitVec.toNat_ofNat]
  omega

/-- The least-used weights. -/
theorem v108_val (k : Fin 16384) (l : Fin 1024) : E_v108 (WE V) (ix2 k l) = Cert.Val.lwu (args V) k l := by
  rw [v108_at, v94_at, v89_cm, use_WE, uitofp_bool]
  simp only [decide_eq_true_eq]
  rfl

theorem WG_v49 : WG V (Proc.devRef .tc main_v49) = B_v49 (WB V) := by
  rw [keepSE (by decide) (by decide), keepSD (by decide)]
  exact WD_v49 V
theorem WG_v34 : WG V (Proc.devRef .tc main_v34) = A_v34 V := by
  rw [keepSE (by decide) (by decide), keepSD (by decide), keepSC (by decide) (by decide)]
  exact WC_v34 V
theorem WG_arg2 : WG V (Proc.devRef .tc main_arg2) = V (Proc.devRef .tc main_arg2) := by
  rw [keepSE (by decide) (by decide), keepSD (by decide)]
  exact WD_arg2 V

/-- The new memory, with the step's row cleared. -/
theorem v117_val : ∃ s : Fin 16384, Cert.Val.IsSel (args V) s ∧ ∀ (k : Fin 16384) (u : Fin 64), G_v117 (WG V) (ix2 k u) = Cert.Val.mem (args V) s k u := by
  obtain ⟨s, hs, hp⟩ := picked_spec V
  refine ⟨s, hs, fun k u => ?_⟩
  have hk := kept (WG V) s (fun l => (congrFun (read_v105 (WE V)) (ix1 l)).trans (hp l)) k u
  rw [v117_at', WG_v49, WG_v34, WG_arg2]
  unfold newMem
  rw [hk]
  simp only [v49_at, v34_at]
  rfl

end Cert.ReferenceIdeal.Val

end
-- ==== Proof.Algebraic.lean ====
/-
  The kernel and the reference end with the same results at the extended reals.
-/
module

public import proofs.«01_k».proof.Proof.KTail
public import proofs.«01_k».proof.Proof.RVal2

@[expose] public section

noncomputable section

namespace Cert.Proof

open Idealize.ShloMosaic Idealize.ShloMosaic.Pointwise Idealize.ShloMosaic.StableHlo Idealize.SL.Sem
open Cert.Val (Args)

/-- The array of a function of two coordinates. -/
def arr2 {n k : Nat} (f : Fin n → Fin k → EReal) : Vec Ideal (⟨2, ![n, k]⟩ : Shape) .f32 := fun i => f (i 0) (i 1)

theorem arr2_eq {n k : Nat} (f : Fin n → Fin k → EReal) (x : Vec Ideal (⟨2, ![n, k]⟩ : Shape) .f32) (h : ∀ i j, x (ix2 i j) = f i j) : x = arr2 f := by
  funext i
  have e : ix2 (i 0) (i 1) = i := by
    funext a
    match a with
    | 0 => rfl
    | 1 => rfl
  exact (congrArg x e.symm).trans (h (i 0) (i 1))

theorem args_ext (a b : Args) (h0 : a.x = b.x) (h1 : a.r = b.r) (h2 : a.M = b.M) (h3 : a.u = b.u) (h4 : a.wl = b.wl) (h5 : a.wr = b.wr)
    (h6 : a.h = b.h) (h7 : a.cc = b.cc) (h8 : a.g = b.g) (h9 : a.Wk = b.Wk) (h10 : a.Uk = b.Uk) (h11 : a.bi = b.bi) : a = b := by
  cases a; cases b
  simp only at h0 h1 h2 h3 h4 h5 h6 h7 h8 h9 h10 h11
  subst h0 h1 h2 h3 h4 h5 h6 h7 h8 h9 h10 h11
  rfl

/-- A memory of the kernel's program. -/
abbrev MemK := (ℓ : Loc Cert.KernelIdeal.nD Cert.KernelIdeal.τ Cert.KernelIdeal.sig) → Buf (Elt Ideal) ℓ
/-- A memory of the reference's program. -/
abbrev MemR := (ℓ : Loc Cert.ReferenceIdeal.nD Cert.ReferenceIdeal.τ Cert.ReferenceIdeal.sig) → Buf (Elt Ideal) ℓ

/-- The row that the step clears. -/
def row (m : MemK) (c : Dev Cert.KernelIdeal.nD) : Fin 16384 :=
  (Cert.KernelIdeal.Val.selV_spec m c (Cert.KernelIdeal.Val.chk m c)).choose
theorem row_sel (m : MemK) (c : Dev Cert.KernelIdeal.nD) : Cert.Val.IsSel (Cert.KernelIdeal.Val.args m c) (row m c) :=
  (Cert.KernelIdeal.Val.selV_spec m c (Cert.KernelIdeal.Val.chk m c)).choose_spec.2

section Reference

open Cert.ReferenceIdeal Cert.ReferenceIdeal.Hand Cert.ReferenceIdeal.Val Idealize.ShloMosaic.TcCoe

variable (m' : MemR) (c : Dev nD) (a : Args) (ha : args (launchContents m' c) = a)
  (r : PUnit × MemSt nD τ sig (Elt Ideal)) (x : ∀ c b, r.2.mem ((c.tc : Thread nD τ).loc b) = WZ (launchContents m' c) (Proc.devRef .tc b))

include ha x

theorem ref_read : (r.2.mem ((c.tc : Thread nD τ).loc main_v81) : Vec Ideal S1024x64 .f32) = arr2 (Cert.Val.rd a) :=
  ((x c _).trans (fin_v81 _)).trans (arr2_eq _ _ fun i j => by rw [← ha]; exact v81_at _ i j)
theorem ref_usage : (r.2.mem ((c.tc : Thread nD τ).loc main_v85) : Vec Ideal S16384x1024 .f32) = arr2 (Cert.Val.cwu a) :=
  ((x c _).trans (fin_v85 _)).trans (arr2_eq _ _ fun i j => by rw [← ha]; exact v85_at _ i j)
theorem ref_least : (r.2.mem ((c.tc : Thread nD τ).loc main_v108) : Vec Ideal S16384x1024 .f32) = arr2 (Cert.Val.lwu a) :=
  ((x c _).trans (fin_v108 _)).trans (arr2_eq _ _ fun i j => by rw [← ha]; exact v108_val _ i j)
theorem ref_rwt : (r.2.mem ((c.tc : Thread nD τ).loc main_v79) : Vec Ideal S16384x1024 .f32) = arr2 (Cert.Val.cwr a) :=
  ((x c _).trans (fin_v79 _)).trans (arr2_eq _ _ fun i j => by rw [← ha]; exact v79_at _ i j)
theorem ref_key : (r.2.mem ((c.tc : Thread nD τ).loc main_v34) : Vec Ideal S1024x64 .f32) = arr2 (Cert.Val.ky a) :=
  ((x c _).trans (fin_v34 _)).trans (arr2_eq _ _ fun i j => by rw [← ha]; exact v34_at _ i j)
theorem ref_cell : (r.2.mem ((c.tc : Thread nD τ).loc main_v26) : Vec Ideal S1024x64 .f32) = arr2 (Cert.Val.cn a) :=
  ((x c _).trans (fin_v26 _)).trans (arr2_eq _ _ fun i j => by rw [← ha]; exact v26_at _ i j)
theorem ref_memory (s : Fin 16384) (hs : Cert.Val.IsSel a s) :
    (r.2.mem ((c.tc : Thread nD τ).loc main_v117) : Vec Ideal S16384x64 .f32) = arr2 (Cert.Val.mem a s) := by
  refine ((x c _).trans (fin_v117 _)).trans (arr2_eq _ _ fun i j => ?_)
  obtain ⟨s', h', e⟩ := v117_val (launchContents m' c)
  rw [ha] at h'
  rw [Cert.Val.isSel_unique a hs h', ← ha]
  exact e i j

omit ha in
theorem ref_arg {b : Ref sig .tc} (hA : b ∉ outsA) (hB : b ∉ outsB) (hC1 : b ∉ outsC1) (hC2 : b ∉ outsC2) (hD : b ∉ outsD)
    (hE1 : b ∉ outsE1) (hE2 : b ∉ outsE2) (hG : b ∉ outsG) : r.2.mem ((c.tc : Thread nD τ).loc b) = m' ((c.tc : Thread nD τ).loc b) :=
  (x c b).trans (fin_arg hA hB hC1 hC2 hD hE1 hE2 hG _)

end Reference

/-- The kernel and the reference, from memories that agree on the arguments, end with the same results. -/
theorem algebraic : @Cert.algebraic_KernelIdeal_ReferenceIdeal Cert.KernelIdeal.Gen.facts Cert.ReferenceIdeal.Gen.facts := by
  intro m g m' g' _ hm
  have ha : ∀ c, Cert.ReferenceIdeal.Val.args (launchContents m' c) = Cert.KernelIdeal.Val.args m c := by
    intro c
    obtain ⟨h0, h1, h2, h3, h4, h5, h6, h7, h8, h9, h10, h11⟩ := hm c
    exact args_ext _ _ (funext fun i => funext fun j => congrFun h0 (ix2 i j)) (funext fun i => funext fun j => congrFun h1 (ix2 i j))
      (funext fun i => funext fun j => congrFun h2 (ix2 i j)) (funext fun i => funext fun j => congrFun h3 (ix2 i j))
      (funext fun i => funext fun j => congrFun h4 (ix2 i j)) (funext fun i => funext fun j => congrFun h5 (ix2 i j))
      (funext fun i => funext fun j => congrFun h6 (ix2 i j)) (funext fun i => funext fun j => congrFun h7 (ix2 i j))
      (congrFun h8 (ix1 0)) (funext fun i => funext fun j => congrFun h9 (ix2 i j))
      (funext fun i => funext fun j => congrFun h10 (ix2 i j)) (funext fun j => congrFun h11 (ix1 j))
  refine ⟨fun c => arr2 (Cert.Val.rd (Cert.KernelIdeal.Val.args m c)), fun c => arr2 (Cert.Val.rd (Cert.KernelIdeal.Val.args m c)),
    fun c => arr2 (Cert.Val.mem (Cert.KernelIdeal.Val.args m c) (row m c)), fun c => arr2 (Cert.Val.cwu (Cert.KernelIdeal.Val.args m c)),
    fun c => arr2 (Cert.Val.lwu (Cert.KernelIdeal.Val.args m c)), fun c => arr2 (Cert.Val.cwr (Cert.KernelIdeal.Val.args m c)),
    fun c => arr2 (Cert.Val.ky (Cert.KernelIdeal.Val.args m c)), fun c => arr2 (Cert.Val.cn (Cert.KernelIdeal.Val.args m c)), ?_, ?_⟩
  · have h := run_kernel m g
    have h1 := Cert.KernelIdeal.Gen.frame_of m g (Cert.KernelIdeal.Hand.dats m (Cert.KernelIdeal.Val.chk m)) (fun _ _ => rfl)
      (θ_run_mono h fun _ x => x.1)
    refine θ_run_mono (θ_run_and h1 h) fun r x c => ?_
    obtain ⟨s, hs, R⟩ := Cert.KernelIdeal.Val.results_of m c (Cert.KernelIdeal.Val.chk m) r x.2.1
    have e := Cert.Val.isSel_unique _ (row_sel m c) hs
    exact ⟨arr2_eq _ _ R.read, arr2_eq _ _ R.read, arr2_eq _ _ (by rw [e]; exact R.memory), arr2_eq _ _ R.usage, arr2_eq _ _ R.least,
      arr2_eq _ _ R.rwt, arr2_eq _ _ R.key, arr2_eq _ _ R.cell, x.1 c⟩
  · refine θ_run_mono (Cert.ReferenceIdeal.Hand.run_ref (F := Ideal) m' g') fun r x c => ?_
    refine ⟨ref_read m' c _ (ha c) r x, ref_read m' c _ (ha c) r x, ref_memory m' c _ (ha c) r x _ (row_sel m c), ref_usage m' c _ (ha c) r x,
      ref_least m' c _ (ha c) r x, ref_rwt m' c _ (ha c) r x, ref_key m' c _ (ha c) r x, ref_cell m' c _ (ha c) r x, ?_⟩
    refine ⟨?_, ?_, ?_, ?_, ?_, ?_, ?_, ?_, ?_, ?_, ?_, ?_⟩ <;>
      exact ref_arg m' c r x (by decide) (by decide) (by decide) (by decide) (by decide) (by decide) (by decide) (by decide)

end Cert.Proof

end
-- ==== Proof.lean ====
/- The proof of the certificate's claims: the launch's run and the reference's run, and what each leaves in its results. -/
module

public import proofs.«01_k».proof.Defs
public import proofs.«01_k».proof.Proof.Algebraic
public import Idealize.ShloMosaic.Adequacy
public import Idealize.ShloMosaic.Init

@[expose] public section

noncomputable section

namespace Cert.Proof

open Idealize.ShloMosaic Idealize.SL.Sem

/-- The claims. -/
theorem claim : Cert.Claim := ⟨Cert.KernelIdeal.Gen.facts, Cert.ReferenceIdeal.Gen.facts, frame_kernel, frame_reference, algebraic⟩

end Cert.Proof

end
